-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DwSquare (m : (ℓ : Loc Cert.DwSquare.nD Cert.DwSquare.τ Cert.DwSquare.sig) → Buf (Elt Bits) ℓ) : Prop :=
  True

def Pre_DwSquareIdeal (m : (ℓ : Loc Cert.DwSquareIdeal.nD Cert.DwSquareIdeal.τ Cert.DwSquareIdeal.sig) → Buf (Elt Ideal) ℓ) : Prop :=
  True

def Pre_DwSquareReferenceIdeal (m : (ℓ : Loc Cert.DwSquareReferenceIdeal.nD Cert.DwSquareReferenceIdeal.τ Cert.DwSquareReferenceIdeal.sig) → Buf (Elt Ideal) ℓ) : Prop :=
  True

def Pre_DwMerge (m : (ℓ : Loc Cert.DwMerge.nD Cert.DwMerge.τ Cert.DwMerge.sig) → Buf (Elt Bits) ℓ) : Prop :=
  True

def Pre_DwMergeIdeal (m : (ℓ : Loc Cert.DwMergeIdeal.nD Cert.DwMergeIdeal.τ Cert.DwMergeIdeal.sig) → Buf (Elt Ideal) ℓ) : Prop :=
  True

def Pre_DwMergeReferenceIdeal (m : (ℓ : Loc Cert.DwMergeReferenceIdeal.nD Cert.DwMergeReferenceIdeal.τ Cert.DwMergeReferenceIdeal.sig) → Buf (Elt Ideal) ℓ) : Prop :=
  True

def Pre_DwGla (m : (ℓ : Loc Cert.DwGla.nD Cert.DwGla.τ Cert.DwGla.sig) → Buf (Elt Bits) ℓ) : Prop :=
  True

def Pre_DwGlaIdeal (m : (ℓ : Loc Cert.DwGlaIdeal.nD Cert.DwGlaIdeal.τ Cert.DwGlaIdeal.sig) → Buf (Elt Ideal) ℓ) : Prop :=
  True

def Pre_DwGlaReferenceIdeal (m : (ℓ : Loc Cert.DwGlaReferenceIdeal.nD Cert.DwGlaReferenceIdeal.τ Cert.DwGlaReferenceIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateReferenceIdeal (m : (ℓ : Loc Cert.DwGateReferenceIdeal.nD Cert.DwGateReferenceIdeal.τ Cert.DwGateReferenceIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdReferenceIdeal (m : (ℓ : Loc Cert.InFwdReferenceIdeal.nD Cert.InFwdReferenceIdeal.τ Cert.InFwdReferenceIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdReferenceIdeal (m : (ℓ : Loc Cert.InBwdReferenceIdeal.nD Cert.InBwdReferenceIdeal.τ Cert.InBwdReferenceIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdReferenceIdeal (m : (ℓ : Loc Cert.SguFwdReferenceIdeal.nD Cert.SguFwdReferenceIdeal.τ Cert.SguFwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_DwSquare [hDwSquare : Cert.DwSquare.Facts] : Prop :=
  ∀ (m : (ℓ : Loc Cert.DwSquare.nD Cert.DwSquare.τ Cert.DwSquare.sig) → Buf (Elt Bits) ℓ) (g : Dev Cert.DwSquare.nD → PrngReg), Pre_DwSquare m →
    θ_run (Cert.DwSquare.defs (F := Bits)) (onTc (τ := Cert.DwSquare.τ) (Cert.DwSquare.main (F := Bits))) ⟨m, fun _ => 0, g⟩ (fun r => (∀ c : Dev Cert.DwSquare.nD,
      r.2.mem ((c.tc : Thread Cert.DwSquare.nD Cert.DwSquare.τ).loc Cert.DwSquare.main_arg0) = m ((c.tc : Thread Cert.DwSquare.nD Cert.DwSquare.τ).loc Cert.DwSquare.main_arg0)
      ∧ r.2.mem ((c.tc : Thread Cert.DwSquare.nD Cert.DwSquare.τ).loc Cert.DwSquare.main_arg1) = m ((c.tc : Thread Cert.DwSquare.nD Cert.DwSquare.τ).loc Cert.DwSquare.main_arg1))
      ∧ r.2.sem = fun _ => 0)

def quiescent_DwSquareIdeal [hDwSquareIdeal : Cert.DwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg), Pre_DwSquareIdeal m →
    θ_run (Cert.DwSquareIdeal.defs (F := Ideal)) (onTc (τ := Cert.DwSquareIdeal.τ) (Cert.DwSquareIdeal.main (F := Ideal))) ⟨m, fun _ => 0, g⟩ (fun r => (∀ c : Dev Cert.DwSquareIdeal.nD,
      r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
      ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ r.2.sem = fun _ => 0)

def quiescent_DwSquareReferenceIdeal [hDwSquareReferenceIdeal : Cert.DwSquareReferenceIdeal.Facts] : Prop :=
  ∀ (m : (ℓ : Loc Cert.DwSquareReferenceIdeal.nD Cert.DwSquareReferenceIdeal.τ Cert.DwSquareReferenceIdeal.sig) → Buf (Elt Ideal) ℓ) (g : Dev Cert.DwSquareReferenceIdeal.nD → PrngReg), Pre_DwSquareReferenceIdeal m →
    θ_run (Cert.DwSquareReferenceIdeal.defs (F := Ideal)) (onTc (τ := Cert.DwSquareReferenceIdeal.τ) (Cert.DwSquareReferenceIdeal.main (F := Ideal))) ⟨m, fun _ => 0, g⟩ (fun r => (∀ c : Dev Cert.DwSquareReferenceIdeal.nD,
      r.2.mem ((c.tc : Thread Cert.DwSquareReferenceIdeal.nD Cert.DwSquareReferenceIdeal.τ).loc Cert.DwSquareReferenceIdeal.main_arg0) = m ((c.tc : Thread Cert.DwSquareReferenceIdeal.nD Cert.DwSquareReferenceIdeal.τ).loc Cert.DwSquareReferenceIdeal.main_arg0)
      ∧ r.2.mem ((c.tc : Thread Cert.DwSquareReferenceIdeal.nD Cert.DwSquareReferenceIdeal.τ).loc Cert.DwSquareReferenceIdeal.main_arg1) = m ((c.tc : Thread Cert.DwSquareReferenceIdeal.nD Cert.DwSquareReferenceIdeal.τ).loc Cert.DwSquareReferenceIdeal.main_arg1))
      ∧ r.2.sem = fun _ => 0)

def quiescent_DwMerge [hDwMerge : Cert.DwMerge.Facts] : Prop :=
  ∀ (m : (ℓ : Loc Cert.DwMerge.nD Cert.DwMerge.τ Cert.DwMerge.sig) → Buf (Elt Bits) ℓ) (g : Dev Cert.DwMerge.nD → PrngReg), Pre_DwMerge m →
    θ_run (Cert.DwMerge.defs (F := Bits)) (onTc (τ := Cert.DwMerge.τ) (Cert.DwMerge.main (F := Bits))) ⟨m, fun _ => 0, g⟩ (fun r => (∀ c : Dev Cert.DwMerge.nD,
      r.2.mem ((c.tc : Thread Cert.DwMerge.nD Cert.DwMerge.τ).loc Cert.DwMerge.main_arg0) = m ((c.tc : Thread Cert.DwMerge.nD Cert.DwMerge.τ).loc Cert.DwMerge.main_arg0)
      ∧ r.2.mem ((c.tc : Thread Cert.DwMerge.nD Cert.DwMerge.τ).loc Cert.DwMerge.main_arg1) = m ((c.tc : Thread Cert.DwMerge.nD Cert.DwMerge.τ).loc Cert.DwMerge.main_arg1))
      ∧ r.2.sem = fun _ => 0)

def quiescent_DwMergeIdeal [hDwMergeIdeal : Cert.DwMergeIdeal.Facts] : Prop :=
  ∀ (m : (ℓ : Loc Cert.DwMergeIdeal.nD Cert.DwMergeIdeal.τ Cert.DwMergeIdeal.sig) → Buf (Elt Ideal) ℓ) (g : Dev Cert.DwMergeIdeal.nD → PrngReg), Pre_DwMergeIdeal m →
    θ_run (Cert.DwMergeIdeal.defs (F := Ideal)) (onTc (τ := Cert.DwMergeIdeal.τ) (Cert.DwMergeIdeal.main (F := Ideal))) ⟨m, fun _ => 0, g⟩ (fun r => (∀ c : Dev Cert.DwMergeIdeal.nD,
      r.2.mem ((c.tc : Thread Cert.DwMergeIdeal.nD Cert.DwMergeIdeal.τ).loc Cert.DwMergeIdeal.main_arg0) = m ((c.tc : Thread Cert.DwMergeIdeal.nD Cert.DwMergeIdeal.τ).loc Cert.DwMergeIdeal.main_arg0)
      ∧ r.2.mem ((c.tc : Thread Cert.DwMergeIdeal.nD Cert.DwMergeIdeal.τ).loc Cert.DwMergeIdeal.main_arg1) = m ((c.tc : Thread Cert.DwMergeIdeal.nD Cert.DwMergeIdeal.τ).loc Cert.DwMergeIdeal.main_arg1))
      ∧ r.2.sem = fun _ => 0)

def quiescent_DwMergeReferenceIdeal [hDwMergeReferenceIdeal : Cert.DwMergeReferenceIdeal.Facts] : Prop :=
  ∀ (m : (ℓ : Loc Cert.DwMergeReferenceIdeal.nD Cert.DwMergeReferenceIdeal.τ Cert.DwMergeReferenceIdeal.sig) → Buf (Elt Ideal) ℓ) (g : Dev Cert.DwMergeReferenceIdeal.nD → PrngReg), Pre_DwMergeReferenceIdeal m →
    θ_run (Cert.DwMergeReferenceIdeal.defs (F := Ideal)) (onTc (τ := Cert.DwMergeReferenceIdeal.τ) (Cert.DwMergeReferenceIdeal.main (F := Ideal))) ⟨m, fun _ => 0, g⟩ (fun r => (∀ c : Dev Cert.DwMergeReferenceIdeal.nD,
      r.2.mem ((c.tc : Thread Cert.DwMergeReferenceIdeal.nD Cert.DwMergeReferenceIdeal.τ).loc Cert.DwMergeReferenceIdeal.main_arg0) = m ((c.tc : Thread Cert.DwMergeReferenceIdeal.nD Cert.DwMergeReferenceIdeal.τ).loc Cert.DwMergeReferenceIdeal.main_arg0)
      ∧ r.2.mem ((c.tc : Thread Cert.DwMergeReferenceIdeal.nD Cert.DwMergeReferenceIdeal.τ).loc Cert.DwMergeReferenceIdeal.main_arg1) = m ((c.tc : Thread Cert.DwMergeReferenceIdeal.nD Cert.DwMergeReferenceIdeal.τ).loc Cert.DwMergeReferenceIdeal.main_arg1))
      ∧ r.2.sem = fun _ => 0)

def quiescent_DwGla [hDwGla : Cert.DwGla.Facts] : Prop :=
  ∀ (m : (ℓ : Loc Cert.DwGla.nD Cert.DwGla.τ Cert.DwGla.sig) → Buf (Elt Bits) ℓ) (g : Dev Cert.DwGla.nD → PrngReg), Pre_DwGla m →
    θ_run (Cert.DwGla.defs (F := Bits)) (onTc (τ := Cert.DwGla.τ) (Cert.DwGla.main (F := Bits))) ⟨m, fun _ => 0, g⟩ (fun r => (∀ c : Dev Cert.DwGla.nD,
      r.2.mem ((c.tc : Thread Cert.DwGla.nD Cert.DwGla.τ).loc Cert.DwGla.main_arg0) = m ((c.tc : Thread Cert.DwGla.nD Cert.DwGla.τ).loc Cert.DwGla.main_arg0)
      ∧ r.2.mem ((c.tc : Thread Cert.DwGla.nD Cert.DwGla.τ).loc Cert.DwGla.main_arg1) = m ((c.tc : Thread Cert.DwGla.nD Cert.DwGla.τ).loc Cert.DwGla.main_arg1))
      ∧ r.2.sem = fun _ => 0)

def quiescent_DwGlaIdeal [hDwGlaIdeal : Cert.DwGlaIdeal.Facts] : Prop :=
  ∀ (m : (ℓ : Loc Cert.DwGlaIdeal.nD Cert.DwGlaIdeal.τ Cert.DwGlaIdeal.sig) → Buf (Elt Ideal) ℓ) (g : Dev Cert.DwGlaIdeal.nD → PrngReg), Pre_DwGlaIdeal m →
    θ_run (Cert.DwGlaIdeal.defs (F := Ideal)) (onTc (τ := Cert.DwGlaIdeal.τ) (Cert.DwGlaIdeal.main (F := Ideal))) ⟨m, fun _ => 0, g⟩ (fun r => (∀ c : Dev Cert.DwGlaIdeal.nD,
      r.2.mem ((c.tc : Thread Cert.DwGlaIdeal.nD Cert.DwGlaIdeal.τ).loc Cert.DwGlaIdeal.main_arg0) = m ((c.tc : Thread Cert.DwGlaIdeal.nD Cert.DwGlaIdeal.τ).loc Cert.DwGlaIdeal.main_arg0)
      ∧ r.2.mem ((c.tc : Thread Cert.DwGlaIdeal.nD Cert.DwGlaIdeal.τ).loc Cert.DwGlaIdeal.main_arg1) = m ((c.tc : Thread Cert.DwGlaIdeal.nD Cert.DwGlaIdeal.τ).loc Cert.DwGlaIdeal.main_arg1))
      ∧ r.2.sem = fun _ => 0)

def quiescent_DwGlaReferenceIdeal [hDwGlaReferenceIdeal : Cert.DwGlaReferenceIdeal.Facts] : Prop :=
  ∀ (m : (ℓ : Loc Cert.DwGlaReferenceIdeal.nD Cert.DwGlaReferenceIdeal.τ Cert.DwGlaReferenceIdeal.sig) → Buf (Elt Ideal) ℓ) (g : Dev Cert.DwGlaReferenceIdeal.nD → PrngReg), Pre_DwGlaReferenceIdeal m →
    θ_run (Cert.DwGlaReferenceIdeal.defs (F := Ideal)) (onTc (τ := Cert.DwGlaReferenceIdeal.τ) (Cert.DwGlaReferenceIdeal.main (F := Ideal))) ⟨m, fun _ => 0, g⟩ (fun r => (∀ c : Dev Cert.DwGlaReferenceIdeal.nD,
      r.2.mem ((c.tc : Thread Cert.DwGlaReferenceIdeal.nD Cert.DwGlaReferenceIdeal.τ).loc Cert.DwGlaReferenceIdeal.main_arg0) = m ((c.tc : Thread Cert.DwGlaReferenceIdeal.nD Cert.DwGlaReferenceIdeal.τ).loc Cert.DwGlaReferenceIdeal.main_arg0)
      ∧ r.2.mem ((c.tc : Thread Cert.DwGlaReferenceIdeal.nD Cert.DwGlaReferenceIdeal.τ).loc Cert.DwGlaReferenceIdeal.main_arg1) = m ((c.tc : Thread Cert.DwGlaReferenceIdeal.nD Cert.DwGlaReferenceIdeal.τ).loc Cert.DwGlaReferenceIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateReferenceIdeal [hDwGateReferenceIdeal : Cert.DwGateReferenceIdeal.Facts] : Prop :=
  ∀ (m : (ℓ : Loc Cert.DwGateReferenceIdeal.nD Cert.DwGateReferenceIdeal.τ Cert.DwGateReferenceIdeal.sig) → Buf (Elt Ideal) ℓ) (g : Dev Cert.DwGateReferenceIdeal.nD → PrngReg), Pre_DwGateReferenceIdeal m →
    θ_run (Cert.DwGateReferenceIdeal.defs (F := Ideal)) (onTc (τ := Cert.DwGateReferenceIdeal.τ) (Cert.DwGateReferenceIdeal.main (F := Ideal))) ⟨m, fun _ => 0, g⟩ (fun r => (∀ c : Dev Cert.DwGateReferenceIdeal.nD,
      r.2.mem ((c.tc : Thread Cert.DwGateReferenceIdeal.nD Cert.DwGateReferenceIdeal.τ).loc Cert.DwGateReferenceIdeal.main_arg0) = m ((c.tc : Thread Cert.DwGateReferenceIdeal.nD Cert.DwGateReferenceIdeal.τ).loc Cert.DwGateReferenceIdeal.main_arg0)
      ∧ r.2.mem ((c.tc : Thread Cert.DwGateReferenceIdeal.nD Cert.DwGateReferenceIdeal.τ).loc Cert.DwGateReferenceIdeal.main_arg1) = m ((c.tc : Thread Cert.DwGateReferenceIdeal.nD Cert.DwGateReferenceIdeal.τ).loc Cert.DwGateReferenceIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdReferenceIdeal [hInFwdReferenceIdeal : Cert.InFwdReferenceIdeal.Facts] : Prop :=
  ∀ (m : (ℓ : Loc Cert.InFwdReferenceIdeal.nD Cert.InFwdReferenceIdeal.τ Cert.InFwdReferenceIdeal.sig) → Buf (Elt Ideal) ℓ) (g : Dev Cert.InFwdReferenceIdeal.nD → PrngReg), Pre_InFwdReferenceIdeal m →
    θ_run (Cert.InFwdReferenceIdeal.defs (F := Ideal)) (onTc (τ := Cert.InFwdReferenceIdeal.τ) (Cert.InFwdReferenceIdeal.main (F := Ideal))) ⟨m, fun _ => 0, g⟩ (fun r => (∀ c : Dev Cert.InFwdReferenceIdeal.nD,
      r.2.mem ((c.tc : Thread Cert.InFwdReferenceIdeal.nD Cert.InFwdReferenceIdeal.τ).loc Cert.InFwdReferenceIdeal.main_arg0) = m ((c.tc : Thread Cert.InFwdReferenceIdeal.nD Cert.InFwdReferenceIdeal.τ).loc Cert.InFwdReferenceIdeal.main_arg0)
      ∧ r.2.mem ((c.tc : Thread Cert.InFwdReferenceIdeal.nD Cert.InFwdReferenceIdeal.τ).loc Cert.InFwdReferenceIdeal.main_arg1) = m ((c.tc : Thread Cert.InFwdReferenceIdeal.nD Cert.InFwdReferenceIdeal.τ).loc Cert.InFwdReferenceIdeal.main_arg1)
      ∧ r.2.mem ((c.tc : Thread Cert.InFwdReferenceIdeal.nD Cert.InFwdReferenceIdeal.τ).loc Cert.InFwdReferenceIdeal.main_arg2) = m ((c.tc : Thread Cert.InFwdReferenceIdeal.nD Cert.InFwdReferenceIdeal.τ).loc Cert.InFwdReferenceIdeal.main_arg2))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ r.2.sem = fun _ => 0)

def quiescent_InBwdReferenceIdeal [hInBwdReferenceIdeal : Cert.InBwdReferenceIdeal.Facts] : Prop :=
  ∀ (m : (ℓ : Loc Cert.InBwdReferenceIdeal.nD Cert.InBwdReferenceIdeal.τ Cert.InBwdReferenceIdeal.sig) → Buf (Elt Ideal) ℓ) (g : Dev Cert.InBwdReferenceIdeal.nD → PrngReg), Pre_InBwdReferenceIdeal m →
    θ_run (Cert.InBwdReferenceIdeal.defs (F := Ideal)) (onTc (τ := Cert.InBwdReferenceIdeal.τ) (Cert.InBwdReferenceIdeal.main (F := Ideal))) ⟨m, fun _ => 0, g⟩ (fun r => (∀ c : Dev Cert.InBwdReferenceIdeal.nD,
      r.2.mem ((c.tc : Thread Cert.InBwdReferenceIdeal.nD Cert.InBwdReferenceIdeal.τ).loc Cert.InBwdReferenceIdeal.main_arg0) = m ((c.tc : Thread Cert.InBwdReferenceIdeal.nD Cert.InBwdReferenceIdeal.τ).loc Cert.InBwdReferenceIdeal.main_arg0)
      ∧ r.2.mem ((c.tc : Thread Cert.InBwdReferenceIdeal.nD Cert.InBwdReferenceIdeal.τ).loc Cert.InBwdReferenceIdeal.main_arg1) = m ((c.tc : Thread Cert.InBwdReferenceIdeal.nD Cert.InBwdReferenceIdeal.τ).loc Cert.InBwdReferenceIdeal.main_arg1)
      ∧ r.2.mem ((c.tc : Thread Cert.InBwdReferenceIdeal.nD Cert.InBwdReferenceIdeal.τ).loc Cert.InBwdReferenceIdeal.main_arg2) = m ((c.tc : Thread Cert.InBwdReferenceIdeal.nD Cert.InBwdReferenceIdeal.τ).loc Cert.InBwdReferenceIdeal.main_arg2)
      ∧ r.2.mem ((c.tc : Thread Cert.InBwdReferenceIdeal.nD Cert.InBwdReferenceIdeal.τ).loc Cert.InBwdReferenceIdeal.main_arg3) = m ((c.tc : Thread Cert.InBwdReferenceIdeal.nD Cert.InBwdReferenceIdeal.τ).loc Cert.InBwdReferenceIdeal.main_arg3)
      ∧ r.2.mem ((c.tc : Thread Cert.InBwdReferenceIdeal.nD Cert.InBwdReferenceIdeal.τ).loc Cert.InBwdReferenceIdeal.main_arg4) = m ((c.tc : Thread Cert.InBwdReferenceIdeal.nD Cert.InBwdReferenceIdeal.τ).loc Cert.InBwdReferenceIdeal.main_arg4)
      ∧ r.2.mem ((c.tc : Thread Cert.InBwdReferenceIdeal.nD Cert.InBwdReferenceIdeal.τ).loc Cert.InBwdReferenceIdeal.main_arg5) = m ((c.tc : Thread Cert.InBwdReferenceIdeal.nD Cert.InBwdReferenceIdeal.τ).loc Cert.InBwdReferenceIdeal.main_arg5)
      ∧ r.2.mem ((c.tc : Thread Cert.InBwdReferenceIdeal.nD Cert.InBwdReferenceIdeal.τ).loc Cert.InBwdReferenceIdeal.main_arg6) = m ((c.tc : Thread Cert.InBwdReferenceIdeal.nD Cert.InBwdReferenceIdeal.τ).loc Cert.InBwdReferenceIdeal.main_arg6)
      ∧ r.2.mem ((c.tc : Thread Cert.InBwdReferenceIdeal.nD Cert.InBwdReferenceIdeal.τ).loc Cert.InBwdReferenceIdeal.main_arg7) = m ((c.tc : Thread Cert.InBwdReferenceIdeal.nD Cert.InBwdReferenceIdeal.τ).loc Cert.InBwdReferenceIdeal.main_arg7))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4)
      ∧ r.2.mem ((c.tc : Thread Cert.SguFwd.nD Cert.SguFwd.τ).loc Cert.SguFwd.main_arg5) = m ((c.tc : Thread Cert.SguFwd.nD Cert.SguFwd.τ).loc Cert.SguFwd.main_arg5)
      ∧ r.2.mem ((c.tc : Thread Cert.SguFwd.nD Cert.SguFwd.τ).loc Cert.SguFwd.main_arg6) = m ((c.tc : Thread Cert.SguFwd.nD Cert.SguFwd.τ).loc Cert.SguFwd.main_arg6)
      ∧ r.2.mem ((c.tc : Thread Cert.SguFwd.nD Cert.SguFwd.τ).loc Cert.SguFwd.main_arg7) = m ((c.tc : Thread Cert.SguFwd.nD Cert.SguFwd.τ).loc Cert.SguFwd.main_arg7)
      ∧ r.2.mem ((c.tc : Thread Cert.SguFwd.nD Cert.SguFwd.τ).loc Cert.SguFwd.main_arg8) = m ((c.tc : Thread Cert.SguFwd.nD Cert.SguFwd.τ).loc Cert.SguFwd.main_arg8)
      ∧ r.2.mem ((c.tc : Thread Cert.SguFwd.nD Cert.SguFwd.τ).loc Cert.SguFwd.main_arg9) = m ((c.tc : Thread Cert.SguFwd.nD Cert.SguFwd.τ).loc Cert.SguFwd.main_arg9)
      ∧ r.2.mem ((c.tc : Thread Cert.SguFwd.nD Cert.SguFwd.τ).loc Cert.SguFwd.main_arg10) = m ((c.tc : Thread Cert.SguFwd.nD Cert.SguFwd.τ).loc Cert.SguFwd.main_arg10))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
      ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5)
      ∧ r.2.mem ((c.tc : Thread Cert.SguFwdIdeal.nD Cert.SguFwdIdeal.τ).loc Cert.SguFwdIdeal.main_arg6) = m ((c.tc : Thread Cert.SguFwdIdeal.nD Cert.SguFwdIdeal.τ).loc Cert.SguFwdIdeal.main_arg6)
      ∧ r.2.mem ((c.tc : Thread Cert.SguFwdIdeal.nD Cert.SguFwdIdeal.τ).loc Cert.SguFwdIdeal.main_arg7) = m ((c.tc : Thread Cert.SguFwdIdeal.nD Cert.SguFwdIdeal.τ).loc Cert.SguFwdIdeal.main_arg7)
      ∧ r.2.mem ((c.tc : Thread Cert.SguFwdIdeal.nD Cert.SguFwdIdeal.τ).loc Cert.SguFwdIdeal.main_arg8) = m ((c.tc : Thread Cert.SguFwdIdeal.nD Cert.SguFwdIdeal.τ).loc Cert.SguFwdIdeal.main_arg8)
      ∧ r.2.mem ((c.tc : Thread Cert.SguFwdIdeal.nD Cert.SguFwdIdeal.τ).loc Cert.SguFwdIdeal.main_arg9) = m ((c.tc : Thread Cert.SguFwdIdeal.nD Cert.SguFwdIdeal.τ).loc Cert.SguFwdIdeal.main_arg9)
      ∧ r.2.mem ((c.tc : Thread Cert.SguFwdIdeal.nD Cert.SguFwdIdeal.τ).loc Cert.SguFwdIdeal.main_arg10) = m ((c.tc : Thread Cert.SguFwdIdeal.nD Cert.SguFwdIdeal.τ).loc Cert.SguFwdIdeal.main_arg10))
      ∧ r.2.sem = fun _ => 0)

def quiescent_SguFwdReferenceIdeal [hSguFwdReferenceIdeal : Cert.SguFwdReferenceIdeal.Facts] : Prop :=
  ∀ (m : (ℓ : Loc Cert.SguFwdReferenceIdeal.nD Cert.SguFwdReferenceIdeal.τ Cert.SguFwdReferenceIdeal.sig) → Buf (Elt Ideal) ℓ) (g : Dev Cert.SguFwdReferenceIdeal.nD → PrngReg), Pre_SguFwdReferenceIdeal m →
    θ_run (Cert.SguFwdReferenceIdeal.defs (F := Ideal)) (onTc (τ := Cert.SguFwdReferenceIdeal.τ) (Cert.SguFwdReferenceIdeal.main (F := Ideal))) ⟨m, fun _ => 0, g⟩ (fun r => (∀ c : Dev Cert.SguFwdReferenceIdeal.nD,
      r.2.mem ((c.tc : Thread Cert.SguFwdReferenceIdeal.nD Cert.SguFwdReferenceIdeal.τ).loc Cert.SguFwdReferenceIdeal.main_arg0) = m ((c.tc : Thread Cert.SguFwdReferenceIdeal.nD Cert.SguFwdReferenceIdeal.τ).loc Cert.SguFwdReferenceIdeal.main_arg0)
      ∧ r.2.mem ((c.tc : Thread Cert.SguFwdReferenceIdeal.nD Cert.SguFwdReferenceIdeal.τ).loc Cert.SguFwdReferenceIdeal.main_arg1) = m ((c.tc : Thread Cert.SguFwdReferenceIdeal.nD Cert.SguFwdReferenceIdeal.τ).loc Cert.SguFwdReferenceIdeal.main_arg1)
      ∧ r.2.mem ((c.tc : Thread Cert.SguFwdReferenceIdeal.nD Cert.SguFwdReferenceIdeal.τ).loc Cert.SguFwdReferenceIdeal.main_arg2) = m ((c.tc : Thread Cert.SguFwdReferenceIdeal.nD Cert.SguFwdReferenceIdeal.τ).loc Cert.SguFwdReferenceIdeal.main_arg2)
      ∧ r.2.mem ((c.tc : Thread Cert.SguFwdReferenceIdeal.nD Cert.SguFwdReferenceIdeal.τ).loc Cert.SguFwdReferenceIdeal.main_arg3) = m ((c.tc : Thread Cert.SguFwdReferenceIdeal.nD Cert.SguFwdReferenceIdeal.τ).loc Cert.SguFwdReferenceIdeal.main_arg3)
      ∧ r.2.mem ((c.tc : Thread Cert.SguFwdReferenceIdeal.nD Cert.SguFwdReferenceIdeal.τ).loc Cert.SguFwdReferenceIdeal.main_arg4) = m ((c.tc : Thread Cert.SguFwdReferenceIdeal.nD Cert.SguFwdReferenceIdeal.τ).loc Cert.SguFwdReferenceIdeal.main_arg4)
      ∧ r.2.mem ((c.tc : Thread Cert.SguFwdReferenceIdeal.nD Cert.SguFwdReferenceIdeal.τ).loc Cert.SguFwdReferenceIdeal.main_arg5) = m ((c.tc : Thread Cert.SguFwdReferenceIdeal.nD Cert.SguFwdReferenceIdeal.τ).loc Cert.SguFwdReferenceIdeal.main_arg5)
      ∧ r.2.mem ((c.tc : Thread Cert.SguFwdReferenceIdeal.nD Cert.SguFwdReferenceIdeal.τ).loc Cert.SguFwdReferenceIdeal.main_arg6) = m ((c.tc : Thread Cert.SguFwdReferenceIdeal.nD Cert.SguFwdReferenceIdeal.τ).loc Cert.SguFwdReferenceIdeal.main_arg6)
      ∧ r.2.mem ((c.tc : Thread Cert.SguFwdReferenceIdeal.nD Cert.SguFwdReferenceIdeal.τ).loc Cert.SguFwdReferenceIdeal.main_arg7) = m ((c.tc : Thread Cert.SguFwdReferenceIdeal.nD Cert.SguFwdReferenceIdeal.τ).loc Cert.SguFwdReferenceIdeal.main_arg7)
      ∧ r.2.mem ((c.tc : Thread Cert.SguFwdReferenceIdeal.nD Cert.SguFwdReferenceIdeal.τ).loc Cert.SguFwdReferenceIdeal.main_arg8) = m ((c.tc : Thread Cert.SguFwdReferenceIdeal.nD Cert.SguFwdReferenceIdeal.τ).loc Cert.SguFwdReferenceIdeal.main_arg8)
      ∧ r.2.mem ((c.tc : Thread Cert.SguFwdReferenceIdeal.nD Cert.SguFwdReferenceIdeal.τ).loc Cert.SguFwdReferenceIdeal.main_arg9) = m ((c.tc : Thread Cert.SguFwdReferenceIdeal.nD Cert.SguFwdReferenceIdeal.τ).loc Cert.SguFwdReferenceIdeal.main_arg9)
      ∧ r.2.mem ((c.tc : Thread Cert.SguFwdReferenceIdeal.nD Cert.SguFwdReferenceIdeal.τ).loc Cert.SguFwdReferenceIdeal.main_arg10) = m ((c.tc : Thread Cert.SguFwdReferenceIdeal.nD Cert.SguFwdReferenceIdeal.τ).loc Cert.SguFwdReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)) (v6 : (c : Dev Cert.KernelIdeal.nD) → Buf (Elt Ideal) ((c.tc : Thread Cert.KernelIdeal.nD Cert.KernelIdeal.τ).loc Cert.KernelIdeal.main_v9_6)) (v7 : (c : Dev Cert.KernelIdeal.nD) → Buf (Elt Ideal) ((c.tc : Thread Cert.KernelIdeal.nD Cert.KernelIdeal.τ).loc Cert.KernelIdeal.main_v9_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_v9_6) = v6 c
          ∧ r.2.mem ((c.tc : Thread Cert.KernelIdeal.nD Cert.KernelIdeal.τ).loc Cert.KernelIdeal.main_v9_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_v105) = v5 c
          ∧ r.2.mem ((c.tc : Thread Cert.ReferenceIdeal.nD Cert.ReferenceIdeal.τ).loc Cert.ReferenceIdeal.main_v83) = v6 c
          ∧ r.2.mem ((c.tc : Thread Cert.ReferenceIdeal.nD Cert.ReferenceIdeal.τ).loc Cert.ReferenceIdeal.main_v58) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v5) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v5) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_DwSquare_DwSquareIdeal : Prop :=
  True

def algebraic_DwSquareIdeal_DwSquareReferenceIdeal [hDwSquareIdeal : Cert.DwSquareIdeal.Facts] [hDwSquareReferenceIdeal : Cert.DwSquareReferenceIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg)
    (m' : (ℓ : Loc Cert.DwSquareReferenceIdeal.nD Cert.DwSquareReferenceIdeal.τ Cert.DwSquareReferenceIdeal.sig) → Buf (Elt Ideal) ℓ) (g' : Dev Cert.DwSquareReferenceIdeal.nD → PrngReg), Pre_DwSquareIdeal m →
    (∀ c : Dev Cert.DwSquareIdeal.nD,
      m' ((c.tc : Thread Cert.DwSquareReferenceIdeal.nD Cert.DwSquareReferenceIdeal.τ).loc Cert.DwSquareReferenceIdeal.main_arg0) = m ((c.tc : Thread Cert.DwSquareIdeal.nD Cert.DwSquareIdeal.τ).loc Cert.DwSquareIdeal.main_arg0)
      ∧ m' ((c.tc : Thread Cert.DwSquareReferenceIdeal.nD Cert.DwSquareReferenceIdeal.τ).loc Cert.DwSquareReferenceIdeal.main_arg1) = m ((c.tc : Thread Cert.DwSquareIdeal.nD Cert.DwSquareIdeal.τ).loc Cert.DwSquareIdeal.main_arg1)) →
    ∃ (v0 : (c : Dev Cert.DwSquareIdeal.nD) → Buf (Elt Ideal) ((c.tc : Thread Cert.DwSquareIdeal.nD Cert.DwSquareIdeal.τ).loc Cert.DwSquareIdeal.main_v0)),
      θ_run (Cert.DwSquareIdeal.defs (F := Ideal)) (onTc (τ := Cert.DwSquareIdeal.τ) (Cert.DwSquareIdeal.main (F := Ideal))) ⟨m, fun _ => 0, g⟩ (fun r => ∀ c : Dev Cert.DwSquareIdeal.nD,
          r.2.mem ((c.tc : Thread Cert.DwSquareIdeal.nD Cert.DwSquareIdeal.τ).loc Cert.DwSquareIdeal.main_v0) = v0 c
          ∧ r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
          ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ θ_run (Cert.DwSquareReferenceIdeal.defs (F := Ideal)) (onTc (τ := Cert.DwSquareReferenceIdeal.τ) (Cert.DwSquareReferenceIdeal.main (F := Ideal))) ⟨m', fun _ => 0, g'⟩ (fun r => ∀ c : Dev Cert.DwSquareReferenceIdeal.nD,
          r.2.mem ((c.tc : Thread Cert.DwSquareReferenceIdeal.nD Cert.DwSquareReferenceIdeal.τ).loc Cert.DwSquareReferenceIdeal.main_v5) = v0 c
          ∧ r.2.mem ((c.tc : Thread Cert.DwSquareReferenceIdeal.nD Cert.DwSquareReferenceIdeal.τ).loc Cert.DwSquareReferenceIdeal.main_arg0) = m' ((c.tc : Thread Cert.DwSquareReferenceIdeal.nD Cert.DwSquareReferenceIdeal.τ).loc Cert.DwSquareReferenceIdeal.main_arg0)
          ∧ r.2.mem ((c.tc : Thread Cert.DwSquareReferenceIdeal.nD Cert.DwSquareReferenceIdeal.τ).loc Cert.DwSquareReferenceIdeal.main_arg1) = m' ((c.tc : Thread Cert.DwSquareReferenceIdeal.nD Cert.DwSquareReferenceIdeal.τ).loc Cert.DwSquareReferenceIdeal.main_arg1))

def preserves_DwMerge_DwMergeIdeal : Prop :=
  True

def algebraic_DwMergeIdeal_DwMergeReferenceIdeal [hDwMergeIdeal : Cert.DwMergeIdeal.Facts] [hDwMergeReferenceIdeal : Cert.DwMergeReferenceIdeal.Facts] : Prop :=
  ∀ (m : (ℓ : Loc Cert.DwMergeIdeal.nD Cert.DwMergeIdeal.τ Cert.DwMergeIdeal.sig) → Buf (Elt Ideal) ℓ) (g : Dev Cert.DwMergeIdeal.nD → PrngReg)
    (m' : (ℓ : Loc Cert.DwMergeReferenceIdeal.nD Cert.DwMergeReferenceIdeal.τ Cert.DwMergeReferenceIdeal.sig) → Buf (Elt Ideal) ℓ) (g' : Dev Cert.DwMergeReferenceIdeal.nD → PrngReg), Pre_DwMergeIdeal m →
    (∀ c : Dev Cert.DwMergeIdeal.nD,
      m' ((c.tc : Thread Cert.DwMergeReferenceIdeal.nD Cert.DwMergeReferenceIdeal.τ).loc Cert.DwMergeReferenceIdeal.main_arg0) = m ((c.tc : Thread Cert.DwMergeIdeal.nD Cert.DwMergeIdeal.τ).loc Cert.DwMergeIdeal.main_arg0)
      ∧ m' ((c.tc : Thread Cert.DwMergeReferenceIdeal.nD Cert.DwMergeReferenceIdeal.τ).loc Cert.DwMergeReferenceIdeal.main_arg1) = m ((c.tc : Thread Cert.DwMergeIdeal.nD Cert.DwMergeIdeal.τ).loc Cert.DwMergeIdeal.main_arg1)) →
    ∃ (v0 : (c : Dev Cert.DwMergeIdeal.nD) → Buf (Elt Ideal) ((c.tc : Thread Cert.DwMergeIdeal.nD Cert.DwMergeIdeal.τ).loc Cert.DwMergeIdeal.main_v0)),
      θ_run (Cert.DwMergeIdeal.defs (F := Ideal)) (onTc (τ := Cert.DwMergeIdeal.τ) (Cert.DwMergeIdeal.main (F := Ideal))) ⟨m, fun _ => 0, g⟩ (fun r => ∀ c : Dev Cert.DwMergeIdeal.nD,
          r.2.mem ((c.tc : Thread Cert.DwMergeIdeal.nD Cert.DwMergeIdeal.τ).loc Cert.DwMergeIdeal.main_v0) = v0 c
          ∧ r.2.mem ((c.tc : Thread Cert.DwMergeIdeal.nD Cert.DwMergeIdeal.τ).loc Cert.DwMergeIdeal.main_arg0) = m ((c.tc : Thread Cert.DwMergeIdeal.nD Cert.DwMergeIdeal.τ).loc Cert.DwMergeIdeal.main_arg0)
          ∧ r.2.mem ((c.tc : Thread Cert.DwMergeIdeal.nD Cert.DwMergeIdeal.τ).loc Cert.DwMergeIdeal.main_arg1) = m ((c.tc : Thread Cert.DwMergeIdeal.nD Cert.DwMergeIdeal.τ).loc Cert.DwMergeIdeal.main_arg1))
      ∧ θ_run (Cert.DwMergeReferenceIdeal.defs (F := Ideal)) (onTc (τ := Cert.DwMergeReferenceIdeal.τ) (Cert.DwMergeReferenceIdeal.main (F := Ideal))) ⟨m', fun _ => 0, g'⟩ (fun r => ∀ c : Dev Cert.DwMergeReferenceIdeal.nD,
          r.2.mem ((c.tc : Thread Cert.DwMergeReferenceIdeal.nD Cert.DwMergeReferenceIdeal.τ).loc Cert.DwMergeReferenceIdeal.main_v5) = v0 c
          ∧ r.2.mem ((c.tc : Thread Cert.DwMergeReferenceIdeal.nD Cert.DwMergeReferenceIdeal.τ).loc Cert.DwMergeReferenceIdeal.main_arg0) = m' ((c.tc : Thread Cert.DwMergeReferenceIdeal.nD Cert.DwMergeReferenceIdeal.τ).loc Cert.DwMergeReferenceIdeal.main_arg0)
          ∧ r.2.mem ((c.tc : Thread Cert.DwMergeReferenceIdeal.nD Cert.DwMergeReferenceIdeal.τ).loc Cert.DwMergeReferenceIdeal.main_arg1) = m' ((c.tc : Thread Cert.DwMergeReferenceIdeal.nD Cert.DwMergeReferenceIdeal.τ).loc Cert.DwMergeReferenceIdeal.main_arg1))

def preserves_DwGla_DwGlaIdeal : Prop :=
  True

def algebraic_DwGlaIdeal_DwGlaReferenceIdeal [hDwGlaIdeal : Cert.DwGlaIdeal.Facts] [hDwGlaReferenceIdeal : Cert.DwGlaReferenceIdeal.Facts] : Prop :=
  ∀ (m : (ℓ : Loc Cert.DwGlaIdeal.nD Cert.DwGlaIdeal.τ Cert.DwGlaIdeal.sig) → Buf (Elt Ideal) ℓ) (g : Dev Cert.DwGlaIdeal.nD → PrngReg)
    (m' : (ℓ : Loc Cert.DwGlaReferenceIdeal.nD Cert.DwGlaReferenceIdeal.τ Cert.DwGlaReferenceIdeal.sig) → Buf (Elt Ideal) ℓ) (g' : Dev Cert.DwGlaReferenceIdeal.nD → PrngReg), Pre_DwGlaIdeal m →
    (∀ c : Dev Cert.DwGlaIdeal.nD,
      m' ((c.tc : Thread Cert.DwGlaReferenceIdeal.nD Cert.DwGlaReferenceIdeal.τ).loc Cert.DwGlaReferenceIdeal.main_arg0) = m ((c.tc : Thread Cert.DwGlaIdeal.nD Cert.DwGlaIdeal.τ).loc Cert.DwGlaIdeal.main_arg0)
      ∧ m' ((c.tc : Thread Cert.DwGlaReferenceIdeal.nD Cert.DwGlaReferenceIdeal.τ).loc Cert.DwGlaReferenceIdeal.main_arg1) = m ((c.tc : Thread Cert.DwGlaIdeal.nD Cert.DwGlaIdeal.τ).loc Cert.DwGlaIdeal.main_arg1)) →
    ∃ (v0 : (c : Dev Cert.DwGlaIdeal.nD) → Buf (Elt Ideal) ((c.tc : Thread Cert.DwGlaIdeal.nD Cert.DwGlaIdeal.τ).loc Cert.DwGlaIdeal.main_v0)),
      θ_run (Cert.DwGlaIdeal.defs (F := Ideal)) (onTc (τ := Cert.DwGlaIdeal.τ) (Cert.DwGlaIdeal.main (F := Ideal))) ⟨m, fun _ => 0, g⟩ (fun r => ∀ c : Dev Cert.DwGlaIdeal.nD,
          r.2.mem ((c.tc : Thread Cert.DwGlaIdeal.nD Cert.DwGlaIdeal.τ).loc Cert.DwGlaIdeal.main_v0) = v0 c
          ∧ r.2.mem ((c.tc : Thread Cert.DwGlaIdeal.nD Cert.DwGlaIdeal.τ).loc Cert.DwGlaIdeal.main_arg0) = m ((c.tc : Thread Cert.DwGlaIdeal.nD Cert.DwGlaIdeal.τ).loc Cert.DwGlaIdeal.main_arg0)
          ∧ r.2.mem ((c.tc : Thread Cert.DwGlaIdeal.nD Cert.DwGlaIdeal.τ).loc Cert.DwGlaIdeal.main_arg1) = m ((c.tc : Thread Cert.DwGlaIdeal.nD Cert.DwGlaIdeal.τ).loc Cert.DwGlaIdeal.main_arg1))
      ∧ θ_run (Cert.DwGlaReferenceIdeal.defs (F := Ideal)) (onTc (τ := Cert.DwGlaReferenceIdeal.τ) (Cert.DwGlaReferenceIdeal.main (F := Ideal))) ⟨m', fun _ => 0, g'⟩ (fun r => ∀ c : Dev Cert.DwGlaReferenceIdeal.nD,
          r.2.mem ((c.tc : Thread Cert.DwGlaReferenceIdeal.nD Cert.DwGlaReferenceIdeal.τ).loc Cert.DwGlaReferenceIdeal.main_v5) = v0 c
          ∧ r.2.mem ((c.tc : Thread Cert.DwGlaReferenceIdeal.nD Cert.DwGlaReferenceIdeal.τ).loc Cert.DwGlaReferenceIdeal.main_arg0) = m' ((c.tc : Thread Cert.DwGlaReferenceIdeal.nD Cert.DwGlaReferenceIdeal.τ).loc Cert.DwGlaReferenceIdeal.main_arg0)
          ∧ r.2.mem ((c.tc : Thread Cert.DwGlaReferenceIdeal.nD Cert.DwGlaReferenceIdeal.τ).loc Cert.DwGlaReferenceIdeal.main_arg1) = m' ((c.tc : Thread Cert.DwGlaReferenceIdeal.nD Cert.DwGlaReferenceIdeal.τ).loc Cert.DwGlaReferenceIdeal.main_arg1))

def preserves_DwGate_DwGateIdeal : Prop :=
  True

def algebraic_DwGateIdeal_DwGateReferenceIdeal [hDwGateIdeal : Cert.DwGateIdeal.Facts] [hDwGateReferenceIdeal : Cert.DwGateReferenceIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateReferenceIdeal.nD Cert.DwGateReferenceIdeal.τ Cert.DwGateReferenceIdeal.sig) → Buf (Elt Ideal) ℓ) (g' : Dev Cert.DwGateReferenceIdeal.nD → PrngReg), Pre_DwGateIdeal m →
    (∀ c : Dev Cert.DwGateIdeal.nD,
      m' ((c.tc : Thread Cert.DwGateReferenceIdeal.nD Cert.DwGateReferenceIdeal.τ).loc Cert.DwGateReferenceIdeal.main_arg0) = m ((c.tc : Thread Cert.DwGateIdeal.nD Cert.DwGateIdeal.τ).loc Cert.DwGateIdeal.main_arg0)
      ∧ m' ((c.tc : Thread Cert.DwGateReferenceIdeal.nD Cert.DwGateReferenceIdeal.τ).loc Cert.DwGateReferenceIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateReferenceIdeal.defs (F := Ideal)) (onTc (τ := Cert.DwGateReferenceIdeal.τ) (Cert.DwGateReferenceIdeal.main (F := Ideal))) ⟨m', fun _ => 0, g'⟩ (fun r => ∀ c : Dev Cert.DwGateReferenceIdeal.nD,
          r.2.mem ((c.tc : Thread Cert.DwGateReferenceIdeal.nD Cert.DwGateReferenceIdeal.τ).loc Cert.DwGateReferenceIdeal.main_v5) = v0 c
          ∧ r.2.mem ((c.tc : Thread Cert.DwGateReferenceIdeal.nD Cert.DwGateReferenceIdeal.τ).loc Cert.DwGateReferenceIdeal.main_arg0) = m' ((c.tc : Thread Cert.DwGateReferenceIdeal.nD Cert.DwGateReferenceIdeal.τ).loc Cert.DwGateReferenceIdeal.main_arg0)
          ∧ r.2.mem ((c.tc : Thread Cert.DwGateReferenceIdeal.nD Cert.DwGateReferenceIdeal.τ).loc Cert.DwGateReferenceIdeal.main_arg1) = m' ((c.tc : Thread Cert.DwGateReferenceIdeal.nD Cert.DwGateReferenceIdeal.τ).loc Cert.DwGateReferenceIdeal.main_arg1))

def preserves_InFwd_InFwdIdeal : Prop :=
  True

def algebraic_InFwdIdeal_InFwdReferenceIdeal [hInFwdIdeal : Cert.InFwdIdeal.Facts] [hInFwdReferenceIdeal : Cert.InFwdReferenceIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdReferenceIdeal.nD Cert.InFwdReferenceIdeal.τ Cert.InFwdReferenceIdeal.sig) → Buf (Elt Ideal) ℓ) (g' : Dev Cert.InFwdReferenceIdeal.nD → PrngReg), Pre_InFwdIdeal m →
    (∀ c : Dev Cert.InFwdIdeal.nD,
      m' ((c.tc : Thread Cert.InFwdReferenceIdeal.nD Cert.InFwdReferenceIdeal.τ).loc Cert.InFwdReferenceIdeal.main_arg0) = m ((c.tc : Thread Cert.InFwdIdeal.nD Cert.InFwdIdeal.τ).loc Cert.InFwdIdeal.main_arg0)
      ∧ m' ((c.tc : Thread Cert.InFwdReferenceIdeal.nD Cert.InFwdReferenceIdeal.τ).loc Cert.InFwdReferenceIdeal.main_arg1) = m ((c.tc : Thread Cert.InFwdIdeal.nD Cert.InFwdIdeal.τ).loc Cert.InFwdIdeal.main_arg1)
      ∧ m' ((c.tc : Thread Cert.InFwdReferenceIdeal.nD Cert.InFwdReferenceIdeal.τ).loc Cert.InFwdReferenceIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v6_0)) (v1 : (c : Dev Cert.InFwdIdeal.nD) → Buf (Elt Ideal) ((c.tc : Thread Cert.InFwdIdeal.nD Cert.InFwdIdeal.τ).loc Cert.InFwdIdeal.main_v6_1)) (v2 : (c : Dev Cert.InFwdIdeal.nD) → Buf (Elt Ideal) ((c.tc : Thread Cert.InFwdIdeal.nD Cert.InFwdIdeal.τ).loc Cert.InFwdIdeal.main_v6_2)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v6_0) = v0 c
          ∧ r.2.mem ((c.tc : Thread Cert.InFwdIdeal.nD Cert.InFwdIdeal.τ).loc Cert.InFwdIdeal.main_v6_1) = v1 c
          ∧ r.2.mem ((c.tc : Thread Cert.InFwdIdeal.nD Cert.InFwdIdeal.τ).loc Cert.InFwdIdeal.main_v6_2) = v2 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdReferenceIdeal.defs (F := Ideal)) (onTc (τ := Cert.InFwdReferenceIdeal.τ) (Cert.InFwdReferenceIdeal.main (F := Ideal))) ⟨m', fun _ => 0, g'⟩ (fun r => ∀ c : Dev Cert.InFwdReferenceIdeal.nD,
          r.2.mem ((c.tc : Thread Cert.InFwdReferenceIdeal.nD Cert.InFwdReferenceIdeal.τ).loc Cert.InFwdReferenceIdeal.main_v16) = v0 c
          ∧ r.2.mem ((c.tc : Thread Cert.InFwdReferenceIdeal.nD Cert.InFwdReferenceIdeal.τ).loc Cert.InFwdReferenceIdeal.main_v18) = v1 c
          ∧ r.2.mem ((c.tc : Thread Cert.InFwdReferenceIdeal.nD Cert.InFwdReferenceIdeal.τ).loc Cert.InFwdReferenceIdeal.main_v19) = v2 c
          ∧ r.2.mem ((c.tc : Thread Cert.InFwdReferenceIdeal.nD Cert.InFwdReferenceIdeal.τ).loc Cert.InFwdReferenceIdeal.main_arg0) = m' ((c.tc : Thread Cert.InFwdReferenceIdeal.nD Cert.InFwdReferenceIdeal.τ).loc Cert.InFwdReferenceIdeal.main_arg0)
          ∧ r.2.mem ((c.tc : Thread Cert.InFwdReferenceIdeal.nD Cert.InFwdReferenceIdeal.τ).loc Cert.InFwdReferenceIdeal.main_arg1) = m' ((c.tc : Thread Cert.InFwdReferenceIdeal.nD Cert.InFwdReferenceIdeal.τ).loc Cert.InFwdReferenceIdeal.main_arg1)
          ∧ r.2.mem ((c.tc : Thread Cert.InFwdReferenceIdeal.nD Cert.InFwdReferenceIdeal.τ).loc Cert.InFwdReferenceIdeal.main_arg2) = m' ((c.tc : Thread Cert.InFwdReferenceIdeal.nD Cert.InFwdReferenceIdeal.τ).loc Cert.InFwdReferenceIdeal.main_arg2))

def preserves_InBwd_InBwdIdeal : Prop :=
  True

def algebraic_InBwdIdeal_InBwdReferenceIdeal [hInBwdIdeal : Cert.InBwdIdeal.Facts] [hInBwdReferenceIdeal : Cert.InBwdReferenceIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdReferenceIdeal.nD Cert.InBwdReferenceIdeal.τ Cert.InBwdReferenceIdeal.sig) → Buf (Elt Ideal) ℓ) (g' : Dev Cert.InBwdReferenceIdeal.nD → PrngReg), Pre_InBwdIdeal m →
    (∀ c : Dev Cert.InBwdIdeal.nD,
      m' ((c.tc : Thread Cert.InBwdReferenceIdeal.nD Cert.InBwdReferenceIdeal.τ).loc Cert.InBwdReferenceIdeal.main_arg0) = m ((c.tc : Thread Cert.InBwdIdeal.nD Cert.InBwdIdeal.τ).loc Cert.InBwdIdeal.main_arg0)
      ∧ m' ((c.tc : Thread Cert.InBwdReferenceIdeal.nD Cert.InBwdReferenceIdeal.τ).loc Cert.InBwdReferenceIdeal.main_arg1) = m ((c.tc : Thread Cert.InBwdIdeal.nD Cert.InBwdIdeal.τ).loc Cert.InBwdIdeal.main_arg1)
      ∧ m' ((c.tc : Thread Cert.InBwdReferenceIdeal.nD Cert.InBwdReferenceIdeal.τ).loc Cert.InBwdReferenceIdeal.main_arg2) = m ((c.tc : Thread Cert.InBwdIdeal.nD Cert.InBwdIdeal.τ).loc Cert.InBwdIdeal.main_arg2)
      ∧ m' ((c.tc : Thread Cert.InBwdReferenceIdeal.nD Cert.InBwdReferenceIdeal.τ).loc Cert.InBwdReferenceIdeal.main_arg3) = m ((c.tc : Thread Cert.InBwdIdeal.nD Cert.InBwdIdeal.τ).loc Cert.InBwdIdeal.main_arg3)
      ∧ m' ((c.tc : Thread Cert.InBwdReferenceIdeal.nD Cert.InBwdReferenceIdeal.τ).loc Cert.InBwdReferenceIdeal.main_arg4) = m ((c.tc : Thread Cert.InBwdIdeal.nD Cert.InBwdIdeal.τ).loc Cert.InBwdIdeal.main_arg4)
      ∧ m' ((c.tc : Thread Cert.InBwdReferenceIdeal.nD Cert.InBwdReferenceIdeal.τ).loc Cert.InBwdReferenceIdeal.main_arg5) = m ((c.tc : Thread Cert.InBwdIdeal.nD Cert.InBwdIdeal.τ).loc Cert.InBwdIdeal.main_arg5)
      ∧ m' ((c.tc : Thread Cert.InBwdReferenceIdeal.nD Cert.InBwdReferenceIdeal.τ).loc Cert.InBwdReferenceIdeal.main_arg6) = m ((c.tc : Thread Cert.InBwdIdeal.nD Cert.InBwdIdeal.τ).loc Cert.InBwdIdeal.main_arg6)
      ∧ m' ((c.tc : Thread Cert.InBwdReferenceIdeal.nD Cert.InBwdReferenceIdeal.τ).loc Cert.InBwdReferenceIdeal.main_arg7) = m ((c.tc : Thread Cert.InBwdIdeal.nD Cert.InBwdIdeal.τ).loc Cert.InBwdIdeal.main_arg7)) →
    ∃ (v0 : (c : Dev Cert.InBwdIdeal.nD) → Buf (Elt Ideal) ((c.tc : Thread Cert.InBwdIdeal.nD Cert.InBwdIdeal.τ).loc Cert.InBwdIdeal.main_v6_0)) (v1 : (c : Dev Cert.InBwdIdeal.nD) → Buf (Elt Ideal) ((c.tc : Thread Cert.InBwdIdeal.nD Cert.InBwdIdeal.τ).loc Cert.InBwdIdeal.main_v6_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v6_0) = v0 c
          ∧ r.2.mem ((c.tc : Thread Cert.InBwdIdeal.nD Cert.InBwdIdeal.τ).loc Cert.InBwdIdeal.main_v6_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ θ_run (Cert.InBwdReferenceIdeal.defs (F := Ideal)) (onTc (τ := Cert.InBwdReferenceIdeal.τ) (Cert.InBwdReferenceIdeal.main (F := Ideal))) ⟨m', fun _ => 0, g'⟩ (fun r => ∀ c : Dev Cert.InBwdReferenceIdeal.nD,
          r.2.mem ((c.tc : Thread Cert.InBwdReferenceIdeal.nD Cert.InBwdReferenceIdeal.τ).loc Cert.InBwdReferenceIdeal.main_v39) = v0 c
          ∧ r.2.mem ((c.tc : Thread Cert.InBwdReferenceIdeal.nD Cert.InBwdReferenceIdeal.τ).loc Cert.InBwdReferenceIdeal.main_v22) = v1 c
          ∧ r.2.mem ((c.tc : Thread Cert.InBwdReferenceIdeal.nD Cert.InBwdReferenceIdeal.τ).loc Cert.InBwdReferenceIdeal.main_arg0) = m' ((c.tc : Thread Cert.InBwdReferenceIdeal.nD Cert.InBwdReferenceIdeal.τ).loc Cert.InBwdReferenceIdeal.main_arg0)
          ∧ r.2.mem ((c.tc : Thread Cert.InBwdReferenceIdeal.nD Cert.InBwdReferenceIdeal.τ).loc Cert.InBwdReferenceIdeal.main_arg1) = m' ((c.tc : Thread Cert.InBwdReferenceIdeal.nD Cert.InBwdReferenceIdeal.τ).loc Cert.InBwdReferenceIdeal.main_arg1)
          ∧ r.2.mem ((c.tc : Thread Cert.InBwdReferenceIdeal.nD Cert.InBwdReferenceIdeal.τ).loc Cert.InBwdReferenceIdeal.main_arg2) = m' ((c.tc : Thread Cert.InBwdReferenceIdeal.nD Cert.InBwdReferenceIdeal.τ).loc Cert.InBwdReferenceIdeal.main_arg2)
          ∧ r.2.mem ((c.tc : Thread Cert.InBwdReferenceIdeal.nD Cert.InBwdReferenceIdeal.τ).loc Cert.InBwdReferenceIdeal.main_arg3) = m' ((c.tc : Thread Cert.InBwdReferenceIdeal.nD Cert.InBwdReferenceIdeal.τ).loc Cert.InBwdReferenceIdeal.main_arg3)
          ∧ r.2.mem ((c.tc : Thread Cert.InBwdReferenceIdeal.nD Cert.InBwdReferenceIdeal.τ).loc Cert.InBwdReferenceIdeal.main_arg4) = m' ((c.tc : Thread Cert.InBwdReferenceIdeal.nD Cert.InBwdReferenceIdeal.τ).loc Cert.InBwdReferenceIdeal.main_arg4)
          ∧ r.2.mem ((c.tc : Thread Cert.InBwdReferenceIdeal.nD Cert.InBwdReferenceIdeal.τ).loc Cert.InBwdReferenceIdeal.main_arg5) = m' ((c.tc : Thread Cert.InBwdReferenceIdeal.nD Cert.InBwdReferenceIdeal.τ).loc Cert.InBwdReferenceIdeal.main_arg5)
          ∧ r.2.mem ((c.tc : Thread Cert.InBwdReferenceIdeal.nD Cert.InBwdReferenceIdeal.τ).loc Cert.InBwdReferenceIdeal.main_arg6) = m' ((c.tc : Thread Cert.InBwdReferenceIdeal.nD Cert.InBwdReferenceIdeal.τ).loc Cert.InBwdReferenceIdeal.main_arg6)
          ∧ r.2.mem ((c.tc : Thread Cert.InBwdReferenceIdeal.nD Cert.InBwdReferenceIdeal.τ).loc Cert.InBwdReferenceIdeal.main_arg7) = m' ((c.tc : Thread Cert.InBwdReferenceIdeal.nD Cert.InBwdReferenceIdeal.τ).loc Cert.InBwdReferenceIdeal.main_arg7))

def preserves_SguFwd_SguFwdIdeal : Prop :=
  True

def algebraic_SguFwdIdeal_SguFwdReferenceIdeal [hSguFwdIdeal : Cert.SguFwdIdeal.Facts] [hSguFwdReferenceIdeal : Cert.SguFwdReferenceIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdReferenceIdeal.nD Cert.SguFwdReferenceIdeal.τ Cert.SguFwdReferenceIdeal.sig) → Buf (Elt Ideal) ℓ) (g' : Dev Cert.SguFwdReferenceIdeal.nD → PrngReg), Pre_SguFwdIdeal m →
    (∀ c : Dev Cert.SguFwdIdeal.nD,
      m' ((c.tc : Thread Cert.SguFwdReferenceIdeal.nD Cert.SguFwdReferenceIdeal.τ).loc Cert.SguFwdReferenceIdeal.main_arg0) = m ((c.tc : Thread Cert.SguFwdIdeal.nD Cert.SguFwdIdeal.τ).loc Cert.SguFwdIdeal.main_arg0)
      ∧ m' ((c.tc : Thread Cert.SguFwdReferenceIdeal.nD Cert.SguFwdReferenceIdeal.τ).loc Cert.SguFwdReferenceIdeal.main_arg1) = m ((c.tc : Thread Cert.SguFwdIdeal.nD Cert.SguFwdIdeal.τ).loc Cert.SguFwdIdeal.main_arg1)
      ∧ m' ((c.tc : Thread Cert.SguFwdReferenceIdeal.nD Cert.SguFwdReferenceIdeal.τ).loc Cert.SguFwdReferenceIdeal.main_arg2) = m ((c.tc : Thread Cert.SguFwdIdeal.nD Cert.SguFwdIdeal.τ).loc Cert.SguFwdIdeal.main_arg2)
      ∧ m' ((c.tc : Thread Cert.SguFwdReferenceIdeal.nD Cert.SguFwdReferenceIdeal.τ).loc Cert.SguFwdReferenceIdeal.main_arg3) = m ((c.tc : Thread Cert.SguFwdIdeal.nD Cert.SguFwdIdeal.τ).loc Cert.SguFwdIdeal.main_arg3)
      ∧ m' ((c.tc : Thread Cert.SguFwdReferenceIdeal.nD Cert.SguFwdReferenceIdeal.τ).loc Cert.SguFwdReferenceIdeal.main_arg4) = m ((c.tc : Thread Cert.SguFwdIdeal.nD Cert.SguFwdIdeal.τ).loc Cert.SguFwdIdeal.main_arg4)
      ∧ m' ((c.tc : Thread Cert.SguFwdReferenceIdeal.nD Cert.SguFwdReferenceIdeal.τ).loc Cert.SguFwdReferenceIdeal.main_arg5) = m ((c.tc : Thread Cert.SguFwdIdeal.nD Cert.SguFwdIdeal.τ).loc Cert.SguFwdIdeal.main_arg5)
      ∧ m' ((c.tc : Thread Cert.SguFwdReferenceIdeal.nD Cert.SguFwdReferenceIdeal.τ).loc Cert.SguFwdReferenceIdeal.main_arg6) = m ((c.tc : Thread Cert.SguFwdIdeal.nD Cert.SguFwdIdeal.τ).loc Cert.SguFwdIdeal.main_arg6)
      ∧ m' ((c.tc : Thread Cert.SguFwdReferenceIdeal.nD Cert.SguFwdReferenceIdeal.τ).loc Cert.SguFwdReferenceIdeal.main_arg7) = m ((c.tc : Thread Cert.SguFwdIdeal.nD Cert.SguFwdIdeal.τ).loc Cert.SguFwdIdeal.main_arg7)
      ∧ m' ((c.tc : Thread Cert.SguFwdReferenceIdeal.nD Cert.SguFwdReferenceIdeal.τ).loc Cert.SguFwdReferenceIdeal.main_arg8) = m ((c.tc : Thread Cert.SguFwdIdeal.nD Cert.SguFwdIdeal.τ).loc Cert.SguFwdIdeal.main_arg8)
      ∧ m' ((c.tc : Thread Cert.SguFwdReferenceIdeal.nD Cert.SguFwdReferenceIdeal.τ).loc Cert.SguFwdReferenceIdeal.main_arg9) = m ((c.tc : Thread Cert.SguFwdIdeal.nD Cert.SguFwdIdeal.τ).loc Cert.SguFwdIdeal.main_arg9)
      ∧ m' ((c.tc : Thread Cert.SguFwdReferenceIdeal.nD Cert.SguFwdReferenceIdeal.τ).loc Cert.SguFwdReferenceIdeal.main_arg10) = m ((c.tc : Thread Cert.SguFwdIdeal.nD Cert.SguFwdIdeal.τ).loc Cert.SguFwdIdeal.main_arg10)) →
    ∃ (v0 : (c : Dev Cert.SguFwdIdeal.nD) → Buf (Elt Ideal) ((c.tc : Thread Cert.SguFwdIdeal.nD Cert.SguFwdIdeal.τ).loc Cert.SguFwdIdeal.main_v7_0)) (v1 : (c : Dev Cert.SguFwdIdeal.nD) → Buf (Elt Ideal) ((c.tc : Thread Cert.SguFwdIdeal.nD Cert.SguFwdIdeal.τ).loc Cert.SguFwdIdeal.main_v7_1)) (v2 : (c : Dev Cert.SguFwdIdeal.nD) → Buf (Elt Ideal) ((c.tc : Thread Cert.SguFwdIdeal.nD Cert.SguFwdIdeal.τ).loc Cert.SguFwdIdeal.main_v7_2)) (v3 : (c : Dev Cert.SguFwdIdeal.nD) → Buf (Elt Ideal) ((c.tc : Thread Cert.SguFwdIdeal.nD Cert.SguFwdIdeal.τ).loc Cert.SguFwdIdeal.main_v7_3)) (v4 : (c : Dev Cert.SguFwdIdeal.nD) → Buf (Elt Ideal) ((c.tc : Thread Cert.SguFwdIdeal.nD Cert.SguFwdIdeal.τ).loc Cert.SguFwdIdeal.main_v7_4)) (v5 : (c : Dev Cert.SguFwdIdeal.nD) → Buf (Elt Ideal) ((c.tc : Thread Cert.SguFwdIdeal.nD Cert.SguFwdIdeal.τ).loc Cert.SguFwdIdeal.main_v7_5)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v7_0) = v0 c
          ∧ r.2.mem ((c.tc : Thread Cert.SguFwdIdeal.nD Cert.SguFwdIdeal.τ).loc Cert.SguFwdIdeal.main_v7_1) = v1 c
          ∧ r.2.mem ((c.tc : Thread Cert.SguFwdIdeal.nD Cert.SguFwdIdeal.τ).loc Cert.SguFwdIdeal.main_v7_2) = v2 c
          ∧ r.2.mem ((c.tc : Thread Cert.SguFwdIdeal.nD Cert.SguFwdIdeal.τ).loc Cert.SguFwdIdeal.main_v7_3) = v3 c
          ∧ r.2.mem ((c.tc : Thread Cert.SguFwdIdeal.nD Cert.SguFwdIdeal.τ).loc Cert.SguFwdIdeal.main_v7_4) = v4 c
          ∧ r.2.mem ((c.tc : Thread Cert.SguFwdIdeal.nD Cert.SguFwdIdeal.τ).loc Cert.SguFwdIdeal.main_v7_5) = v5 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
          ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5)
          ∧ r.2.mem ((c.tc : Thread Cert.SguFwdIdeal.nD Cert.SguFwdIdeal.τ).loc Cert.SguFwdIdeal.main_arg6) = m ((c.tc : Thread Cert.SguFwdIdeal.nD Cert.SguFwdIdeal.τ).loc Cert.SguFwdIdeal.main_arg6)
          ∧ r.2.mem ((c.tc : Thread Cert.SguFwdIdeal.nD Cert.SguFwdIdeal.τ).loc Cert.SguFwdIdeal.main_arg7) = m ((c.tc : Thread Cert.SguFwdIdeal.nD Cert.SguFwdIdeal.τ).loc Cert.SguFwdIdeal.main_arg7)
          ∧ r.2.mem ((c.tc : Thread Cert.SguFwdIdeal.nD Cert.SguFwdIdeal.τ).loc Cert.SguFwdIdeal.main_arg8) = m ((c.tc : Thread Cert.SguFwdIdeal.nD Cert.SguFwdIdeal.τ).loc Cert.SguFwdIdeal.main_arg8)
          ∧ r.2.mem ((c.tc : Thread Cert.SguFwdIdeal.nD Cert.SguFwdIdeal.τ).loc Cert.SguFwdIdeal.main_arg9) = m ((c.tc : Thread Cert.SguFwdIdeal.nD Cert.SguFwdIdeal.τ).loc Cert.SguFwdIdeal.main_arg9)
          ∧ r.2.mem ((c.tc : Thread Cert.SguFwdIdeal.nD Cert.SguFwdIdeal.τ).loc Cert.SguFwdIdeal.main_arg10) = m ((c.tc : Thread Cert.SguFwdIdeal.nD Cert.SguFwdIdeal.τ).loc Cert.SguFwdIdeal.main_arg10))
      ∧ θ_run (Cert.SguFwdReferenceIdeal.defs (F := Ideal)) (onTc (τ := Cert.SguFwdReferenceIdeal.τ) (Cert.SguFwdReferenceIdeal.main (F := Ideal))) ⟨m', fun _ => 0, g'⟩ (fun r => ∀ c : Dev Cert.SguFwdReferenceIdeal.nD,
          r.2.mem ((c.tc : Thread Cert.SguFwdReferenceIdeal.nD Cert.SguFwdReferenceIdeal.τ).loc Cert.SguFwdReferenceIdeal.main_v96) = v0 c
          ∧ r.2.mem ((c.tc : Thread Cert.SguFwdReferenceIdeal.nD Cert.SguFwdReferenceIdeal.τ).loc Cert.SguFwdReferenceIdeal.main_v97) = v1 c
          ∧ r.2.mem ((c.tc : Thread Cert.SguFwdReferenceIdeal.nD Cert.SguFwdReferenceIdeal.τ).loc Cert.SguFwdReferenceIdeal.main_v98) = v2 c
          ∧ r.2.mem ((c.tc : Thread Cert.SguFwdReferenceIdeal.nD Cert.SguFwdReferenceIdeal.τ).loc Cert.SguFwdReferenceIdeal.main_v99) = v3 c
          ∧ r.2.mem ((c.tc : Thread Cert.SguFwdReferenceIdeal.nD Cert.SguFwdReferenceIdeal.τ).loc Cert.SguFwdReferenceIdeal.main_v100) = v4 c
          ∧ r.2.mem ((c.tc : Thread Cert.SguFwdReferenceIdeal.nD Cert.SguFwdReferenceIdeal.τ).loc Cert.SguFwdReferenceIdeal.main_v113) = v5 c
          ∧ r.2.mem ((c.tc : Thread Cert.SguFwdReferenceIdeal.nD Cert.SguFwdReferenceIdeal.τ).loc Cert.SguFwdReferenceIdeal.main_arg0) = m' ((c.tc : Thread Cert.SguFwdReferenceIdeal.nD Cert.SguFwdReferenceIdeal.τ).loc Cert.SguFwdReferenceIdeal.main_arg0)
          ∧ r.2.mem ((c.tc : Thread Cert.SguFwdReferenceIdeal.nD Cert.SguFwdReferenceIdeal.τ).loc Cert.SguFwdReferenceIdeal.main_arg1) = m' ((c.tc : Thread Cert.SguFwdReferenceIdeal.nD Cert.SguFwdReferenceIdeal.τ).loc Cert.SguFwdReferenceIdeal.main_arg1)
          ∧ r.2.mem ((c.tc : Thread Cert.SguFwdReferenceIdeal.nD Cert.SguFwdReferenceIdeal.τ).loc Cert.SguFwdReferenceIdeal.main_arg2) = m' ((c.tc : Thread Cert.SguFwdReferenceIdeal.nD Cert.SguFwdReferenceIdeal.τ).loc Cert.SguFwdReferenceIdeal.main_arg2)
          ∧ r.2.mem ((c.tc : Thread Cert.SguFwdReferenceIdeal.nD Cert.SguFwdReferenceIdeal.τ).loc Cert.SguFwdReferenceIdeal.main_arg3) = m' ((c.tc : Thread Cert.SguFwdReferenceIdeal.nD Cert.SguFwdReferenceIdeal.τ).loc Cert.SguFwdReferenceIdeal.main_arg3)
          ∧ r.2.mem ((c.tc : Thread Cert.SguFwdReferenceIdeal.nD Cert.SguFwdReferenceIdeal.τ).loc Cert.SguFwdReferenceIdeal.main_arg4) = m' ((c.tc : Thread Cert.SguFwdReferenceIdeal.nD Cert.SguFwdReferenceIdeal.τ).loc Cert.SguFwdReferenceIdeal.main_arg4)
          ∧ r.2.mem ((c.tc : Thread Cert.SguFwdReferenceIdeal.nD Cert.SguFwdReferenceIdeal.τ).loc Cert.SguFwdReferenceIdeal.main_arg5) = m' ((c.tc : Thread Cert.SguFwdReferenceIdeal.nD Cert.SguFwdReferenceIdeal.τ).loc Cert.SguFwdReferenceIdeal.main_arg5)
          ∧ r.2.mem ((c.tc : Thread Cert.SguFwdReferenceIdeal.nD Cert.SguFwdReferenceIdeal.τ).loc Cert.SguFwdReferenceIdeal.main_arg6) = m' ((c.tc : Thread Cert.SguFwdReferenceIdeal.nD Cert.SguFwdReferenceIdeal.τ).loc Cert.SguFwdReferenceIdeal.main_arg6)
          ∧ r.2.mem ((c.tc : Thread Cert.SguFwdReferenceIdeal.nD Cert.SguFwdReferenceIdeal.τ).loc Cert.SguFwdReferenceIdeal.main_arg7) = m' ((c.tc : Thread Cert.SguFwdReferenceIdeal.nD Cert.SguFwdReferenceIdeal.τ).loc Cert.SguFwdReferenceIdeal.main_arg7)
          ∧ r.2.mem ((c.tc : Thread Cert.SguFwdReferenceIdeal.nD Cert.SguFwdReferenceIdeal.τ).loc Cert.SguFwdReferenceIdeal.main_arg8) = m' ((c.tc : Thread Cert.SguFwdReferenceIdeal.nD Cert.SguFwdReferenceIdeal.τ).loc Cert.SguFwdReferenceIdeal.main_arg8)
          ∧ r.2.mem ((c.tc : Thread Cert.SguFwdReferenceIdeal.nD Cert.SguFwdReferenceIdeal.τ).loc Cert.SguFwdReferenceIdeal.main_arg9) = m' ((c.tc : Thread Cert.SguFwdReferenceIdeal.nD Cert.SguFwdReferenceIdeal.τ).loc Cert.SguFwdReferenceIdeal.main_arg9)
          ∧ r.2.mem ((c.tc : Thread Cert.SguFwdReferenceIdeal.nD Cert.SguFwdReferenceIdeal.τ).loc Cert.SguFwdReferenceIdeal.main_arg10) = m' ((c.tc : Thread Cert.SguFwdReferenceIdeal.nD Cert.SguFwdReferenceIdeal.τ).loc Cert.SguFwdReferenceIdeal.main_arg10))

def Claim : Prop :=
  ∃ (hKernel : Cert.Kernel.Facts) (hKernelIdeal : Cert.KernelIdeal.Facts) (hReferenceIdeal : Cert.ReferenceIdeal.Facts) (hDwOut : Cert.DwOut.Facts) (hDwOutIdeal : Cert.DwOutIdeal.Facts) (hDwOutReferenceIdeal : Cert.DwOutReferenceIdeal.Facts) (hDwIn : Cert.DwIn.Facts) (hDwInIdeal : Cert.DwInIdeal.Facts) (hDwInReferenceIdeal : Cert.DwInReferenceIdeal.Facts) (hDwSquare : Cert.DwSquare.Facts) (hDwSquareIdeal : Cert.DwSquareIdeal.Facts) (hDwSquareReferenceIdeal : Cert.DwSquareReferenceIdeal.Facts) (hDwMerge : Cert.DwMerge.Facts) (hDwMergeIdeal : Cert.DwMergeIdeal.Facts) (hDwMergeReferenceIdeal : Cert.DwMergeReferenceIdeal.Facts) (hDwGla : Cert.DwGla.Facts) (hDwGlaIdeal : Cert.DwGlaIdeal.Facts) (hDwGlaReferenceIdeal : Cert.DwGlaReferenceIdeal.Facts) (hDwGate : Cert.DwGate.Facts) (hDwGateIdeal : Cert.DwGateIdeal.Facts) (hDwGateReferenceIdeal : Cert.DwGateReferenceIdeal.Facts) (hInFwd : Cert.InFwd.Facts) (hInFwdIdeal : Cert.InFwdIdeal.Facts) (hInFwdReferenceIdeal : Cert.InFwdReferenceIdeal.Facts) (hInBwd : Cert.InBwd.Facts) (hInBwdIdeal : Cert.InBwdIdeal.Facts) (hInBwdReferenceIdeal : Cert.InBwdReferenceIdeal.Facts) (hSguFwd : Cert.SguFwd.Facts) (hSguFwdIdeal : Cert.SguFwdIdeal.Facts) (hSguFwdReferenceIdeal : Cert.SguFwdReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_DwSquare (hDwSquare := hDwSquare)
    ∧ quiescent_DwSquareIdeal (hDwSquareIdeal := hDwSquareIdeal)
    ∧ quiescent_DwSquareReferenceIdeal (hDwSquareReferenceIdeal := hDwSquareReferenceIdeal)
    ∧ quiescent_DwMerge (hDwMerge := hDwMerge)
    ∧ quiescent_DwMergeIdeal (hDwMergeIdeal := hDwMergeIdeal)
    ∧ quiescent_DwMergeReferenceIdeal (hDwMergeReferenceIdeal := hDwMergeReferenceIdeal)
    ∧ quiescent_DwGla (hDwGla := hDwGla)
    ∧ quiescent_DwGlaIdeal (hDwGlaIdeal := hDwGlaIdeal)
    ∧ quiescent_DwGlaReferenceIdeal (hDwGlaReferenceIdeal := hDwGlaReferenceIdeal)
    ∧ quiescent_DwGate (hDwGate := hDwGate)
    ∧ quiescent_DwGateIdeal (hDwGateIdeal := hDwGateIdeal)
    ∧ quiescent_DwGateReferenceIdeal (hDwGateReferenceIdeal := hDwGateReferenceIdeal)
    ∧ quiescent_InFwd (hInFwd := hInFwd)
    ∧ quiescent_InFwdIdeal (hInFwdIdeal := hInFwdIdeal)
    ∧ quiescent_InFwdReferenceIdeal (hInFwdReferenceIdeal := hInFwdReferenceIdeal)
    ∧ quiescent_InBwd (hInBwd := hInBwd)
    ∧ quiescent_InBwdIdeal (hInBwdIdeal := hInBwdIdeal)
    ∧ quiescent_InBwdReferenceIdeal (hInBwdReferenceIdeal := hInBwdReferenceIdeal)
    ∧ quiescent_SguFwd (hSguFwd := hSguFwd)
    ∧ quiescent_SguFwdIdeal (hSguFwdIdeal := hSguFwdIdeal)
    ∧ quiescent_SguFwdReferenceIdeal (hSguFwdReferenceIdeal := hSguFwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwOut_DwOutIdeal
    ∧ algebraic_DwOutIdeal_DwOutReferenceIdeal (hDwOutIdeal := hDwOutIdeal) (hDwOutReferenceIdeal := hDwOutReferenceIdeal)
    ∧ preserves_DwIn_DwInIdeal
    ∧ algebraic_DwInIdeal_DwInReferenceIdeal (hDwInIdeal := hDwInIdeal) (hDwInReferenceIdeal := hDwInReferenceIdeal)
    ∧ preserves_DwSquare_DwSquareIdeal
    ∧ algebraic_DwSquareIdeal_DwSquareReferenceIdeal (hDwSquareIdeal := hDwSquareIdeal) (hDwSquareReferenceIdeal := hDwSquareReferenceIdeal)
    ∧ preserves_DwMerge_DwMergeIdeal
    ∧ algebraic_DwMergeIdeal_DwMergeReferenceIdeal (hDwMergeIdeal := hDwMergeIdeal) (hDwMergeReferenceIdeal := hDwMergeReferenceIdeal)
    ∧ preserves_DwGla_DwGlaIdeal
    ∧ algebraic_DwGlaIdeal_DwGlaReferenceIdeal (hDwGlaIdeal := hDwGlaIdeal) (hDwGlaReferenceIdeal := hDwGlaReferenceIdeal)
    ∧ preserves_DwGate_DwGateIdeal
    ∧ algebraic_DwGateIdeal_DwGateReferenceIdeal (hDwGateIdeal := hDwGateIdeal) (hDwGateReferenceIdeal := hDwGateReferenceIdeal)
    ∧ preserves_InFwd_InFwdIdeal
    ∧ algebraic_InFwdIdeal_InFwdReferenceIdeal (hInFwdIdeal := hInFwdIdeal) (hInFwdReferenceIdeal := hInFwdReferenceIdeal)
    ∧ preserves_InBwd_InBwdIdeal
    ∧ algebraic_InBwdIdeal_InBwdReferenceIdeal (hInBwdIdeal := hInBwdIdeal) (hInBwdReferenceIdeal := hInBwdReferenceIdeal)
    ∧ preserves_SguFwd_SguFwdIdeal
    ∧ algebraic_SguFwdIdeal_SguFwdReferenceIdeal (hSguFwdIdeal := hSguFwdIdeal) (hSguFwdReferenceIdeal := hSguFwdReferenceIdeal)
-- ==== Pre_finite.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S1x1024 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S1x1024 .f32) (main_arg3 : FVec F S1024x5632 .f32) (main_arg4 : FVec F S2816x1024 .f32) (main_arg5 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x5632 .f32 := Host.absf main_arg3
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg4 main_arg5 main_v13 main_v16
-- ==== Kernel.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S512x5632 : Shape := ⟨2, ![512, 5632]⟩
abbrev S512x4x1408 : Shape := ⟨3, ![512, 4, 1408]⟩
abbrev S4x512x1408 : Shape := ⟨3, ![4, 512, 1408]⟩
abbrev S4096x2816 : Shape := ⟨2, ![4096, 2816]⟩
abbrev S4096x5632 : Shape := ⟨2, ![4096, 5632]⟩
abbrev S1x128 : Shape := ⟨2, ![1, 128]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S256x512 : Shape := ⟨2, ![256, 512]⟩
abbrev S1x512x1280 : Shape := ⟨3, ![1, 512, 1280]⟩
abbrev S512x1280 : Shape := ⟨2, ![512, 1280]⟩
abbrev S256x1280 : Shape := ⟨2, ![256, 1280]⟩
abbrev S1280x1024 : Shape := ⟨2, ![1280, 1024]⟩
abbrev S1x512x128 : Shape := ⟨3, ![1, 512, 128]⟩
abbrev S512x128 : Shape := ⟨2, ![512, 128]⟩
abbrev S512x256 : Shape := ⟨2, ![512, 256]⟩
abbrev S256x256 : Shape := ⟨2, ![256, 256]⟩
abbrev S256x128 : Shape := ⟨2, ![256, 128]⟩
abbrev S128x1024 : Shape := ⟨2, ![128, 1024]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 23
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S512x5632, .f32⟩
  | .hbm, ⟨7, _⟩ => ⟨S512x5632, .bf16⟩
  | .hbm, ⟨8, _⟩ => ⟨S512x4x1408, .bf16⟩
  | .hbm, ⟨9, _⟩ => ⟨S4x512x1408, .bf16⟩
  | .hbm, ⟨10, _⟩ => ⟨S512x5632, .f32⟩
  | .hbm, ⟨11, _⟩ => ⟨S512x5632, .bf16⟩
  | .hbm, ⟨12, _⟩ => ⟨S512x4x1408, .bf16⟩
  | .hbm, ⟨13, _⟩ => ⟨S4x512x1408, .bf16⟩
  | .hbm, ⟨14, _⟩ => ⟨S2816x1024, .bf16⟩
  | .hbm, ⟨15, _⟩ => ⟨S4096x1024, .bf16⟩
  | .hbm, ⟨16, _⟩ => ⟨S4096x2816, .bf16⟩
  | .hbm, ⟨17, _⟩ => ⟨S4096x5632, .bf16⟩
  | .hbm, ⟨18, _⟩ => ⟨S4096x1024, .bf16⟩
  | .hbm, ⟨19, _⟩ => ⟨S4096x1024, .f32⟩
  | .hbm, ⟨20, _⟩ => ⟨S1x128, .f32⟩
  | .hbm, ⟨21, _⟩ => ⟨S1x1024, .f32⟩
  | .hbm, ⟨22, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x512x1408, .bf16⟩
  | .local _ .vmem, ⟨5, _⟩ => ⟨S4x512x1408, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S256x2816, .bf16⟩
  | .local _ .vmem, ⟨12, _⟩ => ⟨S256x2816, .bf16⟩
  | .local _ .vmem, ⟨13, _⟩ => ⟨S256x5632, .bf16⟩
  | .local _ .vmem, ⟨14, _⟩ => ⟨S256x5632, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S1x128, .f32⟩
  | .local _ .vmem, ⟨20, _⟩ => ⟨S1x1024, .f32⟩
  | .local _ .vmem, ⟨21, _⟩ => ⟨S1x1024, .f32⟩
  | .local _ .vmem, ⟨22, _⟩ => ⟨S256x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev main_v9_6 : Ref sig .tc := ⟨.hbm, 21, rfl⟩
abbrev main_v9_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096x5632 : Shape := ⟨2, ![4096, 5632]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S1x128 : Shape := ⟨2, ![1, 128]⟩

abbrev nBuf : Space → Nat
  | .hbm => 153
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1024x5632, .f32⟩
  | 4 => ⟨S2816x1024, .f32⟩
  | 5 => ⟨S1x1024, .f32⟩
  | 6 => ⟨S_, .f32⟩
  | 7 => ⟨S4096x5632, .f32⟩
  | 8 => ⟨S_, .f32⟩
  | 9 => ⟨S4096x1024, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1024, .f32⟩
  | 26 => ⟨S4096x1024, .f32⟩
  | 27 => ⟨S4096x1024, .f32⟩
  | 28 => ⟨S4096x1024, .f32⟩
  | 29 => ⟨S4096x5632, .f32⟩
  | 30 => ⟨S4096x5632, .f32⟩
  | 31 => ⟨S4096x2816, .f32⟩
  | 32 => ⟨S4096x2816, .f32⟩
  | 33 => ⟨S4096x2816, .f32⟩
  | 34 => ⟨S4096x2816, .f32⟩
  | 35 => ⟨S_, .f32⟩
  | 36 => ⟨S4096x2816, .f32⟩
  | 37 => ⟨S4096x2816, .f32⟩
  | 38 => ⟨S_, .f32⟩
  | 39 => ⟨S4096x2816, .f32⟩
  | 40 => ⟨S4096x2816, .f32⟩
  | 41 => ⟨S_, .f32⟩
  | 42 => ⟨S4096x2816, .f32⟩
  | 43 => ⟨S4096x2816, .f32⟩
  | 44 => ⟨S4096x2816, .f32⟩
  | 45 => ⟨S4096x2816, .f32⟩
  | 46 => ⟨S4096x2816, .f32⟩
  | 47 => ⟨S4096x1024, .f32⟩
  | 48 => ⟨S4096x1024, .f32⟩
  | 49 => ⟨S4096x1024, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S_, .f32⟩
  | 75 => ⟨S4096, .f32⟩
  | 76 => ⟨S_, .f32⟩
  | 77 => ⟨S4096, .f32⟩
  | 78 => ⟨S4096, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S4096, .f32⟩
  | 87 => ⟨S_, .f32⟩
  | 88 => ⟨S4096, .f32⟩
  | 89 => ⟨S4096, .f32⟩
  | 90 => ⟨S4096x1024, .f32⟩
  | 91 => ⟨S4096x1024, .f32⟩
  | 92 => ⟨S4096x1024, .f32⟩
  | 93 => ⟨S_, .f32⟩
  | 94 => ⟨S1024, .f32⟩
  | 95 => ⟨S1x1024, .f32⟩
  | 96 => ⟨S4096x1024, .f32⟩
  | 97 => ⟨S4096x1024, .f32⟩
  | 98 => ⟨S4096x1024, .f32⟩
  | 99 => ⟨S_, .f32⟩
  | 100 => ⟨S4096, .f32⟩
  | 101 => ⟨S4096x1, .f32⟩
  | 102 => ⟨S4096x1024, .f32⟩
  | 103 => ⟨S4096x1024, .f32⟩
  | 104 => ⟨S4096x1, .f32⟩
  | 105 => ⟨S_, .f32⟩
  | 106 => ⟨S4096x1, .f32⟩
  | 107 => ⟨S4096x1, .f32⟩
  | 108 => ⟨S_, .f32⟩
  | 109 => ⟨S4096, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x2816, .f32⟩
  | 116 => ⟨S4096x2816, .f32⟩
  | 117 => ⟨S4096x2816, .f32⟩
  | 118 => ⟨S4096x2816, .f32⟩
  | 119 => ⟨S4096x2816, .f32⟩
  | 120 => ⟨S4096x2816, .f32⟩
  | 121 => ⟨S4096x2816, .f32⟩
  | 122 => ⟨S4096x5632, .f32⟩
  | 123 => ⟨S4096x1024, .f32⟩
  | 124 => ⟨S4096x1024, .f32⟩
  | 125 => ⟨S_, .f32⟩
  | 126 => ⟨S1024, .f32⟩
  | 127 => ⟨S1x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S4096, .f32⟩
  | 5 => ⟨S4096x1, .f32⟩
  | 6 => ⟨S4096x1024, .f32⟩
  | 7 => ⟨S4096x1024, .f32⟩
  | 8 => ⟨S4096x1024, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .bf16⟩
  | 21 => ⟨S4096x2816, .bf16⟩
  | 22 => ⟨S4096x5632, .bf16⟩
  | 23 => ⟨S4096x1024, .bf16⟩
  | 24 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v21_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v21_1 : Ref sig .tc := ⟨.hbm, 44, rfl⟩
abbrev main_v21_0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_v29 : Ref sig .tc := ⟨.hbm, 55, rfl⟩
abbrev main_cst_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_8 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_cst_11 : Ref sig .tc := ⟨.hbm, 76, rfl⟩
abbrev main_v46 : Ref sig .tc := ⟨.hbm, 77, rfl⟩
abbrev main_v47 : Ref sig .tc := ⟨.hbm, 78, rfl⟩
abbrev main_cst_12 : Ref sig .tc := ⟨.hbm, 79, rfl⟩
abbrev main_v48 : Ref sig .tc := ⟨.hbm, 80, rfl⟩
abbrev main_cst_13 : Ref sig .tc := ⟨.hbm, 81, rfl⟩
abbrev main_v49 : Ref sig .tc := ⟨.hbm, 82, rfl⟩
abbrev main_cst_14 : Ref sig .tc := ⟨.hbm, 83, rfl⟩
abbrev main_cst_15 : Ref sig .tc := ⟨.hbm, 84, rfl⟩
abbrev main_v50 : Ref sig .tc := ⟨.hbm, 85, rfl⟩
abbrev main_v51 : Ref sig .tc := ⟨.hbm, 86, rfl⟩
abbrev main_cst_16 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_17 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_18 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_19 : Ref sig .tc := ⟨.hbm, 105, rfl⟩
abbrev main_v67 : Ref sig .tc := ⟨.hbm, 106, rfl⟩
abbrev main_v68 : Ref sig .tc := ⟨.hbm, 107, rfl⟩
abbrev main_cst_20 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_21 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_22 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_23 : Ref sig .tc := ⟨.hbm, 138, rfl⟩
abbrev main_v93 : Ref sig .tc := ⟨.hbm, 139, rfl⟩
abbrev main_v94 : Ref sig .tc := ⟨.hbm, 140, rfl⟩
abbrev main_cst_24 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩

abbrev nD : Nat := 1
abbrev τ : Topo := Topo.v7x

variable {F : FTy → Type} [FloatOps F]
-- ==== DwOut.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwIn.lean ====
abbrev S4096x1024 : Shape := ⟨2, ![4096, 1024]⟩
abbrev S4096x5632 : Shape := ⟨2, ![4096, 5632]⟩
abbrev S1024x5632 : Shape := ⟨2, ![1024, 5632]⟩
abbrev S1024x1024 : Shape := ⟨2, ![1024, 1024]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | .local _ .vmem, ⟨5, _⟩ => ⟨S1024x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInReferenceIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S4096x5632, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S5632x1024, .f32⟩
  | .hbm, ⟨8, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwSquare.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwSquareReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwMerge.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwMergeReferenceIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S1024x2048, .f32⟩
  | .hbm, ⟨6, _⟩ => ⟨S4096x2048, .f32⟩
  | .hbm, ⟨7, _⟩ => ⟨S2048x1024, .f32⟩
  | .hbm, ⟨8, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwGla.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGlaReferenceIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S4096x3072, .f32⟩
  | .hbm, ⟨4, _⟩ => ⟨S_, .f32⟩
  | .hbm, ⟨5, _⟩ => ⟨S1024x3072, .f32⟩
  | .hbm, ⟨6, _⟩ => ⟨S4096x3072, .f32⟩
  | .hbm, ⟨7, _⟩ => ⟨S3072x1024, .f32⟩
  | .hbm, ⟨8, _⟩ => ⟨S1024x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwGate.lean ====
abbrev S4096x1024 : Shape := ⟨2, ![4096, 1024]⟩
abbrev S4096x128 : Shape := ⟨2, ![4096, 128]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwGateReferenceIdeal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S4096x1024, .f32⟩
  | .hbm, ⟨3, _⟩ => ⟨S4096x128, .f32⟩
  | .hbm, ⟨4, _⟩ => ⟨S_, .f32⟩
  | .hbm, ⟨5, _⟩ => ⟨S1024x128, .f32⟩
  | .hbm, ⟨6, _⟩ => ⟨S4096x128, .f32⟩
  | .hbm, ⟨7, _⟩ => ⟨S128x1024, .f32⟩
  | .hbm, ⟨8, _⟩ => ⟨S1024x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InFwd.lean ====
abbrev S4096x1024 : Shape := ⟨2, ![4096, 1024]⟩
abbrev S1x1024 : Shape := ⟨2, ![1, 1024]⟩
abbrev S1024x7184 : Shape := ⟨2, ![1024, 7184]⟩
abbrev S1024x3072 : Shape := ⟨2, ![1024, 3072]⟩
abbrev S1024x4096 : Shape := ⟨2, ![1024, 4096]⟩
abbrev S1024x16 : Shape := ⟨2, ![1024, 16]⟩
abbrev S_ : Shape := ⟨0, ![]⟩
abbrev S1024x112 : Shape := ⟨2, ![1024, 112]⟩
abbrev S1024x7296 : Shape := ⟨2, ![1024, 7296]⟩
abbrev S4096x7168 : Shape := ⟨2, ![4096, 7168]⟩
abbrev S4096x128 : Shape := ⟨2, ![4096, 128]⟩
abbrev S512x1024 : Shape := ⟨2, ![512, 1024]⟩
abbrev S512x7168 : Shape := ⟨2, ![512, 7168]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S1024x128 : Shape := ⟨2, ![1024, 128]⟩

abbrev nBuf : Space → Nat
  | .hbm => 13
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x7184, .f32⟩
  | .hbm, ⟨3, _⟩ => ⟨S1024x3072, .f32⟩
  | .hbm, ⟨4, _⟩ => ⟨S1024x4096, .f32⟩
  | .hbm, ⟨5, _⟩ => ⟨S1024x16, .f32⟩
  | .hbm, ⟨6, _⟩ => ⟨S_, .f32⟩
  | .hbm, ⟨7, _⟩ => ⟨S1024x112, .f32⟩
  | .hbm, ⟨8, _⟩ => ⟨S1024x7296, .f32⟩
  | .hbm, ⟨9, _⟩ => ⟨S1024x7296, .bf16⟩
  | .hbm, ⟨10, _⟩ => ⟨S4096x1024, .bf16⟩
  | .hbm, ⟨11, _⟩ => ⟨S4096x7168, .bf16⟩
  | .hbm, ⟨12, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x7296, .bf16⟩
  | .local _ .vmem, ⟨4, _⟩ => ⟨S512x1024, .bf16⟩
  | .local _ .vmem, ⟨5, _⟩ => ⟨S512x1024, .bf16⟩
  | .local _ .vmem, ⟨6, _⟩ => ⟨S512x7168, .bf16⟩
  | .local _ .vmem, ⟨7, _⟩ => ⟨S512x7168, .bf16⟩
  | .local _ .vmem, ⟨8, _⟩ => ⟨S512x128, .f32⟩
  | .local _ .vmem, ⟨9, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7296 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InFwdReferenceIdeal.lean ====
abbrev S4096x1024 : Shape := ⟨2, ![4096, 1024]⟩
abbrev S1x1024 : Shape := ⟨2, ![1, 1024]⟩
abbrev S1024x7184 : Shape := ⟨2, ![1024, 7184]⟩
abbrev S_ : Shape := ⟨0, ![]⟩
abbrev S4096 : Shape := ⟨1, ![4096]⟩
abbrev S4096x1 : Shape := ⟨2, ![4096, 1]⟩
abbrev S4096x7184 : Shape := ⟨2, ![4096, 7184]⟩
abbrev S4096x3072 : Shape := ⟨2, ![4096, 3072]⟩
abbrev S4096x16 : Shape := ⟨2, ![4096, 16]⟩
abbrev S4096x4096 : Shape := ⟨2, ![4096, 4096]⟩
abbrev S4096x7168 : Shape := ⟨2, ![4096, 7168]⟩
abbrev S4096x128 : Shape := ⟨2, ![4096, 128]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x7184, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x7184, .f32⟩
  | .hbm, ⟨19, _⟩ => ⟨S4096x3072, .f32⟩
  | .hbm, ⟨20, _⟩ => ⟨S4096x16, .f32⟩
  | .hbm, ⟨21, _⟩ => ⟨S4096x4096, .f32⟩
  | .hbm, ⟨22, _⟩ => ⟨S4096x1024, .bf16⟩
  | .hbm, ⟨23, _⟩ => ⟨S4096x7168, .f32⟩
  | .hbm, ⟨24, _⟩ => ⟨S4096x7168, .bf16⟩
  | .hbm, ⟨25, _⟩ => ⟨S_, .i32⟩
  | .hbm, ⟨26, _⟩ => ⟨S_, .f32⟩
  | .hbm, ⟨27, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== InBwd.lean ====
abbrev S4096x1024 : Shape := ⟨2, ![4096, 1024]⟩
abbrev S1x1024 : Shape := ⟨2, ![1, 1024]⟩
abbrev S1024x7184 : Shape := ⟨2, ![1024, 7184]⟩
abbrev S4096x3072 : Shape := ⟨2, ![4096, 3072]⟩
abbrev S4096x2048 : Shape := ⟨2, ![4096, 2048]⟩
abbrev S4096x128 : Shape := ⟨2, ![4096, 128]⟩
abbrev S1024x3072 : Shape := ⟨2, ![1024, 3072]⟩
abbrev S1024x4096 : Shape := ⟨2, ![1024, 4096]⟩
abbrev S1024x16 : Shape := ⟨2, ![1024, 16]⟩
abbrev S_ : Shape := ⟨0, ![]⟩
abbrev S1024x112 : Shape := ⟨2, ![1024, 112]⟩
abbrev S1024x7296 : Shape := ⟨2, ![1024, 7296]⟩
abbrev S512x1024 : Shape := ⟨2, ![512, 1024]⟩
abbrev S512x3072 : Shape := ⟨2, ![512, 3072]⟩
abbrev S512x2048 : Shape := ⟨2, ![512, 2048]⟩
abbrev S512x128 : Shape := ⟨2, ![512, 128]⟩
abbrev S4 : Shape := ⟨1, ![4]⟩
abbrev S1 : Shape := ⟨1, ![1]⟩
abbrev S1024x2048 : Shape := ⟨2, ![1024, 2048]⟩
abbrev S1024x128 : Shape := ⟨2, ![1024, 128]⟩
abbrev S512 : Shape := ⟨1, ![512]⟩
abbrev S512x1 : Shape := ⟨2, ![512, 1]⟩
abbrev S1024 : Shape := ⟨1, ![1024]⟩

abbrev nBuf : Space → Nat
  | .hbm => 17
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x7184, .f32⟩
  | .hbm, ⟨4, _⟩ => ⟨S4096x3072, .bf16⟩
  | .hbm, ⟨5, _⟩ => ⟨S4096x2048, .bf16⟩
  | .hbm, ⟨6, _⟩ => ⟨S4096x2048, .bf16⟩
  | .hbm, ⟨7, _⟩ => ⟨S4096x128, .bf16⟩
  | .hbm, ⟨8, _⟩ => ⟨S1024x3072, .f32⟩
  | .hbm, ⟨9, _⟩ => ⟨S1024x4096, .f32⟩
  | .hbm, ⟨10, _⟩ => ⟨S1024x16, .f32⟩
  | .hbm, ⟨11, _⟩ => ⟨S_, .f32⟩
  | .hbm, ⟨12, _⟩ => ⟨S1024x112, .f32⟩
  | .hbm, ⟨13, _⟩ => ⟨S1024x7296, .f32⟩
  | .hbm, ⟨14, _⟩ => ⟨S1024x7296, .bf16⟩
  | .hbm, ⟨15, _⟩ => ⟨S4096x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x3072, .bf16⟩
  | .local _ .vmem, ⟨6, _⟩ => ⟨S512x3072, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x128, .bf16⟩
  | .local _ .vmem, ⟨12, _⟩ => ⟨S512x128, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1024x7296, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InBwdReferenceIdeal.lean ====
abbrev S4096x1024 : Shape := ⟨2, ![4096, 1024]⟩
abbrev S1x1024 : Shape := ⟨2, ![1, 1024]⟩
abbrev S1024x7184 : Shape := ⟨2, ![1024, 7184]⟩
abbrev S4096x3072 : Shape := ⟨2, ![4096, 3072]⟩
abbrev S4096x2048 : Shape := ⟨2, ![4096, 2048]⟩
abbrev S4096x128 : Shape := ⟨2, ![4096, 128]⟩
abbrev S4096x16 : Shape := ⟨2, ![4096, 16]⟩
abbrev S4096x7184 : Shape := ⟨2, ![4096, 7184]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x7184, .f32⟩
  | .hbm, ⟨4, _⟩ => ⟨S4096x3072, .bf16⟩
  | .hbm, ⟨5, _⟩ => ⟨S4096x2048, .bf16⟩
  | .hbm, ⟨6, _⟩ => ⟨S4096x2048, .bf16⟩
  | .hbm, ⟨7, _⟩ => ⟨S4096x128, .bf16⟩
  | .hbm, ⟨8, _⟩ => ⟨S4096x16, .bf16⟩
  | .hbm, ⟨9, _⟩ => ⟨S4096x7184, .bf16⟩
  | .hbm, ⟨10, _⟩ => ⟨S4096x7184, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x7184, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== SguFwd.lean ====
abbrev S4096x1024 : Shape := ⟨2, ![4096, 1024]⟩
abbrev S4096x7168 : Shape := ⟨2, ![4096, 7168]⟩
abbrev S4x256 : Shape := ⟨2, ![4, 256]⟩
abbrev S4x128x128 : Shape := ⟨3, ![4, 128, 128]⟩
abbrev S4x128 : Shape := ⟨2, ![4, 128]⟩
abbrev S1024x1024 : Shape := ⟨2, ![1024, 1024]⟩
abbrev S1x1024 : Shape := ⟨2, ![1, 1024]⟩
abbrev S128x4 : Shape := ⟨2, ![128, 4]⟩
abbrev S_ : Shape := ⟨0, ![]⟩
abbrev S128x128 : Shape := ⟨2, ![128, 128]⟩
abbrev S512x1024 : Shape := ⟨2, ![512, 1024]⟩
abbrev S1x128x128 : Shape := ⟨3, ![1, 128, 128]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S128x256 : Shape := ⟨2, ![128, 256]⟩
abbrev S128x1 : Shape := ⟨2, ![128, 1]⟩

abbrev nBuf : Space → Nat
  | .hbm => 26
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096x7168, .bf16⟩
  | .hbm, ⟨2, _⟩ => ⟨S4096x1024, .bf16⟩
  | .hbm, ⟨3, _⟩ => ⟨S4x256, .f32⟩
  | .hbm, ⟨4, _⟩ => ⟨S4x256, .f32⟩
  | .hbm, ⟨5, _⟩ => ⟨S4x128x128, .f32⟩
  | .hbm, ⟨6, _⟩ => ⟨S4x128, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S128x4, .f32⟩
  | .hbm, ⟨14, _⟩ => ⟨S_, .i32⟩
  | .hbm, ⟨15, _⟩ => ⟨S_, .f32⟩
  | .hbm, ⟨16, _⟩ => ⟨S128x128, .f32⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S4096x1024, .bf16⟩
  | .hbm, ⟨21, _⟩ => ⟨S4096x1024, .bf16⟩
  | .hbm, ⟨22, _⟩ => ⟨S4096x1024, .bf16⟩
  | .hbm, ⟨23, _⟩ => ⟨S4096x1024, .bf16⟩
  | .hbm, ⟨24, _⟩ => ⟨S4096x1024, .bf16⟩
  | .hbm, ⟨25, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S4x128x128, .f32⟩
  | .local _ .vmem, ⟨15, _⟩ => ⟨S128x128, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .f32⟩
  | .local _ .vmem, ⟨31, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev main_v7_4 : Ref sig .tc := ⟨.hbm, 24, rfl⟩
abbrev main_v7_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== SguFwdReferenceIdeal.lean ====
abbrev S4096x1024 : Shape := ⟨2, ![4096, 1024]⟩
abbrev S4096x7168 : Shape := ⟨2, ![4096, 7168]⟩
abbrev S4x256 : Shape := ⟨2, ![4, 256]⟩
abbrev S4x128x128 : Shape := ⟨3, ![4, 128, 128]⟩
abbrev S4x128 : Shape := ⟨2, ![4, 128]⟩
abbrev S1024x1024 : Shape := ⟨2, ![1024, 1024]⟩
abbrev S1x1024 : Shape := ⟨2, ![1, 1024]⟩
abbrev S4096x4096 : Shape := ⟨2, ![4096, 4096]⟩
abbrev S_ : Shape := ⟨0, ![]⟩
abbrev S4096x4x256 : Shape := ⟨3, ![4096, 4, 256]⟩
abbrev S4096x4 : Shape := ⟨2, ![4096, 4]⟩
abbrev S4096x4x1 : Shape := ⟨3, ![4096, 4, 1]⟩
abbrev S1x4x256 : Shape := ⟨3, ![1, 4, 256]⟩
abbrev S32x128x4x256 : Shape := ⟨4, ![32, 128, 4, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x32x256x128 : Shape := ⟨4, ![4, 32, 256, 128]⟩
abbrev S128x4 : Shape := ⟨2, ![128, 4]⟩
abbrev S128x4x1 : Shape := ⟨3, ![128, 4, 1]⟩
abbrev S1x128x4x1 : Shape := ⟨4, ![1, 128, 4, 1]⟩
abbrev S4096 : Shape := ⟨1, ![4096]⟩
abbrev S4096x1 : Shape := ⟨2, ![4096, 1]⟩

abbrev nBuf : Space → Nat
  | .hbm => 183
  | .vmem => 0
  | .smem => 0
  | _ => 0

abbrev hbmTy0_0 (i : Nat) : BufTy := match i % 128 with
  | 0 => ⟨S4096x1024, .f32⟩
  | 1 => ⟨S4096x7168, .bf16⟩
  | 2 => ⟨S4096x1024, .bf16⟩
  | 3 => ⟨S4x256, .f32⟩
  | 4 => ⟨S4x256, .f32⟩
  | 5 => ⟨S4x128x128, .f32⟩
  | 6 => ⟨S4x128, .f32⟩
  | 7 => ⟨S1024x1024, .f32⟩
  | 8 => ⟨S1024x1024, .f32⟩
  | 9 => ⟨S1024x1024, .f32⟩
  | 10 => ⟨S1x1024, .f32⟩
  | 11 => ⟨S4096x4096, .bf16⟩
  | 12 => ⟨S4096x4096, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S4096x1024, .f32⟩
  | 51 => ⟨S4096x4x256, .f32⟩
  | 52 => ⟨S_, .f32⟩
  | 53 => ⟨S4096x4, .f32⟩
  | 54 => ⟨S4096x4x1, .f32⟩
  | 55 => ⟨S_, .f32⟩
  | 56 => ⟨S4096x4x1, .f32⟩
  | 57 => ⟨S4096x4x1, .f32⟩
  | 58 => ⟨S4096x4x256, .f32⟩
  | 59 => ⟨S4096x4x256, .f32⟩
  | 60 => ⟨S4096x4x256, .f32⟩
  | 61 => ⟨S_, .f32⟩
  | 62 => ⟨S4096x4, .f32⟩
  | 63 => ⟨S4096x4x1, .f32⟩
  | 64 => ⟨S_, .f32⟩
  | 65 => ⟨S4096x4x1, .f32⟩
  | 66 => ⟨S4096x4x1, .f32⟩
  | 67 => ⟨S4096x4x256, .f32⟩
  | 68 => ⟨S4096x4x256, .f32⟩
  | 69 => ⟨S_, .f32⟩
  | 70 => ⟨S4096x4x1, .f32⟩
  | 71 => ⟨S4096x4x1, .f32⟩
  | 72 => ⟨S4096x4x1, .f32⟩
  | 73 => ⟨S4096x4x256, .f32⟩
  | 74 => ⟨S4096x4x256, .f32⟩
  | 75 => ⟨S1x4x256, .f32⟩
  | 76 => ⟨S4096x4x256, .f32⟩
  | 77 => ⟨S4096x4x256, .f32⟩
  | 78 => ⟨S1x4x256, .f32⟩
  | 79 => ⟨S4096x4x256, .f32⟩
  | 80 => ⟨S4096x4x256, .f32⟩
  | 81 => ⟨S32x128x4x256, .f32⟩
  | 82 => ⟨S128, .i32⟩
  | 83 => ⟨S1x128, .i32⟩
  | 84 => ⟨S_, .i32⟩
  | 85 => ⟨S_, .i32⟩
  | 86 => ⟨S1x128, .i32⟩
  | 87 => ⟨S1x128, .i32⟩
  | 88 => ⟨S1x128, .i32⟩
  | 89 => ⟨S_, .i32⟩
  | 90 => ⟨S1x128, .i32⟩
  | 91 => ⟨S1x128, .i1⟩
  | 92 => ⟨S1x128, .i32⟩
  | 93 => ⟨S1x128, .i32⟩
  | 94 => ⟨S_, .i32⟩
  | 95 => ⟨S1x128, .i32⟩
  | 96 => ⟨S1x128, .i1⟩
  | 97 => ⟨S1x128, .i1⟩
  | 98 => ⟨S_, .i32⟩
  | 99 => ⟨S1x128, .i32⟩
  | 100 => ⟨S1x128, .i32⟩
  | 101 => ⟨S1x128, .i32⟩
  | 102 => ⟨S128x1, .i32⟩
  | 103 => ⟨S_, .i32⟩
  | 104 => ⟨S_, .i32⟩
  | 105 => ⟨S128x1, .i32⟩
  | 106 => ⟨S128x1, .i32⟩
  | 107 => ⟨S128x1, .i32⟩
  | 108 => ⟨S_, .i32⟩
  | 109 => ⟨S128x1, .i32⟩
  | 110 => ⟨S128x1, .i1⟩
  | 111 => ⟨S128x1, .i32⟩
  | 112 => ⟨S128x1, .i32⟩
  | 113 => ⟨S_, .i32⟩
  | 114 => ⟨S128x1, .i32⟩
  | 115 => ⟨S128x1, .i1⟩
  | 116 => ⟨S128x1, .i1⟩
  | 117 => ⟨S_, .i32⟩
  | 118 => ⟨S128x1, .i32⟩
  | 119 => ⟨S128x1, .i32⟩
  | 120 => ⟨S128x1, .i32⟩
  | 121 => ⟨S128x128, .i32⟩
  | 122 => ⟨S128x128, .i32⟩
  | 123 => ⟨S128x128, .i1⟩
  | 124 => ⟨S1x128x128, .i1⟩
  | 125 => ⟨S_, .f32⟩
  | 126 => ⟨S_, .f32⟩
  | 127 => ⟨S4x128x128, .i1⟩
  | _ => ⟨S4096x1024, .f32⟩

abbrev hbmTy0_1 (i : Nat) : BufTy := match i % 128 with
  | 0 => ⟨S4x128x128, .f32⟩
  | 1 => ⟨S4x128x128, .f32⟩
  | 2 => ⟨S4x32x256x128, .f32⟩
  | 3 => ⟨S32x128x4x256, .f32⟩
  | 4 => ⟨S128x4, .f32⟩
  | 5 => ⟨S128x4x1, .f32⟩
  | 6 => ⟨S1x128x4x1, .f32⟩
  | 7 => ⟨S32x128x4x256, .f32⟩
  | 8 => ⟨S32x128x4x256, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .bf16⟩
  | 35 => ⟨S4096x1024, .bf16⟩
  | 36 => ⟨S4096x1024, .bf16⟩
  | 37 => ⟨S4096x1024, .bf16⟩
  | 38 => ⟨S4096x1024, .bf16⟩
  | 39 => ⟨S4096x1024, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_v8 : Ref sig .tc := ⟨.hbm, 93, rfl⟩
abbrev main_call0_c : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_call0_c_0 : Ref sig .tc := ⟨.hbm, 98, rfl⟩
abbrev main_call0_v12 : Ref sig .tc := ⟨.hbm, 99, rfl⟩
abbrev main_call0_v13 : Ref sig .tc := ⟨.hbm, 100, rfl⟩
abbrev main_v60 : Ref sig .tc := ⟨.hbm, 101, rfl⟩
abbrev main_v61 : Ref sig .tc := ⟨.hbm, 102, rfl⟩
abbrev main_c_12 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_v8 : Ref sig .tc := ⟨.hbm, 112, rfl⟩
abbrev main_call1_c : Ref sig .tc := ⟨.hbm, 113, rfl⟩
abbrev main_call1_v9 : Ref sig .tc := ⟨.hbm, 114, rfl⟩
abbrev main_call1_v10 : Ref sig .tc := ⟨.hbm, 115, rfl⟩
abbrev main_call1_v11 : Ref sig .tc := ⟨.hbm, 116, rfl⟩
abbrev main_call1_c_0 : Ref sig .tc := ⟨.hbm, 117, rfl⟩
abbrev main_call1_v12 : Ref sig .tc := ⟨.hbm, 118, rfl⟩
abbrev main_call1_v13 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_cst_13 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_cst_14 : Ref sig .tc := ⟨.hbm, 144, rfl⟩
abbrev main_v82 : Ref sig .tc := ⟨.hbm, 145, rfl⟩
abbrev main_v83 : Ref sig .tc := ⟨.hbm, 146, rfl⟩
abbrev main_cst_15 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_cst_16 : Ref sig .tc := ⟨.hbm, 153, rfl⟩
abbrev main_v89 : Ref sig .tc := ⟨.hbm, 154, rfl⟩
abbrev main_v90 : Ref sig .tc := ⟨.hbm, 155, rfl⟩
abbrev main_cst_17 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_cst_18 : Ref sig .tc := ⟨.hbm, 168, rfl⟩
abbrev main_v102 : Ref sig .tc := ⟨.hbm, 169, rfl⟩
abbrev main_v103 : Ref sig .tc := ⟨.hbm, 170, rfl⟩
abbrev main_cst_19 : Ref sig .tc := ⟨.hbm, 171, rfl⟩
abbrev main_v104 : Ref sig .tc := ⟨.hbm, 172, rfl⟩
abbrev main_v105 : Ref sig .tc := ⟨.hbm, 173, rfl⟩
abbrev main_cst_20 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩

abbrev nD : Nat := 1
abbrev τ : Topo := Topo.v7x

variable {F : FTy → Type} [FloatOps F]
-- ==== Proof.DwOutValue.lean ====
/- What the weight gradient of the second product computes: each row block of the result is the sum, over the four
   blocks of tokens, of the products of the blocks, and the reference's contraction runs over all tokens at once. -/
module

public import proofs.«01_k».proof.Proof.Gen.DwOutIdeal.Value
public import proofs.«01_k».proof.Proof.Gen.DwOutReferenceIdeal.Read
public import Idealize.ShloMosaic.Lib.Pipeline.ValueKit
public import Idealize.ShloMosaic.Lib.Pointwise

@[expose] public section

set_option maxRecDepth 16384

noncomputable section

namespace Cert.DwOutIdeal.Val

open Cert.DwOutIdeal Cert.DwOutIdeal.Gen Idealize.ShloMosaic Idealize.ShloMosaic.TcCoe Idealize.SL.Sem
open Idealize.ShloMosaic.Pipeline (Dat)

variable (m : (ℓ : Loc nD τ sig) → Buf (Elt Ideal) ℓ)

/-- The blocks the windows stage at point `t`: token block `t % 4`, row block `t / 4` of the result. -/
theorem idx : ∀ t : Fin cfg0.N, win0_0.index t = ![t.val % 4, t.val / 4] ∧ win0_1.index t = ![t.val % 4, 0]
    ∧ win0_2.index t = ![t.val / 4, 0] := by decide +kernel

/-- The product of one token block. -/
def part (x : S1024x1408.Idx → EReal) (z : S1024x1024.Idx → EReal) (y : S1408x1024.Idx) : EReal :=
  ∑ k : Fin 1024, x (ix2 k (y 0)) * z (ix2 k (y 1))

theorem pay1 (x : S1024x1408.Idx → EReal) (z : S1024x1024.Idx → EReal) (y : S1408x1024.Idx) :
    k0_pay1 (F := Ideal) x z y = 0 + part x z y := by
  pointwise [k0_pay1, part]

theorem pay2 (w : S1408x1024.Idx → EReal) (x : S1024x1408.Idx → EReal) (z : S1024x1024.Idx → EReal) (y : S1408x1024.Idx) :
    k0_pay2 (F := Ideal) w x z y = w y + part x z y := by
  pointwise [k0_pay2, part]

theorem array (c : Dev nD) :
    (dats m 0 c).arrAt 2 cfg0.N = Cert.DwOutReferenceIdeal.Read.val_main_v5 (F := Ideal)
      (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  rw [Pipeline.eq_sum_fin_of_reset_step_apply_of_flush (fun n h => outsAt0 m c n h) 4 (fun _ => 0) _
    (fun t h y => by rw [outsAt0_A m c t h (by omega)]; frame_out; rw [pay1])
    (fun t h y => by rw [outsAt0_B m c t h (by omega)]; frame_out; rw [pay2]) t h3 y]
  rw [Cert.DwOutReferenceIdeal.Read.val_main_v5_apply, Cert.DwOutReferenceIdeal.Read.val_main_v4_apply]
  unfold part
  refine (zero_add (M := EReal) _).trans (Fin.sum_mul_add_congr fun s k hl => ?_)
  rw [mul_comm]
  have e := idx ⟨4 * (t.val / 4) + s.val, Pipeline.run_point_lt_of_flush t h3 s⟩
  congr 1 <;> blk_ext [iblk, V, e, idx t]

end Cert.DwOutIdeal.Val

end
-- ==== Proof.DwInValue.lean ====
/- What the weight gradient of the first product computes: each column block of the result is the sum, over the four
   blocks of tokens, of the products of the blocks, and the reference's contraction runs over all tokens at once. -/
module

public import proofs.«01_k».proof.Proof.Gen.DwInIdeal.Value
public import proofs.«01_k».proof.Proof.Gen.DwInReferenceIdeal.Read
public import Idealize.ShloMosaic.Lib.Pipeline.ValueKit
public import Idealize.ShloMosaic.Lib.Pointwise

@[expose] public section

set_option maxRecDepth 16384

noncomputable section

namespace Cert.DwInIdeal.Val

open Cert.DwInIdeal Cert.DwInIdeal.Gen Idealize.ShloMosaic Idealize.ShloMosaic.TcCoe Idealize.SL.Sem
open Idealize.ShloMosaic.Pipeline (Dat)

variable (m : (ℓ : Loc nD τ sig) → Buf (Elt Ideal) ℓ)

/-- The blocks the windows stage at point `t`: token block `t % 4`, column block `t / 4` of the result. -/
theorem idx : ∀ t : Fin cfg0.N, win0_0.index t = ![t.val % 4, 0] ∧ win0_1.index t = ![t.val % 4, t.val / 4]
    ∧ win0_2.index t = ![0, t.val / 4] := by decide +kernel

/-- The product of one token block. -/
def part (x : S1024x1024.Idx → EReal) (z : S1024x2816.Idx → EReal) (y : S1024x2816.Idx) : EReal :=
  ∑ k : Fin 1024, x (ix2 k (y 0)) * z (ix2 k (y 1))

theorem pay1 (x : S1024x1024.Idx → EReal) (z : S1024x2816.Idx → EReal) (y : S1024x2816.Idx) :
    k0_pay1 (F := Ideal) x z y = 0 + part x z y := by
  pointwise [k0_pay1, part]

theorem pay2 (w : S1024x2816.Idx → EReal) (x : S1024x1024.Idx → EReal) (z : S1024x2816.Idx → EReal) (y : S1024x2816.Idx) :
    k0_pay2 (F := Ideal) w x z y = w y + part x z y := by
  pointwise [k0_pay2, part]

theorem array (c : Dev nD) :
    (dats m 0 c).arrAt 2 cfg0.N = Cert.DwInReferenceIdeal.Read.val_main_v5 (F := Ideal)
      (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  rw [Pipeline.eq_sum_fin_of_reset_step_apply_of_flush (fun n h => outsAt0 m c n h) 4 (fun _ => 0) _
    (fun t h y => by rw [outsAt0_A m c t h (by omega)]; frame_out; rw [pay1])
    (fun t h y => by rw [outsAt0_B m c t h (by omega)]; frame_out; rw [pay2]) t h3 y]
  rw [Cert.DwInReferenceIdeal.Read.val_main_v5_apply, Cert.DwInReferenceIdeal.Read.val_main_v4_apply]
  unfold part
  refine (zero_add (M := EReal) _).trans (Fin.sum_mul_add_congr fun s k hl => ?_)
  rw [mul_comm]
  have e := idx ⟨4 * (t.val / 4) + s.val, Pipeline.run_point_lt_of_flush t h3 s⟩
  congr 1 <;> blk_ext [iblk, V, e, idx t]

end Cert.DwInIdeal.Val

end
-- ==== Proof.Lift.lean ====
/- Vectors of extended reals whose elements are real numbers. `rv a`, `rm A`, `rc A` are the vector, the matrix and the
   stack of matrices with the given real entries, the entries given as functions of natural-number coordinates. Every
   operation of the kernel's body takes such vectors to such vectors; there is one lemma per operation. -/
module

public import Idealize.ShloMosaic.Lib.Pointwise
public import Idealize.ShloMosaic.Lib.Pointwise.IndexVar
public import Idealize.ShloMosaic.Lib.ValueLayoutCasts
public import Idealize.ShloMosaic.Lib.MatmulPlain
public import Idealize.ShloMosaic.PureOps

@[expose] public section

set_option maxRecDepth 16384

noncomputable section

namespace Cert.Lift

open Idealize.ShloMosaic

variable {φ : FTy} {l m n : ℕ}

/-- The vector with entries `a`. -/
def rv (φ : FTy) (n : ℕ) (a : ℕ → ℝ) : FVec Ideal ⟨1, ![n]⟩ φ := fun i => ((a (i 0).val : ℝ) : EReal)

/-- The matrix with entries `A`. -/
def rm (φ : FTy) (m n : ℕ) (A : ℕ → ℕ → ℝ) : FVec Ideal ⟨2, ![m, n]⟩ φ := fun i => ((A (i 0).val (i 1).val : ℝ) : EReal)

/-- The stack of matrices with entries `A`. -/
def rc (φ : FTy) (l m n : ℕ) (A : ℕ → ℕ → ℕ → ℝ) : FVec Ideal ⟨3, ![l, m, n]⟩ φ :=
  fun i => ((A (i 0).val (i 1).val (i 2).val : ℝ) : EReal)

theorem rm_congr {A B : ℕ → ℕ → ℝ} (h : ∀ r < m, ∀ c < n, A r c = B r c) : rm φ m n A = rm φ m n B := by
  funext i
  exact congrArg _ (h _ (i 0).isLt _ (i 1).isLt)

theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of real entries over the coordinates of an axis. -/
theorem sum_fin (n : ℕ) (f : ℕ → ℝ) : ∑ k : Fin n, ((f k.val : ℝ) : EReal) = ((∑ k ∈ Finset.range n, f k : ℝ) : EReal) := by
  rw [sum_coe, Fin.sum_univ_eq_sum_range]

theorem mulf_rm (A B : ℕ → ℕ → ℝ) : mulf (rm φ m n A) (rm φ m n B) = rm φ m n (fun r c => A r c * B r c) := rfl
theorem addf_rm (A B : ℕ → ℕ → ℝ) : addf (rm φ m n A) (rm φ m n B) = rm φ m n (fun r c => A r c + B r c) := rfl
theorem subf_rm (A B : ℕ → ℕ → ℝ) : subf (rm φ m n A) (rm φ m n B) = rm φ m n (fun r c => A r c - B r c) := rfl
theorem tanh_rm (A : ℕ → ℕ → ℝ) : tanh (rm φ m n A) = rm φ m n (fun r c => Real.tanh (A r c)) := rfl
theorem truncf_rm (ψ : FTy) (A : ℕ → ℕ → ℝ) (h : ψ.bits < φ.bits) : (truncf ψ (rm φ m n A) h : FVec Ideal _ ψ) = rm ψ m n A := rfl

/-- A quotient by a number that is not zero. -/
theorem divf_rm (A : ℕ → ℕ → ℝ) (d : ℝ) (hd : d ≠ 0) :
    divf (rm φ m n A) (rm φ m n (fun _ _ => d)) = rm φ m n (fun r c => A r c / d) := by
  funext i
  pointwise [rm]
  rw [Ideal.div_coe hd, ← EReal.coe_mul, mul_one_div]

/-- The reciprocal square root of positive entries. -/
theorem rsqrt_rm (A : ℕ → ℕ → ℝ) (h : ∀ r c, 0 < A r c) : rsqrt (rm φ m n A) = rm φ m n (fun r c => (Real.sqrt (A r c))⁻¹) := by
  funext i
  pointwise [rm]
  rw [Ideal.rsqrt_coe, if_neg (h _ _).le.not_gt, if_neg (h _ _).ne']

theorem broadcast_rm (a : ℝ) : broadcast ⟨2, ![m, n]⟩ ((a : ℝ) : EReal) = rm φ m n (fun _ _ => a) := rfl

/-- A matrix of one constant. -/
theorem constant_zero_rm : constant (F := Ideal) ⟨2, ![m, n]⟩ .f32 0x00000000#32 = rm .f32 m n (fun _ _ => 0) := by
  funext i
  pointwise [rm]
  exact EReal.coe_zero.symm

/-- A column repeated over the columns. -/
theorem broadcastTo_col (A : ℕ → ℕ → ℝ) (h : Shape.Broadcasts ⟨2, ![m, 1]⟩ ⟨2, ![m, n]⟩) :
    broadcastTo ⟨2, ![m, n]⟩ (rm φ m 1 A) h = rm φ m n (fun r _ => A r 0) := by
  funext i
  have h0 := (i 0).isLt
  pointwise [rm]
  refine congrArg (fun j : ℕ => ((A j 0 : ℝ) : EReal)) ?_
  rcases Decidable.em (m = 1) with h1 | h1
  · have : (i 0).val < m := h0
    exact (congrArg Fin.val (dif_pos h1)).trans (show 0 = (i 0).val by omega)
  · exact congrArg Fin.val (dif_neg h1)

/-- A row repeated over the rows. -/
theorem broadcastTo_row (A : ℕ → ℕ → ℝ) (h : Shape.Broadcasts ⟨2, ![1, n]⟩ ⟨2, ![m, n]⟩) :
    broadcastTo ⟨2, ![m, n]⟩ (rm φ 1 n A) h = rm φ m n (fun _ c => A 0 c) := by
  funext i
  have h0 := (i 1).isLt
  pointwise [rm]
  refine congrArg (fun j : ℕ => ((A 0 j : ℝ) : EReal)) ?_
  rcases Decidable.em (n = 1) with h1 | h1
  · have : (i 1).val < n := h0
    exact (congrArg Fin.val (dif_pos h1)).trans (show 0 = (i 1).val by omega)
  · exact congrArg Fin.val (dif_neg h1)

theorem shapeCast_self (A : ℕ → ℕ → ℝ) (h : Shape.ShapeCasts ⟨2, ![m, n]⟩ ⟨2, ![m, n]⟩) :
    shapeCast ⟨2, ![m, n]⟩ (rm φ m n A) h = rm φ m n A := by
  funext i
  pointwise [rm]

theorem shapeCast_col (a : ℕ → ℝ) (h : Shape.ShapeCasts ⟨1, ![m]⟩ ⟨2, ![m, 1]⟩) :
    shapeCast ⟨2, ![m, 1]⟩ (rv φ m a) h = rm φ m 1 (fun r _ => a r) := by
  funext i
  rw [ValueIdx.eq_ix2 i]
  exact ValueIdx.shapeCast_a_a1_apply _ h _ _

theorem shapeCast_row (a : ℕ → ℝ) (h : Shape.ShapeCasts ⟨1, ![n]⟩ ⟨2, ![1, n]⟩) :
    shapeCast ⟨2, ![1, n]⟩ (rv φ n a) h = rm φ 1 n (fun _ c => a c) := by
  funext i
  rw [ValueIdx.eq_ix2 i]
  exact ValueIdx.shapeCast_a_1a_apply _ h _ _

theorem shapeCast_slab (A : ℕ → ℕ → ℕ → ℝ) (h : Shape.ShapeCasts ⟨3, ![1, m, n]⟩ ⟨2, ![m, n]⟩) :
    shapeCast ⟨2, ![m, n]⟩ (rc φ 1 m n A) h = rm φ m n (fun r c => A 0 r c) := by
  funext i
  rw [ValueIdx.eq_ix2 i]
  exact ValueIdx.shapeCast_1ab_ab_apply _ h _ _

theorem slice_rm (A : ℕ → ℕ → ℝ) (m' n' o p : ℕ) (h : Shape.Slices ⟨2, ![m, n]⟩ ![o, p] ⟨2, ![m', n']⟩) :
    extractStridedSlice ⟨2, ![m', n']⟩ ![o, p] (rm φ m n A) h = rm φ m' n' (fun r c => A (o + r) (p + c)) := by
  funext i
  pointwise [rm]

/-- The sum of each row. -/
theorem rowSum_rm (A : ℕ → ℕ → ℝ) (h : Shape.Reduces ⟨2, ![m, n]⟩ [1] ⟨1, ![m]⟩) (h0)
    (h1 : 0x00000000#32 = 0x00000000#32) : multiReduction .add [1] ⟨1, ![m]⟩ (rm .f32 m n A) 0x00000000#32 h h0 h1
      = rv .f32 m (fun r => ∑ c ∈ Finset.range n, A r c) := by
  funext i
  pointwise [rm, rv]
  exact sum_fin n _

/-- The sum of each column. -/
theorem colSum_rm (A : ℕ → ℕ → ℝ) (h : Shape.Reduces ⟨2, ![m, n]⟩ [0] ⟨1, ![n]⟩) (h0)
    (h1 : 0x00000000#32 = 0x00000000#32) : multiReduction .add [0] ⟨1, ![n]⟩ (rm .f32 m n A) 0x00000000#32 h h0 h1
      = rv .f32 n (fun c => ∑ r ∈ Finset.range m, A r c) := by
  funext i
  pointwise [rm, rv]
  exact sum_fin m (fun r => A r (i 0).val)

theorem shapeCast_stack (A : ℕ → ℕ → ℝ) (h : Shape.ShapeCasts ⟨2, ![m, n]⟩ ⟨3, ![1, m, n]⟩) :
    shapeCast ⟨3, ![1, m, n]⟩ (rm φ m n A) h = rc φ 1 m n (fun _ => A) := by
  funext i
  rw [ValueIdx.eq_ix3 i]
  exact ValueIdx.shapeCast_ab_1ab_apply _ h _ _ _

/-- The sum of each matrix of a stack. -/
theorem sum_rc (A : ℕ → ℕ → ℕ → ℝ) (h : Shape.Reduces ⟨3, ![l, m, n]⟩ [1, 2] ⟨1, ![l]⟩) (h0)
    (h1 : 0x00000000#32 = 0x00000000#32) : multiReduction .add [1, 2] ⟨1, ![l]⟩ (rc .f32 l m n A) 0x00000000#32 h h0 h1
      = rv .f32 l (fun a => ∑ r ∈ Finset.range m, ∑ c ∈ Finset.range n, A a r c) := by
  funext i
  pointwise [rc, rv]
  refine Eq.trans (Finset.sum_congr rfl fun r _ => sum_fin n fun c => A (i 0).val r.val c) ?_
  exact sum_fin m fun r => ∑ c ∈ Finset.range n, A (i 0).val r c

/-- A product of matrices, added to a third. -/
theorem matmul_plain (A B C : ℕ → ℕ → ℝ) :
    matmul (DotDims.plain m l n) none (rm φ m l A) (rm φ l n B) (rm .f32 m n C)
      = rm .f32 m n (fun r c => C r c + ∑ k ∈ Finset.range l, A r k * B k c) := by
  funext i
  rw [ValueIdx.eq_ix2 i]
  refine (Ideal.matmul_plain_apply none _ _ _ (i 0) (i 1)).trans ?_
  exact (congrArg (((C (i 0).val (i 1).val : ℝ) : EReal) + ·) (sum_fin l fun k => A (i 0).val k * B k (i 1).val)).trans (EReal.coe_add _ _).symm

/-- A product with a transposed matrix, added to a third. -/
theorem matmul_transposed (A B C : ℕ → ℕ → ℝ) :
    matmul (DotDims.transposedRhs m l n) none (rm φ m l A) (rm φ n l B) (rm .f32 m n C)
      = rm .f32 m n (fun r c => C r c + ∑ k ∈ Finset.range l, A r k * B c k) := by
  funext i
  rw [ValueIdx.eq_ix2 i]
  refine (Ideal.matmul_transposedRhs_apply none _ _ _ (i 0) (i 1)).trans ?_
  exact (congrArg (((C (i 0).val (i 1).val : ℝ) : EReal) + ·) (sum_fin l fun k => A (i 0).val k * B (i 1).val k)).trans (EReal.coe_add _ _).symm

/-- Two matrices side by side. -/
theorem concatenate_cols (A B : ℕ → ℕ → ℝ) (n' : ℕ) (h) :
    concatenate ⟨2, ![m, n + n']⟩ 1 [⟨⟨2, ![m, n]⟩, rm φ m n A⟩, ⟨⟨2, ![m, n']⟩, rm φ m n' B⟩] h
      = rm φ m (n + n') (fun r c => if c < n then A r c else B r (c - n)) := by
  funext i
  pointwise [rm]
  split <;> rfl

/-- One matrix above another. -/
theorem concatenate_rows (A B : ℕ → ℕ → ℝ) (m' : ℕ) (h) :
    concatenate ⟨2, ![m + m', n]⟩ 0 [⟨⟨2, ![m, n]⟩, rm φ m n A⟩, ⟨⟨2, ![m', n]⟩, rm φ m' n B⟩] h
      = rm φ (m + m') n (fun r c => if r < m then A r c else B (r - m) c) := by
  funext i
  pointwise [rm]
  split <;> rfl

end Cert.Lift

end
-- ==== Proof.Spec.lean ====
/- The feed-forward part of the step over the real numbers: what each row of the arrays is, forward and backward, as a
   function of the activations, the target, the two weights and the two gains. -/
module

public import proofs.«01_k».proof.Proof.Lift

@[expose] public section

set_option maxRecDepth 16384

noncomputable section

namespace Cert.Ffn

open Idealize.ShloMosaic Cert.Lift

/-- The number added under the square roots of the normalisations. -/
def eps : ℝ := 8796093 / 8796093022208

/-- The logistic function as the kernel computes it. -/
def sg (z : ℝ) : ℝ := 1 / 2 * Real.tanh (1 / 2 * z) + 1 / 2

/-- The reciprocal root mean square of row `r` of `A`. -/
def inv (A : ℕ → ℕ → ℝ) (r : ℕ) : ℝ := (Real.sqrt ((∑ c ∈ Finset.range 1024, A r c * A r c) / 1024 + eps))⁻¹

/-- The gradient of a normalised row: `n` the row over its root mean square, `d` the gradient of `n`. -/
def invBack (s : ℝ) (n d : ℕ → ℝ) (c : ℕ) : ℝ := s * (d c - n c * ((∑ k ∈ Finset.range 1024, d k * n k) / 1024))

/-- The operands: activations and target by row, the two weights, the two gains. -/
structure Data where
  x : ℕ → ℕ → ℝ
  tgt : ℕ → ℕ → ℝ
  wi : ℕ → ℕ → ℝ
  wo : ℕ → ℕ → ℝ
  g₁ : ℕ → ℝ
  g₂ : ℕ → ℝ

namespace Data

variable (D : Data)

/-- The same operands, the rows from row `o` on. -/
def shift (o : ℕ) : Data := { D with x := fun r => D.x (o + r), tgt := fun r => D.tgt (o + r) }

/-- The row of activations over its root mean square. -/
def n₁ (r c : ℕ) : ℝ := D.x r c * inv D.x r
/-- The row the first product takes. -/
def h (r c : ℕ) : ℝ := D.n₁ r c * D.g₁ c
/-- The first product: gates in the columns below 2816, the values they gate from there on. -/
def gu (r j : ℕ) : ℝ := ∑ k ∈ Finset.range 1024, D.h r k * D.wi k j
def gate (r j : ℕ) : ℝ := D.gu r j
def up (r j : ℕ) : ℝ := D.gu r (2816 + j)
/-- The gated row the second product takes. -/
def f (r j : ℕ) : ℝ := D.gate r j * sg (D.gate r j) * D.up r j
/-- The second product. -/
def y (r c : ℕ) : ℝ := ∑ j ∈ Finset.range 2816, D.f r j * D.wo j c
/-- The second product over its root mean square. -/
def n₂ (r c : ℕ) : ℝ := D.y r c * inv D.y r
def err (r c : ℕ) : ℝ := D.x r c + D.n₂ r c * D.g₂ c - D.tgt r c

/-- The gradient of the layer's result. -/
def dx₂ (r c : ℕ) : ℝ := D.err r c * (1 / 1024)
def dy (r c : ℕ) : ℝ := invBack (inv D.y r) (D.n₂ r) (fun k => D.dx₂ r k * D.g₂ k) c
def df (r j : ℕ) : ℝ := ∑ c ∈ Finset.range 1024, D.dy r c * D.wo j c
def dgate (r j : ℕ) : ℝ := D.df r j * D.up r j * (sg (D.gate r j) * (1 + D.gate r j * (1 - sg (D.gate r j))))
def dup (r j : ℕ) : ℝ := D.df r j * (D.gate r j * sg (D.gate r j))
def dgu (r j : ℕ) : ℝ := if j < 2816 then D.dgate r j else D.dup r (j - 2816)
def dh (r k : ℕ) : ℝ := ∑ j ∈ Finset.range 5632, D.dgu r j * D.wi k j
def dx₁ (r c : ℕ) : ℝ := D.dx₂ r c + invBack (inv D.x r) (D.n₁ r) (fun k => D.dh r k * D.g₁ k) c

/-- One row's share of the loss and of the gradients of the two gains. -/
def loss (r : ℕ) : ℝ := (∑ c ∈ Finset.range 1024, D.err r c * D.err r c) * (1 / 2048)
def dg₁ (r c : ℕ) : ℝ := D.dh r c * D.n₁ r c
def dg₂ (r c : ℕ) : ℝ := D.dx₂ r c * D.n₂ r c

end Data

end Cert.Ffn

end
-- ==== Proof.PayFwd.lean ====
/- What the forward half of the kernel's body computes from blocks of real numbers: the payload of each store and load,
   one lemma each, in the order of the body. -/
module

public import proofs.«01_k».proof.Proof.Gen.KernelIdeal.Value
public import proofs.«01_k».proof.Proof.Spec

@[expose] public section

set_option maxRecDepth 16384

noncomputable section

namespace Cert.KernelIdeal.Val

open Cert.KernelIdeal Cert.KernelIdeal.Gen Idealize.ShloMosaic Idealize.ShloMosaic.TcCoe Cert.Lift Cert.Ffn

/-! ## The products' shapes and the constants -/

theorem dot_top : dot_S256x512_S512x1280_S256x1280_1_0_0_1_n_n = DotDims.plain 256 512 1280 := rfl
theorem dot_topN : dot_S256x512_S512x256_S256x256_1_0_0_1_n_n = DotDims.plain 256 512 256 := rfl
theorem dot_out : dot_S256x1280_S1280x1024_S256x1024_1_0_0_1_n_n = DotDims.plain 256 1280 1024 := rfl
theorem dot_outN : dot_S256x256_S256x1024_S256x1024_1_0_0_1_n_n = DotDims.plain 256 256 1024 := rfl

variable {m n : ℕ}

theorem lit_1024 : broadcast ⟨2, ![m, n]⟩ (Scalar.ofBits (F := Ideal) .f32 0x44800000#32) = rm .f32 m n (fun _ _ => 1024) := by
  have h : Ideal.ofBits .f32 0x44800000#32 = ((1024 : ℝ) : EReal) := by
    simp [Ideal.ofBits, Ideal.ieee, -EReal.coe_mul]; norm_num
  exact congrArg (broadcast _) h
theorem lit_half : broadcast ⟨2, ![m, n]⟩ (Scalar.ofBits (F := Ideal) .f32 0x3F000000#32) = rm .f32 m n (fun _ _ => 1 / 2) := by
  have h : Ideal.ofBits .f32 0x3F000000#32 = ((1 / 2 : ℝ) : EReal) := by
    simp [Ideal.ofBits, Ideal.ieee, -EReal.coe_mul]; norm_num
  exact congrArg (broadcast _) h
theorem lit_one : broadcast ⟨2, ![m, n]⟩ (Scalar.ofBits (F := Ideal) .f32 0x3F800000#32) = rm .f32 m n (fun _ _ => 1) := by
  have h : Ideal.ofBits .f32 0x3F800000#32 = ((1 : ℝ) : EReal) := by
    simp [Ideal.ofBits, Ideal.ieee, -EReal.coe_mul]; norm_num
  exact congrArg (broadcast _) h
theorem lit_inv1024 : broadcast ⟨2, ![m, n]⟩ (Scalar.ofBits (F := Ideal) .f32 0x3A800000#32) = rm .f32 m n (fun _ _ => 1 / 1024) := by
  have h : Ideal.ofBits .f32 0x3A800000#32 = ((1 / 1024 : ℝ) : EReal) := by
    simp [Ideal.ofBits, Ideal.ieee, -EReal.coe_mul]; norm_num
  exact congrArg (broadcast _) h
theorem lit_eps : broadcast ⟨2, ![m, n]⟩ (Scalar.ofBits (F := Ideal) .f32 0x358637BD#32) = rm .f32 m n (fun _ _ => eps) := by
  have h : Ideal.ofBits .f32 0x358637BD#32 = ((eps : ℝ) : EReal) := by
    unfold eps
    simp [Ideal.ofBits, Ideal.ieee, -EReal.coe_mul]; norm_num
  exact congrArg (broadcast _) h
theorem lit_zero : broadcast ⟨2, ![m, n]⟩ (Scalar.ofBits (F := Ideal) .f32 0x00000000#32) = rm .f32 m n (fun _ _ => 0) :=
  congrArg (broadcast _) (show Ideal.ofBits .f32 0x00000000#32 = ((0 : ℝ) : EReal) by simp [Ideal.ofBits, Ideal.ieee])

/-- The mean square with the small number added is positive. -/
theorem msq_pos (A : ℕ → ℕ → ℝ) (r : ℕ) : 0 < (∑ c ∈ Finset.range 1024, A r c * A r c) / 1024 + eps := by
  have := Finset.sum_nonneg fun c (_ : c ∈ Finset.range 1024) => mul_self_nonneg (A r c)
  unfold eps; positivity

/-! ## The first product -/

variable (D : Data)

abbrev X := rm .f32 256 1024 D.x
abbrev G1 := rm .f32 1 1024 fun _ => D.g₁
abbrev G2 := rm .f32 1 1024 fun _ => D.g₂
abbrev T := rm .f32 256 1024 D.tgt
abbrev H := rm .bf16 256 1024 D.h

/-- The window of the first weight from row `o` and column `p` on, and of the second from row `o` on. -/
abbrev Wi (m n o p : ℕ) := rc .bf16 1 m n fun _ r c => D.wi (o + r) (p + c)
abbrev Wo (m o : ℕ) := rm .bf16 m 1024 fun r c => D.wo (o + r) c

theorem rowSum (A : ℕ → ℕ → ℝ) : multiReduction .add [1] S256 (rm .f32 256 1024 A) 0x00000000#32 reduces_S256x1024_S256 (.inl rfl) rfl
    = rv .f32 256 (fun r => ∑ c ∈ Finset.range 1024, A r c) := rowSum_rm A _ _ _

theorem pay7 : k0_pay7 (X D) = rm .f32 256 1 (fun r _ => inv D.x r) := by
  simp only [k0_pay7, X, mulf_rm, rowSum_rm (m := 256) (n := 1024) _ reduces_S256x1024_S256 (.inl rfl) rfl, shapeCast_col, lit_1024, lit_eps]
  rw [divf_rm _ _ (by norm_num), addf_rm, rsqrt_rm _ fun r _ => msq_pos D.x r]
  rfl

theorem pay8 : k0_pay8 (X D) (G1 D) = H D := by
  simp only [k0_pay8, pay7, X, G1, broadcastTo_col, broadcastTo_row, mulf_rm, truncf_rm]
  rfl

/-- The two halves of a product over 1024. -/
theorem sum_halves (u : ℕ → ℝ) : (∑ k ∈ Finset.range 512, u k) + ∑ k ∈ Finset.range 512, u (512 + k) = ∑ k ∈ Finset.range 1024, u k :=
  (Finset.sum_range_add u 512 512).symm

abbrev gu (φ : FTy) (n p : ℕ) := rm φ 256 n fun r c => D.gu r (p + c)
/-- The first 512 terms of the first product's sums. -/
abbrev guTop (n p : ℕ) := rm .f32 256 n fun r c => ∑ k ∈ Finset.range 512, D.h r k * D.wi k (p + c)

theorem pay10 : k0_pay10 (X D) (G1 D) (Wi D 512 1280 0 0) (Wi D 512 1280 512 0) = gu D .f32 1280 0 := by
  simp only [k0_pay10, pay8, slice_rm, shapeCast_slab, constant_zero_rm, dot_top, matmul_plain, addf_rm, zero_add]
  exact rm_congr fun r _ c _ => by rw [zero_add]; exact sum_halves fun k => D.h r k * D.wi k c

theorem pay11 : k0_pay11 (X D) (G1 D) (Wi D 512 1280 0 2816) = guTop D 1280 2816 := by
  simp only [k0_pay11, pay8, slice_rm, shapeCast_slab, constant_zero_rm, dot_top, matmul_plain, zero_add]

theorem pay12 : k0_pay12 (H D) (guTop D 1280 2816) (Wi D 512 1280 512 2816) = gu D .f32 1280 2816 := by
  simp only [k0_pay12, slice_rm, shapeCast_slab, constant_zero_rm, dot_top, matmul_plain, addf_rm, zero_add]
  exact rm_congr fun r _ c _ => sum_halves fun k => D.h r k * D.wi k (2816 + c)

theorem pay13 (A : ℕ → ℕ → ℝ) : k0_pay13 (rm .f32 256 1280 A) = rm .f32 256 1280 A := by
  simp only [k0_pay13, Lift.shapeCast_self]

theorem pay14 : k0_pay14 (H D) (guTop D 1280 2816) (Wi D 512 1280 512 2816) = gu D .f32 1280 2816 := by
  simp only [k0_pay14, pay12, Lift.shapeCast_self]

abbrev fw (n p : ℕ) := rm .bf16 256 n fun r c => D.f r (p + c)

theorem pay15 : k0_pay15 (H D) (gu D .f32 1280 0) (guTop D 1280 2816) (Wi D 512 1280 512 2816) = fw D 1280 0 := by
  simp only [k0_pay15, pay12, lit_half, mulf_rm, tanh_rm, addf_rm, truncf_rm]
  exact rm_congr fun r _ c _ => by simp only [zero_add]; rfl

/-! ## The second product, over the columns of the first piece, then of the second, then of the two remainders -/

abbrev y₀ := rm .f32 256 1024 fun r c => ∑ j ∈ Finset.range 1280, D.f r j * D.wo j c
abbrev y₁ := rm .f32 256 1024 fun r c =>
  (∑ j ∈ Finset.range 1280, D.f r j * D.wo j c) + ∑ j ∈ Finset.range 1280, D.f r (1408 + j) * D.wo (1408 + j) c

theorem pay9 : k0_pay9 (F := Ideal) = rm .f32 256 1024 fun _ _ => 0 := lit_zero

theorem pay16 : k0_pay16 (H D) (rm .f32 256 1024 fun _ _ => 0) (gu D .f32 1280 0) (guTop D 1280 2816) (Wi D 512 1280 512 2816)
    (Wo D 1280 0) = y₀ D := by
  simp only [k0_pay16, pay15, Lift.shapeCast_self, constant_zero_rm, dot_out, matmul_plain, addf_rm, zero_add]

theorem pay17 : k0_pay17 (H D) (Wi D 512 1280 0 1408) = guTop D 1280 1408 := by
  simp only [k0_pay17, slice_rm, shapeCast_slab, constant_zero_rm, dot_top, matmul_plain, zero_add]

abbrev Hbot := rm .bf16 256 512 fun r c => D.h r (512 + c)

theorem pay18 : k0_pay18 (H D) = Hbot D := by
  simp only [k0_pay18, slice_rm, zero_add]

abbrev WiBot := rm .bf16 512 1280 fun r c => D.wi (512 + r) (1408 + c)

theorem pay19 : k0_pay19 (Wi D 512 1280 512 1408) = WiBot D := by
  simp only [k0_pay19, shapeCast_slab]

abbrev Z := constant (F := Ideal) S256x1280 .f32 0x00000000#32

theorem pay20 : k0_pay20 (guTop D 1280 1408) (Hbot D) (WiBot D) Z = gu D .f32 1280 1408 := by
  simp only [k0_pay20, Z, constant_zero_rm, dot_top, matmul_plain, addf_rm, zero_add]
  exact rm_congr fun r _ c _ => sum_halves fun k => D.h r k * D.wi k (1408 + c)

theorem pay21 : k0_pay21 (H D) (Wi D 512 1280 0 4224) (Wi D 512 1280 512 4224) = gu D .f32 1280 4224 := by
  simp only [k0_pay21, slice_rm, shapeCast_slab, constant_zero_rm, dot_top, matmul_plain, addf_rm, zero_add]
  exact rm_congr fun r _ c _ => sum_halves fun k => D.h r k * D.wi k (4224 + c)

theorem pay22 : k0_pay22 (guTop D 1280 1408) (Hbot D) (WiBot D) Z = gu D .f32 1280 1408 := by
  simp only [k0_pay22, pay20, Lift.shapeCast_self]

theorem pay23 : k0_pay23 (H D) (Wi D 512 1280 0 4224) (Wi D 512 1280 512 4224) = gu D .f32 1280 4224 := by
  simp only [k0_pay23, pay21, Lift.shapeCast_self]

/-- A value's column of the first product is 2816 beyond its gate's. -/
theorem up_eq (r p p' c : ℕ) (h : p' = 2816 + p) : D.gu r (p' + c) = D.up r (p + c) := by
  rw [h, Nat.add_assoc]; rfl

theorem pay24 : k0_pay24 (H D) (guTop D 1280 1408) (Hbot D) (WiBot D) Z (Wi D 512 1280 0 4224) (Wi D 512 1280 512 4224)
    = fw D 1280 1408 := by
  simp only [k0_pay24, pay20, pay21, lit_half, mulf_rm, tanh_rm, addf_rm, truncf_rm]
  exact rm_congr fun r _ c _ => by rw [up_eq D r 1408 4224 c rfl]; rfl

theorem pay25 : k0_pay25 (H D) (y₀ D) (guTop D 1280 1408) (Hbot D) (WiBot D) Z (Wi D 512 1280 0 4224) (Wi D 512 1280 512 4224)
    (Wo D 1280 1408) = y₁ D := by
  simp only [k0_pay25, pay24 D]
  simp only [Lift.shapeCast_self, constant_zero_rm, dot_out, matmul_plain, addf_rm, zero_add]

abbrev Htop := rm .bf16 256 512 fun r c => D.h r c

theorem pay26 : k0_pay26 (H D) = Htop D := by
  simp only [k0_pay26, slice_rm, zero_add]

/-- The column of the whole that column `c` of the joined remainders is. -/
def col (c : ℕ) : ℕ := if c < 128 then 1280 + c else 2688 + (c - 128)

theorem joined (A B : ℕ → ℕ → ℕ → ℝ) : concatenate S512x256 1
      [⟨S512x128, shapeCast S512x128 (rc .bf16 1 512 128 A) shapeCasts_S1x512x128_S512x128⟩,
        ⟨S512x128, shapeCast S512x128 (rc .bf16 1 512 128 B) shapeCasts_S1x512x128_S512x128⟩]
      concatenates_S512x128_S512x128_S512x256_d1
    = rm .bf16 512 256 fun r c => if c < 128 then A 0 r c else B 0 r (c - 128) := by
  rw [shapeCast_slab A, shapeCast_slab B]
  exact concatenate_cols _ _ 128 _

theorem joinedRows (A B : ℕ → ℕ → ℝ) : concatenate S256x1024 0
      [⟨S128x1024, shapeCast S128x1024 (rm .bf16 128 1024 A) shapeCasts_S128x1024_S128x1024⟩,
        ⟨S128x1024, shapeCast S128x1024 (rm .bf16 128 1024 B) shapeCasts_S128x1024_S128x1024⟩]
      concatenates_S128x1024_S128x1024_S256x1024_d0
    = rm .bf16 256 1024 fun r c => if r < 128 then A r c else B (r - 128) c := by
  rw [Lift.shapeCast_self A, Lift.shapeCast_self B]
  exact concatenate_rows _ _ 128 _

abbrev gateN := rm .f32 256 256 fun r c => D.gate r (col c)
abbrev upN := rm .f32 256 256 fun r c => D.up r (col c)
abbrev fN := rm .bf16 256 256 fun r c => D.f r (col c)

theorem pay27 : k0_pay27 (H D) (Htop D) (Wi D 512 128 0 1280) (Wi D 512 128 0 2688) (Wi D 512 128 512 1280) (Wi D 512 128 512 2688)
    = gateN D := by
  simp only [k0_pay27, slice_rm, shapeCast_slab, joined, constant_zero_rm, dot_topN, matmul_plain, addf_rm, zero_add]
  refine rm_congr fun r _ c _ => (Eq.trans ?_ (sum_halves fun k => D.h r k * D.wi k (col c)))
  unfold col
  split <;> rfl

theorem pay28 : k0_pay28 (H D) (Wi D 512 128 0 4096) (Wi D 512 128 0 5504) (Wi D 512 128 512 4096) (Wi D 512 128 512 5504)
    = upN D := by
  simp only [k0_pay28, slice_rm, shapeCast_slab, joined, constant_zero_rm, dot_topN, matmul_plain, addf_rm, zero_add]
  refine rm_congr fun r _ c _ => (Eq.trans ?_ (sum_halves fun k => D.h r k * D.wi k (2816 + col c)))
  unfold col
  split
  · simp only [← Nat.add_assoc]
  · simp only [← Nat.add_assoc]

theorem pay29 : k0_pay29 (H D) (Htop D) (Wi D 512 128 0 1280) (Wi D 512 128 0 2688) (Wi D 512 128 512 1280) (Wi D 512 128 512 2688)
    = gu D .f32 128 1280 := by
  simp only [k0_pay29, pay27, slice_rm, Lift.shapeCast_self, zero_add]
  exact rm_congr fun r _ c hc => by rw [col, if_pos hc]; rfl

theorem pay30 : k0_pay30 (gateN D) = gu D .f32 128 2688 := by
  simp only [k0_pay30, slice_rm, Lift.shapeCast_self, zero_add]
  exact rm_congr fun r _ c hc => by rw [col, if_neg (by omega), Nat.add_sub_cancel_left]; rfl

theorem pay31 : k0_pay31 (upN D) = gu D .f32 128 4096 := by
  simp only [k0_pay31, slice_rm, Lift.shapeCast_self, zero_add]
  exact rm_congr fun r _ c hc => by rw [col, if_pos hc, up_eq D r 1280 4096 c rfl]

theorem pay32 : k0_pay32 (upN D) = gu D .f32 128 5504 := by
  simp only [k0_pay32, slice_rm, Lift.shapeCast_self, zero_add]
  exact rm_congr fun r _ c hc => by rw [col, if_neg (by omega), Nat.add_sub_cancel_left, up_eq D r 2688 5504 c rfl]

theorem pay33 : k0_pay33 (gateN D) (upN D) = fN D := by
  simp only [k0_pay33, lit_half, mulf_rm, tanh_rm, addf_rm, truncf_rm]
  rfl

theorem pay34 : k0_pay34 (gateN D) (upN D) = fw D 128 1280 := by
  simp only [k0_pay34, pay33, slice_rm, zero_add]
  exact rm_congr fun r _ c hc => by rw [col, if_pos hc]

theorem pay35 : k0_pay35 (gateN D) (upN D) = fw D 128 2688 := by
  simp only [k0_pay35, pay33, slice_rm, zero_add]
  exact rm_congr fun r _ c hc => by rw [col, if_neg (by omega), Nat.add_sub_cancel_left]

/-- A sum over the joined remainders. -/
theorem sum_col (u : ℕ → ℝ) : ∑ k ∈ Finset.range 256, u (col k)
    = (∑ k ∈ Finset.range 128, u (1280 + k)) + ∑ k ∈ Finset.range 128, u (2688 + k) := by
  rw [Finset.sum_range_add (fun k => u (col k)) 128 128]
  refine congrArg₂ (· + ·) (Finset.sum_congr rfl fun k hk => ?_) (Finset.sum_congr rfl fun k _ => ?_)
  · rw [col, if_pos (Finset.mem_range.mp hk)]
  · rw [col, if_neg (by omega), Nat.add_sub_cancel_left]

/-- The two pieces and the joined remainders are the 2816 columns. -/
theorem sum_pieces (u : ℕ → ℝ) : (∑ j ∈ Finset.range 1280, u j) + (∑ j ∈ Finset.range 1280, u (1408 + j))
    + (∑ k ∈ Finset.range 256, u (col k)) = ∑ j ∈ Finset.range 2816, u j := by
  rw [sum_col, Finset.sum_range_add u 1408 1408, Finset.sum_range_add u 1280 128,
    Finset.sum_range_add (fun j => u (1408 + j)) 1280 128]
  simp only [← Nat.add_assoc]
  ring

abbrev Y := rm .f32 256 1024 D.y

theorem pay36 : k0_pay36 (y₁ D) (gateN D) (upN D) (Wo D 128 1280) (Wo D 128 2688) = Y D := by
  simp only [k0_pay36, pay33, Lift.shapeCast_self, joinedRows, constant_zero_rm, dot_outN, matmul_plain, addf_rm, zero_add]
  refine rm_congr fun r _ c _ => (Eq.trans ?_ (sum_pieces fun j => D.f r j * D.wo j c))
  refine congrArg (HAdd.hAdd (_ : ℝ)) (Finset.sum_congr rfl fun k _ => ?_)
  unfold col
  split <;> rfl

end Cert.KernelIdeal.Val

end
-- ==== Proof.PayMid.lean ====
/- What the middle of the kernel's body computes from blocks of real numbers, the residual, the loss and the gradient of the
   second normalisation: the payload of each store and load,
   one lemma each, in the order of the body. -/
module

public import proofs.«01_k».proof.Proof.Gen.KernelIdeal.Value
public import proofs.«01_k».proof.Proof.PayFwd

@[expose] public section

set_option maxRecDepth 16384

noncomputable section

namespace Cert.KernelIdeal.Val

open Cert.KernelIdeal Cert.KernelIdeal.Gen Idealize.ShloMosaic Idealize.ShloMosaic.TcCoe Cert.Lift Cert.Ffn

variable (D : Data)

/-! ## The residual, the loss and the gradient of the second normalisation -/

abbrev YY := rm .f32 256 1 fun r _ => ∑ c ∈ Finset.range 1024, D.y r c * D.y r c

theorem pay37 : k0_pay37 (y₁ D) (gateN D) (upN D) (Wo D 128 1280) (Wo D 128 2688) = YY D := by
  simp only [k0_pay37, pay36, mulf_rm, rowSum_rm (m := 256) (n := 1024) _ reduces_S256x1024_S256 (.inl rfl) rfl, shapeCast_col]

theorem pay38 : k0_pay38 (YY D) = rm .f32 256 1 (fun r _ => inv D.y r) := by
  simp only [k0_pay38, lit_1024, lit_eps]
  rw [divf_rm _ _ (by norm_num), addf_rm, rsqrt_rm _ fun r _ => msq_pos D.y r]
  rfl

theorem pay39 : k0_pay39 (X D) (Y D) (YY D) (G2 D) (T D) = rm .f32 256 1024 D.err := by
  simp only [k0_pay39, pay38, broadcastTo_col, broadcastTo_row, mulf_rm, addf_rm, subf_rm]
  rfl

theorem pay41 : k0_pay41 (X D) (Y D) (YY D) (G2 D) (T D) = rm .f32 256 1024 D.dx₂ := by
  simp only [k0_pay41, pay39, lit_inv1024, mulf_rm]
  rfl

theorem pay42 : k0_pay42 (Y D) (YY D) = rm .f32 256 1024 D.n₂ := by
  simp only [k0_pay42, pay38, broadcastTo_col, mulf_rm]
  rfl

theorem pay43 : k0_pay43 (X D) (Y D) (YY D) (G2 D) (T D) (G2 D) = rm .f32 256 1024 D.dy := by
  simp only [k0_pay43, pay38, pay41, pay42, broadcastTo_col, broadcastTo_row, mulf_rm, subf_rm, lit_1024,
    rowSum_rm (m := 256) (n := 1024) _ reduces_S256x1024_S256 (.inl rfl) rfl, shapeCast_col]
  rw [divf_rm _ _ (by norm_num)]
  simp only [broadcastTo_col, mulf_rm, subf_rm]
  rfl

theorem pay44 : k0_pay44 (X D) (Y D) (YY D) (G2 D) (T D) = rm .f32 256 1024 D.dg₂ := by
  simp only [k0_pay44, pay41, pay42, mulf_rm]
  rfl

theorem pay45 (A v : ℕ → ℕ → ℝ) : k0_pay45 (rm .f32 256 1024 A) (rm .f32 1 1024 v)
    = rm .f32 1 1024 fun a c => v a c + ∑ r ∈ Finset.range 256, A r c := by
  simp only [k0_pay45, Lift.shapeCast_self, colSum_rm (m := 256) (n := 1024) _ reduces_S256x1024_S1024 (.inl rfl) rfl,
    shapeCast_row, addf_rm]

theorem pay46 (A : ℕ → ℕ → ℝ) : k0_pay46 (rm .f32 256 1024 A) = rm .bf16 256 1024 A := rfl

theorem pay4 : k0_pay4 (F := Ideal) = rm .f32 1 128 fun _ _ => 0 := lit_zero
theorem pay5 : k0_pay5 (F := Ideal) = rm .f32 1 1024 fun _ _ => 0 := lit_zero
theorem pay6 : k0_pay6 (F := Ideal) = rm .f32 1 1024 fun _ _ => 0 := lit_zero

/-- The one element of a vector of one element, laid out with three axes. -/
theorem only (a : ℕ → ℝ) (h : Shape.ShapeCasts S1 S1x1x1) (h') :
    extractAt ![0, 0, 0] (shapeCast S1x1x1 (rv .f32 1 a) h) h' = ((a 0 : ℝ) : EReal) :=
  congrArg (fun k : Fin 1 => ((a k.val : ℝ) : EReal)) (Subsingleton.elim _ 0)

theorem pay40 (v : ℕ → ℕ → ℝ) : k0_pay40 (X D) (Y D) (YY D) (G2 D) (T D) (rm .f32 1 128 v)
    = rm .f32 1 128 fun a c => v a c + ∑ r ∈ Finset.range 256, D.loss r := by
  have hl : Scalar.ofBits (F := Ideal) .f32 0x3A000000#32 = ((1 / 2048 : ℝ) : EReal) := by
    show Ideal.ofBits .f32 0x3A000000#32 = _
    simp [Ideal.ofBits, Ideal.ieee, -EReal.coe_mul]; norm_num
  simp only [k0_pay40, pay39, mulf_rm, Lift.shapeCast_self, shapeCast_stack,
    sum_rc (l := 1) (m := 256) (n := 1024) _ reduces_S1x256x1024_S1 (.inl rfl) rfl, only, hl]
  have e : Scalar.mulf (F := Ideal) (φ := .f32) ((∑ r ∈ Finset.range 256, ∑ c ∈ Finset.range 1024, D.err r c * D.err r c : ℝ) : EReal)
      ((1 / 2048 : ℝ) : EReal) = ((∑ r ∈ Finset.range 256, D.loss r : ℝ) : EReal) := by
    simp only [Data.loss, ← Finset.sum_mul]
    exact (EReal.coe_mul _ _).symm
  rw [e]
  exact (congrArg _ (broadcast_rm (φ := .f32) (m := 1) (n := 128) _)).trans (addf_rm _ _)

end Cert.KernelIdeal.Val

end
-- ==== Proof.PayBwd.lean ====
/- What the backward half of the kernel's body computes from blocks of real numbers: the payload of each store and load,
   one lemma each, in the order of the body. -/
module

public import proofs.«01_k».proof.Proof.Gen.KernelIdeal.Value
public import proofs.«01_k».proof.Proof.PayMid

@[expose] public section

set_option maxRecDepth 16384

noncomputable section

namespace Cert.KernelIdeal.Val

open Cert.KernelIdeal Cert.KernelIdeal.Gen Idealize.ShloMosaic Idealize.ShloMosaic.TcCoe Cert.Lift Cert.Ffn

variable {m n : ℕ} (D : Data)

/-! ## The shapes of the products with a transposed weight -/

theorem dot_df : dot_S256x1024_S1280x1024_S256x1280_1_1_0_0_n_n = DotDims.transposedRhs 256 1024 1280 := rfl
theorem dot_dfN : dot_S256x1024_S256x1024_S256x256_1_1_0_0_n_n = DotDims.transposedRhs 256 1024 256 := rfl
theorem dot_dh : dot_S256x1280_S512x1280_S256x512_1_1_0_0_n_n = DotDims.transposedRhs 256 1280 512 := rfl
theorem dot_dhN : dot_S256x256_S512x256_S256x512_1_1_0_0_n_n = DotDims.transposedRhs 256 256 512 := rfl

/-! ## The gradients of the gates and of the values, a piece of columns at a time -/

abbrev DY := rm .f32 256 1024 D.dy
abbrev DYb := rm .bf16 256 1024 D.dy
abbrev dfw (n p : ℕ) := rm .f32 256 n fun r c => D.df r (p + c)
abbrev sgw (n p : ℕ) := rm .f32 256 n fun r c => sg (D.gate r (p + c))
abbrev dgw (n p : ℕ) := rm .bf16 256 n fun r c => D.dgate r (p + c)
abbrev duw (n p : ℕ) := rm .bf16 256 n fun r c => D.dup r (p + c)

theorem pay49 : k0_pay49 (DY D) (Wo D 1280 0) = dfw D 1280 0 := by
  simp only [k0_pay49, pay46, Lift.shapeCast_self, constant_zero_rm, dot_df, matmul_transposed, zero_add]
  exact rm_congr fun r _ c _ => by rw [zero_add]; rfl

theorem pay50 : k0_pay50 (gu D .f32 1280 0) = sgw D 1280 0 := by
  simp only [k0_pay50, lit_half, mulf_rm, tanh_rm, addf_rm]
  rfl

theorem pay51 : k0_pay51 (DY D) (Wo D 1280 0) (gu D .f32 1280 0) (gu D .f32 1280 2816) = dgw D 1280 0 := by
  simp only [k0_pay51, pay49, pay50, lit_one, mulf_rm, subf_rm, addf_rm, truncf_rm]
  exact rm_congr fun r _ c _ => by rw [up_eq D r 0 2816 c rfl]; rfl

theorem pay52 : k0_pay52 (DY D) (Wo D 1280 0) (gu D .f32 1280 0) = duw D 1280 0 := by
  simp only [k0_pay52, pay49, pay50, mulf_rm, truncf_rm]
  rfl

theorem pay55 : k0_pay55 (DYb D) (Wo D 1280 1408) = dfw D 1280 1408 := by
  simp only [k0_pay55, Lift.shapeCast_self, constant_zero_rm, dot_df, matmul_transposed, zero_add]
  rfl

theorem pay56 : k0_pay56 (gu D .f32 1280 1408) = sgw D 1280 1408 := by
  simp only [k0_pay56, lit_half, mulf_rm, tanh_rm, addf_rm]
  rfl

abbrev dfup := rm .f32 256 1280 fun r c => D.df r (1408 + c) * D.up r (1408 + c)

theorem pay57 : k0_pay57 (DYb D) (Wo D 1280 1408) (gu D .f32 1280 4224) = dfup D := by
  simp only [k0_pay57, pay55, mulf_rm]
  exact rm_congr fun r _ c _ => by rw [up_eq D r 1408 4224 c rfl]

theorem pay58 : k0_pay58 (gu D .f32 1280 1408) (sgw D 1280 1408) (dfup D) = dgw D 1280 1408 := by
  simp only [k0_pay58, lit_one, mulf_rm, subf_rm, addf_rm, truncf_rm]
  rfl

theorem pay59 : k0_pay59 (dfw D 1280 1408) (gu D .f32 1280 1408) (sgw D 1280 1408) = duw D 1280 1408 := by
  simp only [k0_pay59, mulf_rm, truncf_rm]
  rfl

theorem pay62 : k0_pay62 (Wo D 128 1280) = Wo D 128 1280 := by
  simp only [k0_pay62, Lift.shapeCast_self]

theorem joinedRows' (A B : ℕ → ℕ → ℝ) : concatenate S256x1024 0
      [⟨S128x1024, rm .bf16 128 1024 A⟩,
        ⟨S128x1024, shapeCast S128x1024 (rm .bf16 128 1024 B) shapeCasts_S128x1024_S128x1024⟩]
      concatenates_S128x1024_S128x1024_S256x1024_d0
    = rm .bf16 256 1024 fun r c => if r < 128 then A r c else B (r - 128) c := by
  rw [Lift.shapeCast_self B]
  exact concatenate_rows _ _ 128 _

theorem joinedHalves (A B : ℕ → ℕ → ℝ) : concatenate S256x256 1
      [⟨S256x128, rm .f32 256 128 A⟩, ⟨S256x128, rm .f32 256 128 B⟩] concatenates_S256x128_S256x128_S256x256_d1
    = rm .f32 256 256 fun r c => if c < 128 then A r c else B r (c - 128) :=
  concatenate_cols _ _ 128 _

abbrev dfN := rm .f32 256 256 fun r c => D.df r (col c)
abbrev sgN := rm .f32 256 256 fun r c => sg (D.gate r (col c))
abbrev dgN := rm .bf16 256 256 fun r c => D.dgate r (col c)
abbrev duN := rm .bf16 256 256 fun r c => D.dup r (col c)

theorem pay63 : k0_pay63 (DYb D) (Wo D 128 1280) (Wo D 128 2688) = dfN D := by
  simp only [k0_pay63, joinedRows', constant_zero_rm, dot_dfN, matmul_transposed, zero_add]
  refine rm_congr fun r _ c _ => Finset.sum_congr rfl fun k _ => ?_
  unfold col
  split <;> rfl

theorem pay64 : k0_pay64 (gu D .f32 128 1280) (gu D .f32 128 2688) = gateN D := by
  simp only [k0_pay64, joinedHalves]
  refine rm_congr fun r _ c _ => ?_
  unfold col
  split <;> rfl

/-- The values of the joined remainders. -/
theorem ups : concatenate S256x256 1 [⟨S256x128, gu D .f32 128 4096⟩, ⟨S256x128, gu D .f32 128 5504⟩]
    concatenates_S256x128_S256x128_S256x256_d1 = upN D := by
  rw [joinedHalves]
  refine rm_congr fun r _ c _ => ?_
  unfold col
  split
  · exact up_eq D r 1280 4096 c rfl
  · exact up_eq D r 2688 5504 (c - 128) rfl

theorem pay65 : k0_pay65 (gu D .f32 128 1280) (gu D .f32 128 2688) = sgN D := by
  simp only [k0_pay65, pay64, lit_half, mulf_rm, tanh_rm, addf_rm]
  rfl

theorem pay66 : k0_pay66 (DYb D) (Wo D 128 1280) (Wo D 128 2688) (gu D .f32 128 1280) (gu D .f32 128 2688) (gu D .f32 128 4096)
    (gu D .f32 128 5504) = dgN D := by
  simp only [k0_pay66, pay63, pay64, pay65, ups, lit_one, mulf_rm, subf_rm, addf_rm, truncf_rm]
  rfl

theorem pay67 : k0_pay67 (DYb D) (Wo D 128 1280) (Wo D 128 2688) (gu D .f32 128 1280) (gu D .f32 128 2688) = duN D := by
  simp only [k0_pay67, pay63, pay64, pay65, mulf_rm, truncf_rm]
  rfl

theorem pay68 : k0_pay68 (DYb D) (Wo D 128 1280) (Wo D 128 2688) (gu D .f32 128 1280) (gu D .f32 128 2688) (gu D .f32 128 4096)
    (gu D .f32 128 5504) = dgw D 128 1280 := by
  simp only [k0_pay68, pay66, slice_rm, zero_add]
  exact rm_congr fun r _ c hc => by rw [col, if_pos hc]

theorem pay69 : k0_pay69 (DYb D) (Wo D 128 1280) (Wo D 128 2688) (gu D .f32 128 1280) (gu D .f32 128 2688) (gu D .f32 128 4096)
    (gu D .f32 128 5504) = dgw D 128 2688 := by
  simp only [k0_pay69, pay66, slice_rm, zero_add]
  exact rm_congr fun r _ c hc => by rw [col, if_neg (by omega), Nat.add_sub_cancel_left]

theorem pay70 : k0_pay70 (DYb D) (Wo D 128 1280) (Wo D 128 2688) (gu D .f32 128 1280) (gu D .f32 128 2688) = duw D 128 1280 := by
  simp only [k0_pay70, pay67, slice_rm, zero_add]
  exact rm_congr fun r _ c hc => by rw [col, if_pos hc]

theorem pay71 : k0_pay71 (DYb D) (Wo D 128 1280) (Wo D 128 2688) (gu D .f32 128 1280) (gu D .f32 128 2688) = duw D 128 2688 := by
  simp only [k0_pay71, pay67, slice_rm, zero_add]
  exact rm_congr fun r _ c hc => by rw [col, if_neg (by omega), Nat.add_sub_cancel_left]

/-! ## The gradient of the row the first product took, summed piece by piece -/

/-- The first piece's share of the sums for row `k` of the first weight, then the second piece's, then the remainders'. -/
def dh₀ (r k : ℕ) : ℝ := (∑ j ∈ Finset.range 1280, D.dgate r j * D.wi k j) + ∑ j ∈ Finset.range 1280, D.dup r j * D.wi k (2816 + j)
def dh₁ (r k : ℕ) : ℝ := dh₀ D r k + (∑ j ∈ Finset.range 1280, D.dgate r (1408 + j) * D.wi k (1408 + j))
  + ∑ j ∈ Finset.range 1280, D.dup r (1408 + j) * D.wi k (4224 + j)
def dh₂ (r k : ℕ) : ℝ := dh₁ D r k + (∑ j ∈ Finset.range 256, D.dgate r (col j) * D.wi k (col j))
  + ∑ j ∈ Finset.range 256, D.dup r (col j) * D.wi k (2816 + col j)

theorem dh₂_eq (r k : ℕ) : dh₂ D r k = D.dh r k := by
  have e : D.dh r k = (∑ j ∈ Finset.range 2816, D.dgate r j * D.wi k j) + ∑ j ∈ Finset.range 2816, D.dup r j * D.wi k (2816 + j) := by
    unfold Data.dh
    rw [Finset.sum_range_add _ 2816 2816]
    refine congrArg₂ (· + ·) (Finset.sum_congr rfl fun j hj => ?_) (Finset.sum_congr rfl fun j _ => ?_)
    · rw [Data.dgu, if_pos (Finset.mem_range.mp hj)]
    · rw [Data.dgu, if_neg (by omega), Nat.add_sub_cancel_left]
  rw [e, ← sum_pieces fun j => D.dgate r j * D.wi k j, ← sum_pieces fun j => D.dup r j * D.wi k (2816 + j)]
  unfold dh₂ dh₁ dh₀
  simp only [← Nat.add_assoc]
  ring

abbrev dhTop (A : ℕ → ℕ → ℝ) := rm .f32 256 512 A
abbrev dhBot (A : ℕ → ℕ → ℝ) := rm .f32 256 512 fun r k => A r (512 + k)

theorem pay47 : k0_pay47 (F := Ideal) = rm .f32 256 512 fun _ _ => 0 := lit_zero
theorem pay48 : k0_pay48 (F := Ideal) = rm .f32 256 512 fun _ _ => 0 := lit_zero

theorem pay53 : k0_pay53 (rm .f32 256 512 fun _ _ => 0) (dgw D 1280 0) (duw D 1280 0) (Wi D 512 1280 0 0) (Wi D 512 1280 0 2816)
    = dhTop (dh₀ D) := by
  simp only [k0_pay53, shapeCast_slab, constant_zero_rm, dot_dh, matmul_transposed, addf_rm, zero_add]
  rfl

theorem pay54 : k0_pay54 (rm .f32 256 512 fun _ _ => 0) (dgw D 1280 0) (duw D 1280 0) (Wi D 512 1280 512 0) (Wi D 512 1280 512 2816)
    = dhBot (dh₀ D) := by
  simp only [k0_pay54, shapeCast_slab, constant_zero_rm, dot_dh, matmul_transposed, addf_rm, zero_add]
  rfl

theorem pay60 : k0_pay60 (dhTop (dh₀ D)) (dfw D 1280 1408) (gu D .f32 1280 1408) (sgw D 1280 1408) (dfup D)
    (Wi D 512 1280 0 1408) (Wi D 512 1280 0 4224) = dhTop (dh₁ D) := by
  simp only [k0_pay60, pay58 D, pay59 D]
  simp only [shapeCast_slab, constant_zero_rm, dot_dh, matmul_transposed, addf_rm, zero_add]
  rfl

theorem pay61 : k0_pay61 (dhBot (dh₀ D)) (dfw D 1280 1408) (gu D .f32 1280 1408) (sgw D 1280 1408) (dfup D)
    (Wi D 512 1280 512 1408) (Wi D 512 1280 512 4224) = dhBot (dh₁ D) := by
  simp only [k0_pay61, pay58 D, pay59 D]
  simp only [shapeCast_slab, constant_zero_rm, dot_dh, matmul_transposed, addf_rm, zero_add]
  rfl

/-- The remainders' share, for the rows of the weight from row `o` on. -/
theorem dhN (o : ℕ) : (addf (addf (rm .f32 256 512 fun r k => dh₁ D r (o + k))
      (matmul (DotDims.transposedRhs 256 256 512) none (dgN D)
        (rm .bf16 512 256 fun r c => if c < 128 then D.wi (o + r) (1280 + c) else D.wi (o + r) (2688 + (c - 128)))
        (rm .f32 256 512 fun _ _ => 0)))
      (matmul (DotDims.transposedRhs 256 256 512) none (duN D)
        (rm .bf16 512 256 fun r c => if c < 128 then D.wi (o + r) (4096 + c) else D.wi (o + r) (5504 + (c - 128)))
        (rm .f32 256 512 fun _ _ => 0)) : FVec Ideal S256x512 .f32)
    = rm .f32 256 512 fun r k => D.dh r (o + k) := by
  simp only [matmul_transposed, addf_rm, zero_add, ← dh₂_eq D, dh₂]
  refine rm_congr fun r _ k _ => congrArg₂ (· + ·) (congrArg (HAdd.hAdd (_ : ℝ)) (Finset.sum_congr rfl fun c _ => ?_))
    (Finset.sum_congr rfl fun c _ => ?_)
  · unfold col
    split <;> rfl
  · unfold col
    split <;> simp only [← Nat.add_assoc]

theorem joinedSides (A B : ℕ → ℕ → ℝ) (a b : FVec Ideal S256x512 .f32) (ha : a = rm .f32 256 512 A) (hb : b = rm .f32 256 512 B) :
    concatenate S256x1024 1 [⟨S256x512, a⟩, ⟨S256x512, b⟩] concatenates_S256x512_S256x512_S256x1024_d1
    = rm .f32 256 1024 fun r c => if c < 512 then A r c else B r (c - 512) := by
  rw [ha, hb]
  exact concatenate_cols _ _ 512 _

abbrev DH := rm .f32 256 1024 D.dh

theorem pay72 : k0_pay72 (dhTop (dh₁ D)) (dhBot (dh₁ D)) (dgN D) (duN D)
    (Wi D 512 128 0 1280) (Wi D 512 128 0 2688) (Wi D 512 128 0 4096) (Wi D 512 128 0 5504)
    (Wi D 512 128 512 1280) (Wi D 512 128 512 2688) (Wi D 512 128 512 4096) (Wi D 512 128 512 5504) = DH D := by
  have ht := dhN D 0
  have hb := dhN D 512
  simp only [zero_add] at ht
  refine (joinedSides D.dh (fun r k => D.dh r (512 + k)) _ _ ?_ ?_).trans ?_
  · simp only [joined, constant_zero_rm, dot_dhN, zero_add]
    exact ht
  · simp only [joined, constant_zero_rm, dot_dhN]
    exact hb
  · refine rm_congr fun r _ c _ => ?_
    split
    · rfl
    · rw [show 512 + (c - 512) = c by omega]

/-! ## The last stores -/

theorem pay1 : k0_pay1 (X D) (rm .f32 256 1 fun r _ => inv D.x r) = rm .f32 256 1024 D.n₁ := by
  simp only [k0_pay1, broadcastTo_col, mulf_rm]
  rfl

theorem pay2 (v : ℕ → ℕ → ℝ) : k0_pay2 (X D) (rm .f32 256 1 fun r _ => inv D.x r) (DH D) (rm .f32 1 1024 v)
    = rm .f32 1 1024 fun a c => v a c + ∑ r ∈ Finset.range 256, D.dg₁ r c := by
  simp only [k0_pay2, pay1, mulf_rm, Lift.shapeCast_self, colSum_rm (m := 256) (n := 1024) _ reduces_S256x1024_S1024 (.inl rfl) rfl,
    shapeCast_row, addf_rm, Data.dg₁]

theorem pay3 : k0_pay3 (X D) (rm .f32 256 1 fun r _ => inv D.x r) (rm .f32 256 1024 D.dx₂) (DH D) (G1 D) = rm .f32 256 1024 D.dx₁ := by
  simp only [k0_pay3, pay1, broadcastTo_col, broadcastTo_row, mulf_rm, subf_rm, lit_1024,
    rowSum_rm (m := 256) (n := 1024) _ reduces_S256x1024_S256 (.inl rfl) rfl, shapeCast_col]
  rw [divf_rm _ _ (by norm_num)]
  simp only [broadcastTo_col, mulf_rm, subf_rm, addf_rm]
  rfl

end Cert.KernelIdeal.Val

end
-- ==== Proof.Block.lean ====
/- What one point of the grid leaves in each output's block, when its input blocks are blocks of real numbers. -/
module

public import proofs.«01_k».proof.Proof.PayBwd
public import Idealize.ShloMosaic.Lib.Pipeline.ValueKit
public import Idealize.ShloMosaic.Lib.Pipeline.ReadBack

@[expose] public section

set_option maxRecDepth 16384

noncomputable section

namespace Cert.KernelIdeal.Val

open Cert.KernelIdeal Cert.KernelIdeal.Gen Idealize.ShloMosaic Idealize.ShloMosaic.TcCoe Cert.Lift Cert.Ffn
open Idealize.ShloMosaic.Pipeline (Dat)

variable (m : (ℓ : Loc nD τ sig) → Buf (Elt Ideal) ℓ) (D : Data)

/-- The slabs of the first weight, its rows from `o` on: slab `s` holds the 1408 columns from `1408 * s` on. -/
abbrev slabs (o : ℕ) := rc .bf16 4 512 1408 fun s r c => D.wi (o + r) (1408 * s + c)

/-- A load of `n` columns of one slab, and of `n` rows of the second weight. -/
theorem ld_slab (o s p n q : ℕ) (inb) (h : q = 1408 * s + p) :
    View.ld (Val := Elt Ideal) (S := S4x512x1408) (e' := .bf16) (slabs D o) (Rect.unit ![s, 0, p] ![1, 512, n] inb)
      = Wi D 512 n o q := by
  subst h
  funext i
  have h0 : (i 0).val = 0 := by have h : (i 0).val < 1 := (i 0).isLt; omega
  rw [View.ld_apply]
  show ((D.wi (o + (0 + 1 * (i 1).val)) (1408 * (s + 1 * (i 0).val) + (p + 1 * (i 2).val)) : ℝ) : EReal)
    = ((D.wi (o + (i 1).val) (1408 * s + p + (i 2).val) : ℝ) : EReal)
  rw [h0]
  congr 2 <;> omega

theorem ld_rows (o n : ℕ) (inb) : View.ld (Val := Elt Ideal) (S := S2816x1024) (e' := .bf16) (rm .bf16 2816 1024 D.wo)
    (Rect.unit ![o, 0] ![n, 1024] inb) = Wo D n o := by
  funext i
  rw [View.ld_apply]
  show ((D.wo (o + 1 * (i 0).val) (0 + 1 * (i 1).val) : ℝ) : EReal) = ((D.wo (o + (i 0).val) (i 1).val : ℝ) : EReal)
  congr 2 <;> omega

theorem ld_0_1280 (o : ℕ) : View.ld (Val := Elt Ideal) (S := S4x512x1408) (e' := .bf16) (slabs D o)
    (Rect.unit ![0, 0, 0] ![1, 512, 1280] inb_S4x512x1408_S1x512x1280_0_0_0) = Wi D 512 1280 o 0 := ld_slab D o 0 0 1280 0 _ rfl
theorem ld_1_1280 (o : ℕ) : View.ld (Val := Elt Ideal) (S := S4x512x1408) (e' := .bf16) (slabs D o)
    (Rect.unit ![1, 0, 0] ![1, 512, 1280] inb_S4x512x1408_S1x512x1280_1_0_0) = Wi D 512 1280 o 1408 := ld_slab D o 1 0 1280 1408 _ rfl
theorem ld_2_1280 (o : ℕ) : View.ld (Val := Elt Ideal) (S := S4x512x1408) (e' := .bf16) (slabs D o)
    (Rect.unit ![2, 0, 0] ![1, 512, 1280] inb_S4x512x1408_S1x512x1280_2_0_0) = Wi D 512 1280 o 2816 := ld_slab D o 2 0 1280 2816 _ rfl
theorem ld_3_1280 (o : ℕ) : View.ld (Val := Elt Ideal) (S := S4x512x1408) (e' := .bf16) (slabs D o)
    (Rect.unit ![3, 0, 0] ![1, 512, 1280] inb_S4x512x1408_S1x512x1280_3_0_0) = Wi D 512 1280 o 4224 := ld_slab D o 3 0 1280 4224 _ rfl
theorem ld_0_128 (o : ℕ) : View.ld (Val := Elt Ideal) (S := S4x512x1408) (e' := .bf16) (slabs D o)
    (Rect.unit ![0, 0, 1280] ![1, 512, 128] inb_S4x512x1408_S1x512x128_0_0_1280) = Wi D 512 128 o 1280 := ld_slab D o 0 1280 128 1280 _ rfl
theorem ld_1_128 (o : ℕ) : View.ld (Val := Elt Ideal) (S := S4x512x1408) (e' := .bf16) (slabs D o)
    (Rect.unit ![1, 0, 1280] ![1, 512, 128] inb_S4x512x1408_S1x512x128_1_0_1280) = Wi D 512 128 o 2688 := ld_slab D o 1 1280 128 2688 _ rfl
theorem ld_2_128 (o : ℕ) : View.ld (Val := Elt Ideal) (S := S4x512x1408) (e' := .bf16) (slabs D o)
    (Rect.unit ![2, 0, 1280] ![1, 512, 128] inb_S4x512x1408_S1x512x128_2_0_1280) = Wi D 512 128 o 4096 := ld_slab D o 2 1280 128 4096 _ rfl
theorem ld_3_128 (o : ℕ) : View.ld (Val := Elt Ideal) (S := S4x512x1408) (e' := .bf16) (slabs D o)
    (Rect.unit ![3, 0, 1280] ![1, 512, 128] inb_S4x512x1408_S1x512x128_3_0_1280) = Wi D 512 128 o 5504 := ld_slab D o 3 1280 128 5504 _ rfl
theorem ld_out_0 : View.ld (Val := Elt Ideal) (S := S2816x1024) (e' := .bf16) (rm .bf16 2816 1024 D.wo)
    (Rect.unit ![0, 0] ![1280, 1024] inb_S2816x1024_S1280x1024_0_0) = Wo D 1280 0 := ld_rows D 0 1280 _
theorem ld_out_1408 : View.ld (Val := Elt Ideal) (S := S2816x1024) (e' := .bf16) (rm .bf16 2816 1024 D.wo)
    (Rect.unit ![1408, 0] ![1280, 1024] inb_S2816x1024_S1280x1024_1408_0) = Wo D 1280 1408 := ld_rows D 1408 1280 _
theorem ld_out_1280 : View.ld (Val := Elt Ideal) (S := S2816x1024) (e' := .bf16) (rm .bf16 2816 1024 D.wo)
    (Rect.unit ![1280, 0] ![128, 1024] inb_S2816x1024_S128x1024_1280_0) = Wo D 128 1280 := ld_rows D 1280 128 _
theorem ld_out_2688 : View.ld (Val := Elt Ideal) (S := S2816x1024) (e' := .bf16) (rm .bf16 2816 1024 D.wo)
    (Rect.unit ![2688, 0] ![128, 1024] inb_S2816x1024_S128x1024_2688_0) = Wo D 128 2688 := ld_rows D 2688 128 _

/-- A piece of columns of a block, stored from column `q` on. -/
theorem piece (φ : FTy) (n N q : ℕ) (A B : ℕ → ℕ → ℝ) (inb) (h : ∀ r, ∀ c < n, A r c = B r (q + c))
    (x : (Rect.unit (s := ⟨2, ![256, N]⟩) ![0, q] ![256, n] inb).shape.Idx) :
    rm φ 256 n A x = rm φ 256 N B ((Rect.unit (s := ⟨2, ![256, N]⟩) ![0, q] ![256, n] inb).emb x) := by
  show ((A (x 0).val (x 1).val : ℝ) : EReal) = ((B (0 + 1 * (x 0).val) (q + 1 * (x 1).val) : ℝ) : EReal)
  rw [h _ _ (x 1).isLt]
  congr 2 <;> omega

/-- Pieces of one block that cover it are the block. -/
theorem canon_of_pieces {s : Shape} {e : EltTy} (G : s.Idx → Elt Ideal e) (L : List (View.Piece (Elt Ideal) s e)) (h : View.PiecesOf G L)
    (hc : ∀ y : s.Idx, ∃ p ∈ L, y ∈ p.1.set) : View.canon L = G := by
  funext y
  have := View.canon_append_of_piecesOf G [] L h y (hc y)
  rwa [List.append_nil] at this

theorem canon_f : View.canon (Val := Elt Ideal) (s := S256x2816) (e := .bf16)
    [⟨Rect.unit ![0, 2688] ![256, 128] inb_S256x2816_S256x128_0_2688, fw D 128 2688⟩,
      ⟨Rect.unit ![0, 1280] ![256, 128] inb_S256x2816_S256x128_0_1280, fw D 128 1280⟩,
      ⟨Rect.unit ![0, 1408] ![256, 1280] inb_S256x2816_S256x1280_0_1408, fw D 1280 1408⟩,
      ⟨Rect.unit ![0, 0] ![256, 1280] inb_S256x2816_S256x1280_0_0, fw D 1280 0⟩] = rm .bf16 256 2816 D.f :=
  canon_of_pieces (s := S256x2816) (e := .bf16) (rm .bf16 256 2816 D.f) _
    ⟨piece _ _ _ _ _ _ inb_S256x2816_S256x128_0_2688 fun _ _ _ => rfl, piece _ _ _ _ _ _ inb_S256x2816_S256x128_0_1280 fun _ _ _ => rfl, piece _ _ _ _ _ _ inb_S256x2816_S256x1280_0_1408 fun _ _ _ => rfl,
      piece _ _ _ _ _ _ inb_S256x2816_S256x1280_0_0 fun _ _ _ => rfl, trivial⟩
    (View.cover_of_tiledBy _ ![256, 128] (by sl_kernel_rfl))

theorem dgate_eq (r p c : ℕ) (h : p + c < 2816) : D.dgate r (p + c) = D.dgu r (p + c) := by
  rw [Data.dgu, if_pos h]

theorem dup_eq (r p q c : ℕ) (h : q = 2816 + p) : D.dup r (p + c) = D.dgu r (q + c) := by
  rw [Data.dgu, if_neg (by omega), h, Nat.add_assoc, Nat.add_sub_cancel_left]

theorem canon_dgu : View.canon (Val := Elt Ideal) (s := S256x5632) (e := .bf16)
    [⟨Rect.unit ![0, 5504] ![256, 128] inb_S256x5632_S256x128_0_5504, duw D 128 2688⟩,
      ⟨Rect.unit ![0, 4096] ![256, 128] inb_S256x5632_S256x128_0_4096, duw D 128 1280⟩,
      ⟨Rect.unit ![0, 2688] ![256, 128] inb_S256x5632_S256x128_0_2688, dgw D 128 2688⟩,
      ⟨Rect.unit ![0, 1280] ![256, 128] inb_S256x5632_S256x128_0_1280, dgw D 128 1280⟩,
      ⟨Rect.unit ![0, 4224] ![256, 1280] inb_S256x5632_S256x1280_0_4224, duw D 1280 1408⟩,
      ⟨Rect.unit ![0, 1408] ![256, 1280] inb_S256x5632_S256x1280_0_1408, dgw D 1280 1408⟩,
      ⟨Rect.unit ![0, 2816] ![256, 1280] inb_S256x5632_S256x1280_0_2816, duw D 1280 0⟩,
      ⟨Rect.unit ![0, 0] ![256, 1280] inb_S256x5632_S256x1280_0_0, dgw D 1280 0⟩] = rm .bf16 256 5632 D.dgu :=
  canon_of_pieces (s := S256x5632) (e := .bf16) (rm .bf16 256 5632 D.dgu) _
    ⟨piece _ _ _ _ _ _ inb_S256x5632_S256x128_0_5504 fun r c _ => dup_eq D r _ _ c rfl, piece _ _ _ _ _ _ inb_S256x5632_S256x128_0_4096 fun r c _ => dup_eq D r _ _ c rfl,
      piece _ _ _ _ _ _ inb_S256x5632_S256x128_0_2688 fun r c h => dgate_eq D r _ c (by omega), piece _ _ _ _ _ _ inb_S256x5632_S256x128_0_1280 fun r c h => dgate_eq D r _ c (by omega),
      piece _ _ _ _ _ _ inb_S256x5632_S256x1280_0_4224 fun r c _ => dup_eq D r _ _ c rfl, piece _ _ _ _ _ _ inb_S256x5632_S256x1280_0_1408 fun r c h => dgate_eq D r _ c (by omega),
      piece _ _ _ _ _ _ inb_S256x5632_S256x1280_0_2816 fun r c _ => dup_eq D r _ _ c rfl, piece _ _ _ _ _ _ inb_S256x5632_S256x1280_0_0 fun r c h => dgate_eq D r _ c (by omega), trivial⟩
    (View.cover_of_tiledBy _ ![256, 128] (by sl_kernel_rfl))

structure Inputs (c : Dev nD) (t : Fin cfg0.N) : Prop where
  x : iblk m c 0 t = X D
  tgt : iblk m c 1 t = T D
  top : iblk m c 2 t = slabs D 0
  bot : iblk m c 3 t = slabs D 512
  out : iblk m c 4 t = rm .bf16 2816 1024 D.wo
  g₁ : iblk m c 5 t = G1 D
  g₂ : iblk m c 6 t = G2 D

variable {m D}

/-- What a point leaves in the outputs' blocks, the three sums added to the given ones. -/
abbrev outs (D : Data) (l p q : ℕ → ℕ → ℝ) : Vec Ideal S256x1024 .bf16 × Vec Ideal S256x2816 .bf16 × Vec Ideal S256x5632 .bf16
    × Vec Ideal S256x1024 .bf16 × Vec Ideal S256x1024 .f32 × Vec Ideal S1x128 .f32 × Vec Ideal S1x1024 .f32 × Vec Ideal S1x1024 .f32 :=
  (rm .bf16 256 1024 D.h, rm .bf16 256 2816 D.f, rm .bf16 256 5632 D.dgu, rm .bf16 256 1024 D.dy, rm .f32 256 1024 D.dx₁,
    rm .f32 1 128 fun a c => l a c + ∑ r ∈ Finset.range 256, D.loss r,
    rm .f32 1 1024 fun a c => p a c + ∑ r ∈ Finset.range 256, D.dg₁ r c,
    rm .f32 1 1024 fun a c => q a c + ∑ r ∈ Finset.range 256, D.dg₂ r c)

theorem outs_A (c : Dev nD) (t : Fin cfg0.N) (h : t.val % 16 = 0) (I : Inputs m D c t) :
    outsAt0 m c t.val t.isLt = outs D (fun _ _ => 0) (fun _ _ => 0) (fun _ _ => 0) := by
  rw [outsAt0_A m c t h]
  frame_open
  simp (disch := decide) only [↓ View.readCov_skip, ↓ View.readCov_cons_toLoadRect, ↓ View.readCov_fill]
  simp (disch := decide) only [View.read_writes_junk_eq_canon, View.canon_cons_unit_lit', View.ld_unit_lit', View.readAt_eq_ld,
    Memref.IsWhole.read_unread, I.x, I.tgt, I.top, I.bot, I.out, I.g₁, I.g₂,
    ld_0_1280, ld_1_1280, ld_2_1280, ld_3_1280, ld_0_128, ld_1_128, ld_2_128, ld_3_128, ld_out_0, ld_out_1280, ld_out_1408, ld_out_2688,
    pay1, pay2, pay3, pay4, pay5, pay6, pay7, pay8, pay9, pay10, pay11, pay12, pay13, pay14, pay15, pay16, pay17, pay18, pay19, pay20,
    pay21, pay22, pay23, pay24, pay25, pay26, pay27, pay28, pay29, pay30, pay31, pay32, pay33, pay34, pay35, pay36, pay37, pay38, pay39, pay40,
    pay41, pay42, pay43, pay44, pay45, pay46, pay47, pay48, pay49, pay50, pay51, pay52, pay53, pay54, pay55, pay56, pay57, pay58, pay59, pay60,
    pay61, pay62, pay63, pay64, pay65, pay66, pay67, pay68, pay69, pay70, pay71, pay72, canon_f, canon_dgu]

theorem outs_B (c : Dev nD) (t : Fin cfg0.N) (h : ¬t.val % 16 = 0) (I : Inputs m D c t) (l p q : ℕ → ℕ → ℝ)
    (hl : (outsAt0 m c (t.val - 1) (by omega)).2.2.2.2.2.1 = rm .f32 1 128 l)
    (hp : (outsAt0 m c (t.val - 1) (by omega)).2.2.2.2.2.2.1 = rm .f32 1 1024 p)
    (hq : (outsAt0 m c (t.val - 1) (by omega)).2.2.2.2.2.2.2 = rm .f32 1 1024 q) :
    outsAt0 m c t.val t.isLt = outs D l p q := by
  rw [outsAt0_B m c t h]
  frame_open
  simp (disch := decide) only [↓ View.readCov_skip, ↓ View.readCov_cons_toLoadRect, ↓ View.readCov_fill]
  simp (disch := decide) only [View.read_writes_junk_eq_canon, View.canon_cons_unit_lit', View.ld_unit_lit', View.readAt_eq_ld,
    Memref.IsWhole.read_unread, I.x, I.tgt, I.top, I.bot, I.out, I.g₁, I.g₂, hl, hp, hq,
    ld_0_1280, ld_1_1280, ld_2_1280, ld_3_1280, ld_0_128, ld_1_128, ld_2_128, ld_3_128, ld_out_0, ld_out_1280, ld_out_1408, ld_out_2688,
    pay1, pay2, pay3, pay4, pay5, pay6, pay7, pay8, pay9, pay10, pay11, pay12, pay13, pay14, pay15, pay16, pay17, pay18, pay19, pay20,
    pay21, pay22, pay23, pay24, pay25, pay26, pay27, pay28, pay29, pay30, pay31, pay32, pay33, pay34, pay35, pay36, pay37, pay38, pay39, pay40,
    pay41, pay42, pay43, pay44, pay45, pay46, pay47, pay48, pay49, pay50, pay51, pay52, pay53, pay54, pay55, pay56, pay57, pay58, pay59, pay60,
    pay61, pay62, pay63, pay64, pay65, pay66, pay67, pay68, pay69, pay70, pay71, pay72, canon_f, canon_dgu]

end Cert.KernelIdeal.Val

end
-- ==== Proof.Arrays.lean ====
/- The eight results of the feed-forward call, from the blocks of the sixteen points: five arrays of rows, each block
   written by its point, and three sums over all rows, added up from point to point. -/
module

public import proofs.«01_k».proof.Proof.Block

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Cert.Lift Cert.Ffn

variable (m : (ℓ : Loc nD τ sig) → Buf (Elt Ideal) ℓ) (D : Data)

/-- The arguments are the real operands `D`. -/
structure Entry (c : Dev nD) : Prop where
  x : m ((c : Thread nD τ).loc main_arg0) = rm .f32 4096 1024 D.x
  tgt : m ((c : Thread nD τ).loc main_arg1) = rm .f32 4096 1024 D.tgt
  g₁ : m ((c : Thread nD τ).loc main_arg2) = rm .f32 1 1024 fun _ k => D.g₁ k
  wi : m ((c : Thread nD τ).loc main_arg3) = rm .f32 1024 5632 D.wi
  wo : m ((c : Thread nD τ).loc main_arg4) = rm .f32 2816 1024 D.wo
  g₂ : m ((c : Thread nD τ).loc main_arg5) = rm .f32 1 1024 fun _ k => D.g₂ k

/-- The blocks the windows stage at point `t`: the rows of block `t`, the weights and gains whole. -/
theorem idx : ∀ t : Fin cfg0.N, win0_0.index t = ![t.val, 0] ∧ win0_1.index t = ![t.val, 0] ∧ win0_2.index t = ![0, 0, 0]
    ∧ win0_3.index t = ![0, 0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] ∧ win0_13.index t = ![0, 0] ∧ win0_14.index t = ![0, 0] := by
  decide +kernel

theorem point_lt (t : Fin cfg0.N) : t.val < 16 := t.isLt

/-- Row `r` of block `t`, as a row of the array. -/
def row (t : Fin cfg0.N) (r : Fin 256) : Fin 4096 := ⟨256 * t.val + r.val, by have := point_lt t; omega⟩

/-- Row `r` of the half of the first weight that begins at row `o`, and column `c` of its slab `s`. -/
def wrow (o : ℕ) (h : o ≤ 512) (r : Fin 512) : Fin 1024 := ⟨o + r.val, by omega⟩
def wcol (s : Fin 4) (c : Fin 1408) : Fin 5632 := ⟨1408 * s.val + c.val, by omega⟩

theorem slabs_eq (o : ℕ) (h : o ≤ 512) :
    (fun y : S4x512x1408.Idx => rm .f32 1024 5632 D.wi (ix2 (wrow o h (y 1)) (wcol (y 0) (y 2)))) = slabs D o := rfl

variable {m D}

theorem block0 (c : Dev nD) (t : Fin cfg0.N) : iblk m c 0 t =
    fun y : S256x1024.Idx => m ((c : Thread nD τ).loc main_arg0) (ix2 (row t (y 0)) (y 1)) := by
  blk_ext! [iblk, V, idx t, row]

theorem block1 (c : Dev nD) (t : Fin cfg0.N) : iblk m c 1 t =
    fun y : S256x1024.Idx => m ((c : Thread nD τ).loc main_arg1) (ix2 (row t (y 0)) (y 1)) := by
  blk_ext! [iblk, V, idx t, row]

theorem block2 (c : Dev nD) (t : Fin cfg0.N) : iblk m c 2 t = fun y : S4x512x1408.Idx => m ((c : Thread nD τ).loc main_arg3)
    (ix2 (wrow 0 (by decide) (y 1)) (wcol (y 0) (y 2))) := by
  funext y
  blk_ext! [iblk, V, idx t, wrow, wcol]

theorem block3 (c : Dev nD) (t : Fin cfg0.N) : iblk m c 3 t = fun y : S4x512x1408.Idx => m ((c : Thread nD τ).loc main_arg3)
    (ix2 (wrow 512 (by decide) (y 1)) (wcol (y 0) (y 2))) := by
  funext y
  blk_ext! [iblk, V, idx t, wrow, wcol]

theorem block4 (c : Dev nD) (t : Fin cfg0.N) :
    iblk m c 4 t = fun y : S2816x1024.Idx => m ((c : Thread nD τ).loc main_arg4) y := by
  funext y
  blk_ext! [iblk, V, idx t]

theorem block5 (c : Dev nD) (t : Fin cfg0.N) : iblk m c 5 t = m ((c : Thread nD τ).loc main_arg2) := by
  blk_ext! [iblk, V, idx t]

theorem block6 (c : Dev nD) (t : Fin cfg0.N) : iblk m c 6 t = m ((c : Thread nD τ).loc main_arg5) := by
  blk_ext! [iblk, V, idx t]

theorem inputs {c : Dev nD} (E : Entry m D c) (t : Fin cfg0.N) : Inputs m (D.shift (256 * t.val)) c t where
  x := by rw [block0, E.x]; rfl
  tgt := by rw [block1, E.tgt]; rfl
  top := by rw [block2, E.wi]; exact slabs_eq _ 0 (by decide)
  bot := by rw [block3, E.wi]; exact slabs_eq _ 512 (by decide)
  out := by rw [block4, E.wo]; rfl
  g₁ := by rw [block5, E.g₁]; rfl
  g₂ := by rw [block6, E.g₂]; rfl

/-- The sums after point `n`: the rows of the blocks up to it. -/
def acc (a : ℕ → ℝ) (n : ℕ) : ℝ := ∑ r ∈ Finset.range (256 * (n + 1)), a r

theorem acc_zero (a : ℕ → ℝ) : (0 : ℝ) + ∑ r ∈ Finset.range 256, a (256 * 0 + r) = acc a 0 := by
  unfold acc
  simp only [Nat.mul_zero, Nat.zero_add, Nat.mul_one, zero_add]

theorem acc_succ (a : ℕ → ℝ) (n : ℕ) : acc a n + ∑ r ∈ Finset.range 256, a (256 * (n + 1) + r) = acc a (n + 1) := by
  unfold acc
  rw [show 256 * (n + 1 + 1) = 256 * (n + 1) + 256 from rfl, Finset.sum_range_add]

/-- The three sums the points up to `n` leave. -/
abbrev sums (D : Data) (n : ℕ) : Vec Ideal S1x128 .f32 × Vec Ideal S1x1024 .f32 × Vec Ideal S1x1024 .f32 :=
  (rm .f32 1 128 fun _ _ => acc D.loss n, rm .f32 1 1024 fun _ k => acc (D.dg₁ · k) n, rm .f32 1 1024 fun _ k => acc (D.dg₂ · k) n)

/-- What a point leaves: its rows, and the sums up to it. -/
theorem point {c : Dev nD} (E : Entry m D c) : ∀ (n : ℕ) (hn : n < cfg0.N), outsAt0 m c n hn
    = (rm .bf16 256 1024 (D.shift (256 * n)).h, rm .bf16 256 2816 (D.shift (256 * n)).f, rm .bf16 256 5632 (D.shift (256 * n)).dgu,
        rm .bf16 256 1024 (D.shift (256 * n)).dy, rm .f32 256 1024 (D.shift (256 * n)).dx₁, sums D n)
  | 0, hn => by
    refine (outs_A c ⟨0, hn⟩ rfl (inputs E ⟨0, hn⟩)).trans ?_
    refine congrArg _ (congrArg _ (congrArg _ (congrArg _ (congrArg _ (Prod.ext ?_ (Prod.ext ?_ ?_))))))
    · exact rm_congr (φ := .f32) fun _ _ _ _ => acc_zero D.loss
    · exact rm_congr (φ := .f32) fun _ _ k _ => acc_zero (D.dg₁ · k)
    · exact rm_congr (φ := .f32) fun _ _ k _ => acc_zero (D.dg₂ · k)
  | n + 1, hn => by
    have ih := point E n (by omega)
    refine (outs_B c ⟨n + 1, hn⟩ (by have := point_lt ⟨n + 1, hn⟩; dsimp only at this ⊢; omega) (inputs E ⟨n + 1, hn⟩)
      (fun _ _ => acc D.loss n) (fun _ k => acc (D.dg₁ · k) n) (fun _ k => acc (D.dg₂ · k) n)
      (congrArg (·.2.2.2.2.2.1) ih) (congrArg (·.2.2.2.2.2.2.1) ih) (congrArg (·.2.2.2.2.2.2.2) ih)).trans ?_
    refine congrArg _ (congrArg _ (congrArg _ (congrArg _ (congrArg _ (Prod.ext ?_ (Prod.ext ?_ ?_))))))
    · exact rm_congr (φ := .f32) fun _ _ _ _ => acc_succ D.loss n
    · exact rm_congr (φ := .f32) fun _ _ k _ => acc_succ (D.dg₁ · k) n
    · exact rm_congr (φ := .f32) fun _ _ k _ => acc_succ (D.dg₂ · k) n

theorem array_h {c : Dev nD} (E : Entry m D c) : (dats m 0 c).arrAt 7 cfg0.N = rm .bf16 4096 1024 D.h := by
  refine (dats m 0 c).arrAt_eq_of_covers 7 _ (by decide +kernel) fun t hf y => ?_
  blk_simp
  rw [after0_7, point E]
  show rm .bf16 4096 1024 D.h (ix2 (row t (y 0)) (y 1)) = _
  blk_ext [idx t, row]

theorem array_f {c : Dev nD} (E : Entry m D c) : (dats m 0 c).arrAt 8 cfg0.N = rm .bf16 4096 2816 D.f := by
  refine (dats m 0 c).arrAt_eq_of_covers 8 _ (by decide +kernel) fun t hf y => ?_
  blk_simp
  rw [after0_8, point E]
  show rm .bf16 4096 2816 D.f (ix2 (row t (y 0)) (y 1)) = _
  blk_ext [idx t, row]

theorem array_dgu {c : Dev nD} (E : Entry m D c) : (dats m 0 c).arrAt 9 cfg0.N = rm .bf16 4096 5632 D.dgu := by
  refine (dats m 0 c).arrAt_eq_of_covers 9 _ (by decide +kernel) fun t hf y => ?_
  blk_simp
  rw [after0_9, point E]
  show rm .bf16 4096 5632 D.dgu (ix2 (row t (y 0)) (y 1)) = _
  blk_ext [idx t, row]

theorem array_dy {c : Dev nD} (E : Entry m D c) : (dats m 0 c).arrAt 10 cfg0.N = rm .bf16 4096 1024 D.dy := by
  refine (dats m 0 c).arrAt_eq_of_covers 10 _ (by decide +kernel) fun t hf y => ?_
  blk_simp
  rw [after0_10, point E]
  show rm .bf16 4096 1024 D.dy (ix2 (row t (y 0)) (y 1)) = _
  blk_ext [idx t, row]

theorem array_dx₁ {c : Dev nD} (E : Entry m D c) : (dats m 0 c).arrAt 11 cfg0.N = rm .f32 4096 1024 D.dx₁ := by
  refine (dats m 0 c).arrAt_eq_of_covers 11 _ (by decide +kernel) fun t hf y => ?_
  blk_simp
  rw [after0_11, point E]
  show rm .f32 4096 1024 D.dx₁ (ix2 (row t (y 0)) (y 1)) = _
  blk_ext [idx t, row]

theorem array_loss {c : Dev nD} (E : Entry m D c) :
    (dats m 0 c).arrAt 12 cfg0.N = rm .f32 1 128 fun _ _ => ∑ r ∈ Finset.range 4096, D.loss r := by
  refine (dats m 0 c).arrAt_eq_of_covers 12 _ (by decide +kernel) fun t hf y => ?_
  have h3 := (flush0_12 t).mp hf
  have ht : t.val = 15 := by have := point_lt t; omega
  blk_simp
  rw [after0_12, point E, ht]
  exact congrArg (fun n => ((∑ r ∈ Finset.range n, D.loss r : ℝ) : EReal)) (by decide : 256 * (15 + 1) = 4096)

theorem array_dg₁ {c : Dev nD} (E : Entry m D c) :
    (dats m 0 c).arrAt 13 cfg0.N = rm .f32 1 1024 fun _ k => ∑ r ∈ Finset.range 4096, D.dg₁ r k := by
  refine (dats m 0 c).arrAt_eq_of_covers 13 _ (by decide +kernel) fun t hf y => ?_
  have h3 := (flush0_13 t).mp hf
  have ht : t.val = 15 := by have := point_lt t; omega
  blk_simp
  rw [after0_13, point E, ht]
  show rm .f32 1 1024 (fun _ k => ∑ r ∈ Finset.range 4096, D.dg₁ r k) (ix2 (y 0) (y 1)) = _
  blk_ext [idx t]

theorem array_dg₂ {c : Dev nD} (E : Entry m D c) :
    (dats m 0 c).arrAt 14 cfg0.N = rm .f32 1 1024 fun _ k => ∑ r ∈ Finset.range 4096, D.dg₂ r k := by
  refine (dats m 0 c).arrAt_eq_of_covers 14 _ (by decide +kernel) fun t hf y => ?_
  have h3 := (flush0_14 t).mp hf
  have ht : t.val = 15 := by have := point_lt t; omega
  blk_simp
  rw [after0_14, point E, ht]
  show rm .f32 1 1024 (fun _ k => ∑ r ∈ Finset.range 4096, D.dg₂ r k) (ix2 (y 0) (y 1)) = _
  blk_ext [idx t]

end Cert.KernelIdeal.Val

end
-- ==== Proof.Reference.lean ====
/- What the reference computes on real operands: every stage of its gradient, read off as the real function the
   specification names. -/
module

public import proofs.«01_k».proof.Proof.Spec
public import proofs.«01_k».proof.Proof.Gen.ReferenceIdeal.Read

@[expose] public section

set_option maxRecDepth 16384

noncomputable section

namespace Cert.ReferenceIdeal.Val

open Cert.ReferenceIdeal Cert.ReferenceIdeal.Gen Cert.ReferenceIdeal.Read Idealize.ShloMosaic Cert.Lift Cert.Ffn

/-! ## Real arithmetic -/

/-- The logistic function, as a quotient and through the hyperbolic tangent. -/
theorem sg_eq (z : ℝ) : 1 * (1 / (1 + Real.exp (-z))) = sg z := by
  unfold sg
  have h : z = 1 / 2 * z + 1 / 2 * z := by ring
  have e : Real.exp (-z) = Real.exp (-(1 / 2 * z)) * Real.exp (-(1 / 2 * z)) := by rw [← Real.exp_add]; ring_nf
  have p : Real.exp (1 / 2 * z) * Real.exp (-(1 / 2 * z)) = 1 := by rw [← Real.exp_add, add_neg_cancel, Real.exp_zero]
  have a := Real.exp_pos (1 / 2 * z)
  have b := Real.exp_pos (-(1 / 2 * z))
  rw [e, Real.tanh_eq_sinh_div_cosh, Real.sinh_eq, Real.cosh_eq]
  generalize Real.exp (1 / 2 * z) = u at *
  generalize Real.exp (-(1 / 2 * z)) = v at *
  field_simp
  linear_combination (-2 * v) * p

/-- The mean square of a row, the small number added. -/
def msq (A : ℕ → ℕ → ℝ) (r : ℕ) : ℝ := (∑ c ∈ Finset.range 1024, A r c * A r c) * (1 / 1024) + eps

theorem msq_pos (A : ℕ → ℕ → ℝ) (r : ℕ) : 0 < msq A r := by
  have := Finset.sum_nonneg fun c (_ : c ∈ Finset.range 1024) => mul_self_nonneg (A r c)
  unfold msq eps; positivity

theorem inv_eq (A : ℕ → ℕ → ℝ) (r : ℕ) : (Real.sqrt (msq A r))⁻¹ = inv A r := by
  unfold Ffn.inv msq; rw [mul_one_div]

theorem inv_sq (A : ℕ → ℕ → ℝ) (r : ℕ) : 1 / msq A r = inv A r * inv A r := by
  rw [← inv_eq, ← mul_inv, Real.mul_self_sqrt (msq_pos A r).le, one_div]

/-- The gradient of a row through its normalisation: the row's share, and the share through the root mean square,
    the latter from both factors of the square. -/
theorem back (A : ℕ → ℕ → ℝ) (d : ℕ → ℝ) (r c : ℕ) :
    d c * inv A r + A r c * ((∑ k ∈ Finset.range 1024, A r k * d k) * (-(1 / 2) * (inv A r * (1 / msq A r))) * (1 / 1024))
        + (∑ k ∈ Finset.range 1024, A r k * d k) * (-(1 / 2) * (inv A r * (1 / msq A r))) * (1 / 1024) * A r c
      = invBack (inv A r) (fun k => A r k * inv A r) d c := by
  unfold invBack
  have e : ∑ k ∈ Finset.range 1024, d k * (A r k * inv A r) = (∑ k ∈ Finset.range 1024, A r k * d k) * inv A r := by
    rw [Finset.sum_mul]
    exact Finset.sum_congr rfl fun k _ => by ring
  rw [e, inv_sq]
  ring

/-! ## The constants -/

theorem lit_zero : Ideal.ofBits .f32 0x00000000#32 = ((0 : ℝ) : EReal) := by simp [Ideal.ofBits, Ideal.ieee]
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_eps : Ideal.ofBits .f32 0x358637BD#32 = ((eps : ℝ) : EReal) := by
  unfold eps
  simp [Ideal.ofBits, Ideal.ieee, -EReal.coe_mul]; norm_num

/-! ## Operations on real entries -/

theorem div_real (a : ℝ) {b : ℝ} (h : b ≠ 0) : Ideal.div (a : EReal) (b : EReal) = ((a * (1 / b) : ℝ) : EReal) := by
  rw [Ideal.div_coe h, ← EReal.coe_mul]

theorem rsqrt_real {a : ℝ} (h : 0 < a) : Ideal.rsqrt (a : EReal) = (((Real.sqrt a)⁻¹ : ℝ) : EReal) := by
  rw [Ideal.rsqrt_coe, if_neg h.le.not_gt, if_neg h.ne']

/-- A sum from the constant zero on. -/
theorem sum_real (n : ℕ) (a : ℕ → ℝ) :
    Ideal.ofBits .f32 0x00000000#32 + ∑ k : Fin n, ((a k.val : ℝ) : EReal) = ((∑ k ∈ Finset.range n, a k : ℝ) : EReal) := by
  rw [lit_zero, sum_fin, ← EReal.coe_add, zero_add]

/-! ## The forward pass -/

variable (D : Data)

abbrev x0 := rm .f32 4096 1024 D.x
abbrev x1 := rm .f32 4096 1024 D.tgt
abbrev x2 := rm .f32 1 1024 fun _ k => D.g₁ k
abbrev x3 := rm .f32 1024 5632 D.wi
abbrev x4 := rm .f32 2816 1024 D.wo
abbrev x5 := rm .f32 1 1024 fun _ k => D.g₂ k

theorem v3 : val_main_v3 (F := Ideal) (x0 D) = rv .f32 4096 fun r => ∑ c ∈ Finset.range 1024, D.x r c * D.x r c := by
  funext i
  rw [val_main_v3_apply]
  exact sum_real 1024 fun c => D.x (i 0).val c * D.x (i 0).val c

theorem v8 : val_main_v8 (F := Ideal) (x0 D) = rm .f32 4096 1 fun r _ => msq D.x r := by
  funext i
  rw [val_main_v8_apply, val_main_v6_apply, val_main_v4_apply, val_main_v5_apply, val_main_v7_apply, v3]
  show Ideal.div _ (Ideal.ofBits .f32 0x44800000#32) + Ideal.ofBits .f32 0x358637BD#32 = _
  rw [lit_1024, lit_eps]
  exact (congrArg (· + ((eps : ℝ) : EReal)) (div_real _ (by norm_num))).trans (EReal.coe_add _ _).symm

theorem v9 : val_main_v9 (F := Ideal) (x0 D) = rm .f32 4096 1 fun r _ => inv D.x r := by
  funext i
  rw [val_main_v9_apply, v8]
  exact (rsqrt_real (msq_pos _ _)).trans (congrArg _ (inv_eq _ _))

theorem v12 : val_main_v12 (F := Ideal) (x0 D) = rm .f32 4096 1 fun r _ => -(1 / 2) * (inv D.x r * (1 / msq D.x r)) := by
  funext i
  rw [val_main_v12_apply, val_main_v11_apply, val_main_v10_apply, v9, v8]
  show Ideal.ofBits .f32 0xBF000000#32 * Ideal.div _ _ = _
  rw [lit_neg_half]
  exact (congrArg (((-(1 / 2) : ℝ) : EReal) * ·) (div_real _ (msq_pos _ _).ne')).trans (EReal.coe_mul _ _).symm

theorem v14 : val_main_v14 (F := Ideal) (x0 D) = rm .f32 4096 1024 D.n₁ := by
  funext i
  rw [val_main_v14_apply, val_main_v13_apply, v9]
  rfl

theorem v16 : val_main_v16 (F := Ideal) (x0 D) (x2 D) = rm .f32 4096 1024 D.h := by
  funext i
  rw [val_main_v16_apply, val_main_v15_apply, v14]
  rfl

theorem v18 : val_main_v18 (F := Ideal) (x0 D) (x2 D) (x3 D) = rm .f32 4096 5632 D.gu := by
  funext i
  rw [val_main_v18_apply, val_main_v17_apply, val_main_v0_apply, v16]
  show _ + Ideal.ofBits .f32 0x00000000#32 = _
  rw [add_comm]
  exact sum_real 1024 fun k => D.h (i 0).val k * D.wi k (i 1).val

theorem v19 : val_main_v19 (F := Ideal) (x0 D) (x2 D) (x3 D) = rm .f32 4096 2816 D.gate := by
  funext i
  rw [val_main_v19_apply, v18]
  rfl

theorem v20 : val_main_v20 (F := Ideal) (x0 D) (x2 D) (x3 D) = rm .f32 4096 2816 D.up := by
  funext i
  rw [val_main_v20_apply, v18]
  rfl

theorem v21_2 : val_main_v21_2 (F := Ideal) (x0 D) (x2 D) (x3 D) = rm .f32 4096 2816 fun r j => sg (D.gate r j) := by
  funext i
  rw [val_main_v21_2_apply, val_main_call0_v4_apply, val_main_call0_v3_apply, val_main_call0_v2_apply, val_main_call0_v1_apply,
    val_main_call0_v0_apply, v19]
  show Ideal.div (Ideal.ofBits .f32 0x3F800000#32) (Ideal.ofBits .f32 0x3F800000#32 + ((Real.exp (-D.gate (i 0).val (i 1).val) : ℝ) : EReal)) = _
  rw [lit_one, ← EReal.coe_add, div_real _ (by positivity), sg_eq]
  rfl

theorem v21_1 : val_main_v21_1 (F := Ideal) (x0 D) (x2 D) (x3 D)
    = rm .f32 4096 2816 fun r j => sg (D.gate r j) * (1 - sg (D.gate r j)) := by
  funext i
  rw [val_main_v21_1_apply, val_main_call0_v7_apply, val_main_call0_v6_apply, v21_2]
  show _ * (Ideal.ofBits .f32 0x3F800000#32 - _) = _
  rw [lit_one]
  rfl

theorem v21_0 : val_main_v21_0 (F := Ideal) (x0 D) (x2 D) (x3 D) = rm .f32 4096 2816 fun r j => D.gate r j * sg (D.gate r j) := by
  funext i
  rw [val_main_v21_0_apply, v21_2, v19]
  rfl

theorem v22 : val_main_v22 (F := Ideal) (x0 D) (x2 D) (x3 D) = rm .f32 4096 2816 D.f := by
  funext i
  rw [val_main_v22_apply, v21_0, v20]
  rfl

theorem v24 : val_main_v24 (F := Ideal) (x0 D) (x2 D) (x3 D) (x4 D) = rm .f32 4096 1024 D.y := by
  funext i
  rw [val_main_v24_apply, val_main_v23_apply, val_main_v1_apply, v22]
  show _ + Ideal.ofBits .f32 0x00000000#32 = _
  rw [add_comm]
  exact sum_real 2816 fun k => D.f (i 0).val k * D.wo k (i 1).val

theorem v26 : val_main_v26 (F := Ideal) (x0 D) (x2 D) (x3 D) (x4 D)
    = rv .f32 4096 fun r => ∑ c ∈ Finset.range 1024, D.y r c * D.y r c := by
  funext i
  rw [val_main_v26_apply]
  simp only [val_main_v25_apply, v24]
  exact sum_real 1024 fun c => D.y (i 0).val c * D.y (i 0).val c

theorem v31 : val_main_v31 (F := Ideal) (x0 D) (x2 D) (x3 D) (x4 D) = rm .f32 4096 1 fun r _ => msq D.y r := by
  funext i
  rw [val_main_v31_apply, val_main_v29_apply, val_main_v27_apply, val_main_v28_apply, val_main_v30_apply, v26]
  show Ideal.div _ (Ideal.ofBits .f32 0x44800000#32) + Ideal.ofBits .f32 0x358637BD#32 = _
  rw [lit_1024, lit_eps]
  exact (congrArg (· + ((eps : ℝ) : EReal)) (div_real _ (by norm_num))).trans (EReal.coe_add _ _).symm

theorem v32 : val_main_v32 (F := Ideal) (x0 D) (x2 D) (x3 D) (x4 D) = rm .f32 4096 1 fun r _ => inv D.y r := by
  funext i
  rw [val_main_v32_apply, v31]
  exact (rsqrt_real (msq_pos _ _)).trans (congrArg _ (inv_eq _ _))

theorem v35 : val_main_v35 (F := Ideal) (x0 D) (x2 D) (x3 D) (x4 D)
    = rm .f32 4096 1 fun r _ => -(1 / 2) * (inv D.y r * (1 / msq D.y r)) := by
  funext i
  rw [val_main_v35_apply, val_main_v34_apply, val_main_v33_apply, v32, v31]
  show Ideal.ofBits .f32 0xBF000000#32 * Ideal.div _ _ = _
  rw [lit_neg_half]
  exact (congrArg (((-(1 / 2) : ℝ) : EReal) * ·) (div_real _ (msq_pos _ _).ne')).trans (EReal.coe_mul _ _).symm

theorem v37 : val_main_v37 (F := Ideal) (x0 D) (x2 D) (x3 D) (x4 D) = rm .f32 4096 1024 D.n₂ := by
  funext i
  rw [val_main_v37_apply, val_main_v36_apply, v32, v24]
  rfl

theorem v41 : val_main_v41 (F := Ideal) (x0 D) (x1 D) (x2 D) (x3 D) (x4 D) (x5 D) = rm .f32 4096 1024 D.err := by
  funext i
  rw [val_main_v41_apply, val_main_v40_apply, val_main_v39_apply, val_main_v38_apply, v37]
  rfl

/-! ## The loss -/

theorem v47 : val_main_v47 (F := Ideal) (x0 D) (x1 D) (x2 D) (x3 D) (x4 D) (x5 D)
    = rv .f32 4096 fun r => (∑ c ∈ Finset.range 1024, D.err r c * D.err r c) * (1 / 1024) := by
  funext i
  rw [val_main_v47_apply, val_main_v46_apply, val_main_v45_apply]
  simp only [val_main_v42_apply, v41]
  show Ideal.div _ (Ideal.ofBits .f32 0x44800000#32) = _
  rw [lit_1024]
  exact (congrArg (Ideal.div · _) (sum_real 1024 fun c => D.err (i 0).val c * D.err (i 0).val c)).trans (div_real _ (by norm_num))

theorem loss : val_main_v105 (F := Ideal) (x0 D) (x1 D) (x2 D) (x3 D) (x4 D) (x5 D)
    = rm .f32 1 128 fun _ _ => ∑ r ∈ Finset.range 4096, D.loss r := by
  funext i
  rw [val_main_v105_apply, val_main_v49_apply, val_main_v48_apply, v47, sum_idx1]
  show Ideal.ofBits .f32 0x3F000000#32 * _ = _
  rw [lit_half]
  refine (congrArg (((1 / 2 : ℝ) : EReal) * ·)
    (sum_real 4096 fun r => (∑ c ∈ Finset.range 1024, D.err r c * D.err r c) * (1 / 1024))).trans ?_
  rw [← EReal.coe_mul, Finset.mul_sum]
  refine congrArg _ (Finset.sum_congr rfl fun r _ => ?_)
  unfold Data.loss
  ring

/-! ## The backward pass -/

theorem v55 : val_main_v55 (F := Ideal) (x0 D) (x1 D) (x2 D) (x3 D) (x4 D) (x5 D) = rm .f32 4096 1024 D.dx₂ := by
  funext i
  rw [val_main_v55_apply, val_main_v54_apply, val_main_v53_apply, val_main_v51_apply, val_main_v52_apply, val_main_v50_apply,
    val_main_v44_apply, val_main_v43_apply, v41]
  show Ideal.div (Ideal.ofBits .f32 0x3F000000#32 * Ideal.ofBits .f32 0x3F800000#32) (Ideal.ofBits .f32 0x44800000#32)
    * (Ideal.ofBits .f32 0x40000000#32 * ((D.err (i 0).val (i 1).val : ℝ) : EReal)) = ((D.dx₂ (i 0).val (i 1).val : ℝ) : EReal)
  rw [lit_half, lit_one, lit_1024, lit_two, ← EReal.coe_mul, ← EReal.coe_mul, div_real _ (by norm_num), ← EReal.coe_mul]
  unfold Data.dx₂
  exact congrArg _ (by ring)

theorem v57 : val_main_v57 (F := Ideal) (x0 D) (x1 D) (x2 D) (x3 D) (x4 D) (x5 D)
    = rv .f32 1024 fun k => ∑ r ∈ Finset.range 4096, D.n₂ r k * D.dx₂ r k := by
  funext i
  rw [val_main_v57_apply]
  simp only [val_main_v56_apply, v37, v55]
  exact sum_real 4096 fun r => D.n₂ r (i 0).val * D.dx₂ r (i 0).val

theorem dg₂ : val_main_v58 (F := Ideal) (x0 D) (x1 D) (x2 D) (x3 D) (x4 D) (x5 D)
    = rm .f32 1 1024 fun _ k => ∑ r ∈ Finset.range 4096, D.dg₂ r k := by
  unfold val_main_v58
  rw [v57]
  refine (shapeCast_row (n := 1024) _ _).trans (rm_congr fun _ _ k _ => ?_)
  exact Finset.sum_congr rfl fun r _ => mul_comm _ _

theorem v60 : val_main_v60 (F := Ideal) (x0 D) (x1 D) (x2 D) (x3 D) (x4 D) (x5 D) = rm .f32 4096 1024 fun r k => D.dx₂ r k * D.g₂ k := by
  funext i
  rw [val_main_v60_apply, val_main_v59_apply, v55]
  rfl

theorem v62 : val_main_v62 (F := Ideal) (x0 D) (x1 D) (x2 D) (x3 D) (x4 D) (x5 D)
    = rv .f32 4096 fun r => ∑ k ∈ Finset.range 1024, D.y r k * (D.dx₂ r k * D.g₂ k) := by
  funext i
  rw [val_main_v62_apply]
  simp only [val_main_v61_apply, v24, v60]
  exact sum_real 1024 fun k => D.y (i 0).val k * (D.dx₂ (i 0).val k * D.g₂ k)

theorem v63 : val_main_v63 (F := Ideal) (x0 D) (x1 D) (x2 D) (x3 D) (x4 D) (x5 D)
    = rm .f32 4096 1 fun r _ => ∑ k ∈ Finset.range 1024, D.y r k * (D.dx₂ r k * D.g₂ k) := by
  unfold val_main_v63
  rw [v62]
  exact shapeCast_col (m := 4096) _ _

/-- The gradient through the second root mean square, one number per row. -/
theorem v70 : val_main_v70 (F := Ideal) (x0 D) (x1 D) (x2 D) (x3 D) (x4 D) (x5 D) = rm .f32 4096 1024 fun r _ =>
    (∑ k ∈ Finset.range 1024, D.y r k * (D.dx₂ r k * D.g₂ k)) * (-(1 / 2) * (inv D.y r * (1 / msq D.y r))) * (1 / 1024) := by
  funext i
  rw [val_main_v70_apply, val_main_v69_apply, Fin.sum_univ_one, val_main_v68_apply, val_main_v67_apply, val_main_v66_apply,
    v63, v35]
  show Ideal.ofBits .f32 0x00000000#32 + Ideal.div (((_ : ℝ) : EReal) * ((_ : ℝ) : EReal)) (Ideal.ofBits .f32 0x44800000#32) = _
  rw [lit_1024, ← EReal.coe_mul, div_real _ (by norm_num), lit_zero, ← EReal.coe_add, zero_add]
  rfl

theorem v74 : val_main_v74 (F := Ideal) (x0 D) (x1 D) (x2 D) (x3 D) (x4 D) (x5 D) = rm .f32 4096 1024 D.dy := by
  funext i
  rw [val_main_v74_apply, val_main_v73_apply, val_main_v72_apply, val_main_v71_apply, val_main_v65_apply, val_main_v64_apply,
    v70, v60, v32, v24]
  exact congrArg (fun a : ℝ => (a : EReal)) (back D.y (fun k => D.dx₂ (i 0).val k * D.g₂ k) (i 0).val (i 1).val)

theorem v75 : val_main_v75 (F := Ideal) (x0 D) (x1 D) (x2 D) (x3 D) (x4 D) (x5 D) = rm .f32 4096 2816 D.df := by
  funext i
  rw [val_main_v75_apply, v74]
  exact sum_fin 1024 fun k => D.dy (i 0).val k * D.wo (i 1).val k

theorem v76 : val_main_v76 (F := Ideal) (x0 D) (x1 D) (x2 D) (x3 D) (x4 D) (x5 D) = rm .f32 4096 2816 D.dup := by
  funext i
  rw [val_main_v76_apply, v75, v21_0]
  exact congrArg (fun a : ℝ => (a : EReal)) (mul_comm _ _)

theorem v78 : val_main_v78 (F := Ideal) (x0 D) (x1 D) (x2 D) (x3 D) (x4 D) (x5 D) = rm .f32 4096 2816 D.dgate := by
  funext i
  rw [val_main_v78_apply, val_main_call1_v2_apply, val_main_call1_v1_apply, val_main_call1_v0_apply, val_main_v77_apply, v75, v21_1,
    v21_2, v20, v19]
  refine congrArg (fun a : ℝ => (a : EReal)) (?_ : _ = D.dgate (i 0).val (i 1).val)
  unfold Data.dgate
  beta_reduce
  generalize D.df (i 0).val (i 1).val = d, D.up (i 0).val (i 1).val = u, D.gate (i 0).val (i 1).val = g
  ring

theorem v79 : val_main_v79 (F := Ideal) (x0 D) (x1 D) (x2 D) (x3 D) (x4 D) (x5 D) = rm .f32 4096 5632 D.dgu := by
  unfold val_main_v79
  rw [v76, v78]
  exact concatenate_cols (m := 4096) (n := 2816) D.dgate D.dup 2816 _

theorem v80 : val_main_v80 (F := Ideal) (x0 D) (x1 D) (x2 D) (x3 D) (x4 D) (x5 D) = rm .f32 4096 1024 D.dh := by
  funext i
  rw [val_main_v80_apply, v79]
  exact sum_fin 5632 fun k => D.dgu (i 0).val k * D.wi (i 1).val k

theorem v82 : val_main_v82 (F := Ideal) (x0 D) (x1 D) (x2 D) (x3 D) (x4 D) (x5 D)
    = rv .f32 1024 fun k => ∑ r ∈ Finset.range 4096, D.n₁ r k * D.dh r k := by
  funext i
  rw [val_main_v82_apply]
  simp only [val_main_v81_apply, v14, v80]
  exact sum_real 4096 fun r => D.n₁ r (i 0).val * D.dh r (i 0).val

theorem dg₁ : val_main_v83 (F := Ideal) (x0 D) (x1 D) (x2 D) (x3 D) (x4 D) (x5 D)
    = rm .f32 1 1024 fun _ k => ∑ r ∈ Finset.range 4096, D.dg₁ r k := by
  unfold val_main_v83
  rw [v82]
  refine (shapeCast_row (n := 1024) _ _).trans (rm_congr fun _ _ k _ => ?_)
  exact Finset.sum_congr rfl fun r _ => mul_comm _ _

theorem v85 : val_main_v85 (F := Ideal) (x0 D) (x1 D) (x2 D) (x3 D) (x4 D) (x5 D) = rm .f32 4096 1024 fun r k => D.dh r k * D.g₁ k := by
  funext i
  rw [val_main_v85_apply, val_main_v84_apply, v80]
  rfl

theorem v87 : val_main_v87 (F := Ideal) (x0 D) (x1 D) (x2 D) (x3 D) (x4 D) (x5 D)
    = rv .f32 4096 fun r => ∑ k ∈ Finset.range 1024, D.x r k * (D.dh r k * D.g₁ k) := by
  funext i
  rw [val_main_v87_apply]
  simp only [val_main_v86_apply, v85]
  exact sum_real 1024 fun k => D.x (i 0).val k * (D.dh (i 0).val k * D.g₁ k)

theorem v88 : val_main_v88 (F := Ideal) (x0 D) (x1 D) (x2 D) (x3 D) (x4 D) (x5 D)
    = rm .f32 4096 1 fun r _ => ∑ k ∈ Finset.range 1024, D.x r k * (D.dh r k * D.g₁ k) := by
  unfold val_main_v88
  rw [v87]
  exact shapeCast_col (m := 4096) _ _

/-- The gradient through the first root mean square, one number per row. -/
theorem v96 : val_main_v96 (F := Ideal) (x0 D) (x1 D) (x2 D) (x3 D) (x4 D) (x5 D) = rm .f32 4096 1024 fun r _ =>
    (∑ k ∈ Finset.range 1024, D.x r k * (D.dh r k * D.g₁ k)) * (-(1 / 2) * (inv D.x r * (1 / msq D.x r))) * (1 / 1024) := by
  funext i
  rw [val_main_v96_apply, val_main_v95_apply, Fin.sum_univ_one, val_main_v94_apply, val_main_v93_apply, val_main_v92_apply,
    v88, v12]
  show Ideal.ofBits .f32 0x00000000#32 + Ideal.div (((_ : ℝ) : EReal) * ((_ : ℝ) : EReal)) (Ideal.ofBits .f32 0x44800000#32) = _
  rw [lit_1024, ← EReal.coe_mul, div_real _ (by norm_num), lit_zero, ← EReal.coe_add, zero_add]
  rfl

theorem dx₁ : val_main_v100 (F := Ideal) (x0 D) (x1 D) (x2 D) (x3 D) (x4 D) (x5 D) = rm .f32 4096 1024 D.dx₁ := by
  funext i
  rw [val_main_v100_apply, val_main_v99_apply, val_main_v98_apply, val_main_v97_apply, val_main_v91_apply, val_main_v90_apply,
    val_main_v89_apply, v96, v85, v55, v9]
  refine congrArg (fun a : ℝ => (a : EReal)) (?_ : _ = D.dx₁ (i 0).val (i 1).val)
  refine Eq.trans ?_ (congrArg (D.dx₂ (i 0).val (i 1).val + ·) (back D.x (fun k => D.dh (i 0).val k * D.g₁ k) (i 0).val (i 1).val))
  rw [← add_assoc, ← add_assoc]

theorem h : val_main_v101 (F := Ideal) (x0 D) (x2 D) = rm .bf16 4096 1024 D.h := by
  unfold val_main_v101
  rw [v16]; rfl

theorem f : val_main_v102 (F := Ideal) (x0 D) (x2 D) (x3 D) = rm .bf16 4096 2816 D.f := by
  unfold val_main_v102
  rw [v22]; rfl

theorem dgu : val_main_v103 (F := Ideal) (x0 D) (x1 D) (x2 D) (x3 D) (x4 D) (x5 D) = rm .bf16 4096 5632 D.dgu := by
  unfold val_main_v103
  rw [v79]; rfl

theorem dy : val_main_v104 (F := Ideal) (x0 D) (x1 D) (x2 D) (x3 D) (x4 D) (x5 D) = rm .bf16 4096 1024 D.dy := by
  unfold val_main_v104
  rw [v74]; rfl

end Cert.ReferenceIdeal.Val

end
-- ==== Proof.Finite.lean ====
/- The precondition read back: an array all of whose elements are numbers, absolute value below infinity, is an array
   of real entries. -/
module

public import proofs.«01_k».proof.Pre_finite
public import proofs.«01_k».proof.Proof.Lift
public import proofs.«01_k».proof.Proof.Spec
public import Idealize.ShloMosaic.Lib.ReduceAll
public import Idealize.ShloMosaic.Lib.Affine

@[expose] public section

set_option maxRecDepth 16384

noncomputable section

namespace Cert.Pre_finite

open Idealize.ShloMosaic Cert.Lift Cert.Ffn

/-- The shape relations the precondition states. -/
theorem facts : Facts where
  bcast_S_S4096x1024 := by decide
  reducesTo_S4096x1024_S_d0_1 := by decide
  h_S_ := by decide
  bcast_S_S1x1024 := by decide
  reducesTo_S1x1024_S_d0_1 := by decide
  bcast_S_S1024x5632 := by decide
  reducesTo_S1024x5632_S_d0_1 := by decide
  bcast_S_S2816x1024 := by decide
  reducesTo_S2816x1024_S_d0_1 := by decide

instance : Subsingleton S_.Idx := ⟨fun _ _ => funext fun a => a.elim0⟩

/-- An extended real whose absolute value is below infinity is real. -/
theorem real_of_lt (x : EReal) (h : Ideal.cmp .olt (max x (-x)) (Ideal.ofBits .f32 0x7F800000#32) = 1#1) : ((x.toReal : ℝ) : EReal) = x := by
  have e : Ideal.ofBits .f32 0x7F800000#32 = ⊤ := by simp [Ideal.ofBits, Ideal.ieee]
  rw [e] at h
  have lt : max x (-x) < ⊤ := by
    by_contra hn
    simp [Ideal.cmp, hn] at h
  refine EReal.coe_toReal (fun hx => ?_) (fun hx => ?_)
  · rw [hx] at lt; simp at lt
  · rw [hx] at lt; simp at lt

/-- The matrix of extended reals, as numbers. -/
def entries (m n : ℕ) (x : (⟨2, ![m, n]⟩ : Shape).Idx → EReal) (r c : ℕ) : ℝ :=
  if h : r < m ∧ c < n then (x (ix2 ⟨r, h.1⟩ ⟨c, h.2⟩)).toReal else 0

theorem eq_entries (m n : ℕ) (x : (⟨2, ![m, n]⟩ : Shape).Idx → EReal) (hb : S_.BroadcastsInDim ⟨2, ![m, n]⟩ ![])
    (hr : (⟨2, ![m, n]⟩ : Shape).ReducesTo [0, 1] S_) (hu : 0 < S_.numel) (j : S_.Idx)
    (e : Host.reduce IntOp.andi (cmpf (F := Ideal) (φ := .f32) .olt (Host.absf x) (broadcastInDim ⟨2, ![m, n]⟩ ![] hb (constant S_ .f32 0x7F800000#32)))
      (constantI S_ 1 1#1) hr hu j = 1#1) : x = rm .f32 m n (entries m n x) := by
  funext i
  have h := Host.reduce_andi_all _ _ hr hu j e i
  have hx : ((x i).toReal : EReal) = x i := real_of_lt (x i) h
  show x i = ((entries m n x (i 0).val (i 1).val : ℝ) : EReal)
  have hi : ix2 ⟨(i 0).val, (i 0).isLt⟩ ⟨(i 1).val, (i 1).isLt⟩ = i := (ValueIdx.eq_ix2 i).symm
  have he : entries m n x (i 0).val (i 1).val = (x i).toReal :=
    (dif_pos (show (i 0).val < m ∧ (i 1).val < n from ⟨(i 0).isLt, (i 1).isLt⟩)).trans (congrArg (fun y => (x y).toReal) hi)
  rw [he, hx]

variable [Facts]

/-- The operands as numbers. -/
def data (a0 a1 : FVec Ideal S4096x1024 .f32) (a2 : FVec Ideal S1x1024 .f32) (a3 : FVec Ideal S1024x5632 .f32)
    (a4 : FVec Ideal S2816x1024 .f32) (a5 : FVec Ideal S1x1024 .f32) : Data where
  x := entries 4096 1024 a0
  tgt := entries 4096 1024 a1
  wi := entries 1024 5632 a3
  wo := entries 2816 1024 a4
  g₁ := entries 1 1024 a2 0
  g₂ := entries 1 1024 a5 0

theorem row_eq (a : FVec Ideal S1x1024 .f32) (h : a = rm .f32 1 1024 (entries 1 1024 a)) :
    a = rm .f32 1 1024 fun _ k => entries 1 1024 a 0 k :=
  h.trans (rm_congr fun r hr _ _ => by rw [Nat.lt_one_iff.mp hr])

theorem operands (a0 a1 : FVec Ideal S4096x1024 .f32) (a2 : FVec Ideal S1x1024 .f32) (a3 : FVec Ideal S1024x5632 .f32)
    (a4 : FVec Ideal S2816x1024 .f32) (a5 : FVec Ideal S1x1024 .f32) (j : S_.Idx) (h : fn (F := Ideal) a0 a1 a2 a3 a4 a5 j = 1#1) :
    a0 = rm .f32 4096 1024 (data a0 a1 a2 a3 a4 a5).x ∧ a1 = rm .f32 4096 1024 (data a0 a1 a2 a3 a4 a5).tgt
      ∧ a2 = rm .f32 1 1024 (fun _ k => (data a0 a1 a2 a3 a4 a5).g₁ k) ∧ a3 = rm .f32 1024 5632 (data a0 a1 a2 a3 a4 a5).wi
      ∧ a4 = rm .f32 2816 1024 (data a0 a1 a2 a3 a4 a5).wo ∧ a5 = rm .f32 1 1024 (fun _ k => (data a0 a1 a2 a3 a4 a5).g₂ k) := by
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨eq_entries _ _ _ _ _ _ j h0, eq_entries _ _ _ _ _ _ j h1, row_eq _ (eq_entries _ _ _ _ _ _ j h2), eq_entries _ _ _ _ _ _ j h3,
    eq_entries _ _ _ _ _ _ j h4, row_eq _ (eq_entries _ _ _ _ _ _ j h5)⟩

end Cert.Pre_finite

end
-- ==== Proof.FfnClaim.lean ====
/- The value claim of the FFN call: on operands that are numbers the kernel's eight results are the reference's. -/
module

public import proofs.«01_k».proof.Defs
public import proofs.«01_k».proof.Proof.Arrays
public import proofs.«01_k».proof.Proof.Reference
public import proofs.«01_k».proof.Proof.Finite
public import Idealize.ShloMosaic.Adequacy

@[expose] public section

set_option maxRecDepth 16384

noncomputable section

namespace Cert.Proof

open Idealize.ShloMosaic Idealize.ShloMosaic.TcCoe Idealize.SL.Sem Cert.Lift Cert.Ffn

instance : Cert.Pre_finite.Facts := Cert.Pre_finite.facts

variable (m : (ℓ : Loc Cert.KernelIdeal.nD Cert.KernelIdeal.τ Cert.KernelIdeal.sig) → Buf (Elt Ideal) ℓ)

/-- The kernel's operands on device `c`, as numbers. -/
def operands (c : Dev Cert.KernelIdeal.nD) : Data :=
  Cert.Pre_finite.data (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

theorem entry (h : Cert.Pre_KernelIdeal_finite m) (c : Dev Cert.KernelIdeal.nD) :
    Cert.KernelIdeal.Val.Entry m (operands m c) c :=
  have e := Cert.Pre_finite.operands _ _ _ _ _ _ (fun a => a.elim0) (congrFun (h c) fun a => a.elim0)
  ⟨e.1, e.2.1, e.2.2.1, e.2.2.2.1, e.2.2.2.2.1, e.2.2.2.2.2⟩

theorem algebraic_ffn : Cert.algebraic_KernelIdeal_ReferenceIdeal_pre_finite := fun m g m' g' hp ha =>
  ⟨fun c => rm .bf16 4096 1024 (operands m c).h, fun c => rm .bf16 4096 2816 (operands m c).f,
    fun c => rm .bf16 4096 5632 (operands m c).dgu, fun c => rm .bf16 4096 1024 (operands m c).dy,
    fun c => rm .f32 4096 1024 (operands m c).dx₁, fun c => rm .f32 1 128 fun _ _ => ∑ r ∈ Finset.range 4096, (operands m c).loss r,
    fun c => rm .f32 1 1024 fun _ k => ∑ r ∈ Finset.range 4096, (operands m c).dg₁ r k,
    fun c => rm .f32 1 1024 fun _ k => ∑ r ∈ Finset.range 4096, (operands m c).dg₂ r k,
    (θ_run Cert.KernelIdeal.defs _ _).mono (fun _ h c => by
      obtain ⟨h0, h1, h2, h3, h4, h5, h6, h7, args⟩ := h c
      have E := entry m hp c
      exact ⟨h0.trans (Cert.KernelIdeal.Val.array_h E), h1.trans (Cert.KernelIdeal.Val.array_f E),
        h2.trans (Cert.KernelIdeal.Val.array_dgu E), h3.trans (Cert.KernelIdeal.Val.array_dy E),
        h4.trans (Cert.KernelIdeal.Val.array_dx₁ E), h5.trans (Cert.KernelIdeal.Val.array_loss E),
        h6.trans (Cert.KernelIdeal.Val.array_dg₁ E), h7.trans (Cert.KernelIdeal.Val.array_dg₂ E), args⟩)
      (Cert.KernelIdeal.Value.run_blocks (F := Ideal) m g),
    (θ_run Cert.ReferenceIdeal.defs _ _).mono (fun _ h c => by
      obtain ⟨h0, h1, h2, h3, h4, h5, h6, h7, args⟩ := h c
      obtain ⟨a0, a1, a2, a3, a4, a5⟩ := ha c
      have E := entry m hp c
      have b0 := a0.trans E.x
      have b1 := a1.trans E.tgt
      have b2 := a2.trans E.g₁
      have b3 := a3.trans E.wi
      have b4 := a4.trans E.wo
      have b5 := a5.trans E.g₂
      rw [Cert.ReferenceIdeal.Read.val_main_v101_eq] at h0
      rw [Cert.ReferenceIdeal.Read.val_main_v102_eq] at h1
      rw [Cert.ReferenceIdeal.Read.val_main_v103_eq] at h2
      rw [Cert.ReferenceIdeal.Read.val_main_v104_eq] at h3
      rw [Cert.ReferenceIdeal.Read.val_main_v100_eq] at h4
      rw [Cert.ReferenceIdeal.Read.val_main_v105_eq] at h5
      rw [Cert.ReferenceIdeal.Read.val_main_v83_eq] at h6
      rw [Cert.ReferenceIdeal.Read.val_main_v58_eq] at h7
      change StableHlo.launchContents m' c (Proc.devRef .tc Cert.ReferenceIdeal.main_arg0) = _ at b0
      change StableHlo.launchContents m' c (Proc.devRef .tc Cert.ReferenceIdeal.main_arg1) = _ at b1
      change StableHlo.launchContents m' c (Proc.devRef .tc Cert.ReferenceIdeal.main_arg2) = _ at b2
      change StableHlo.launchContents m' c (Proc.devRef .tc Cert.ReferenceIdeal.main_arg3) = _ at b3
      change StableHlo.launchContents m' c (Proc.devRef .tc Cert.ReferenceIdeal.main_arg4) = _ at b4
      change StableHlo.launchContents m' c (Proc.devRef .tc Cert.ReferenceIdeal.main_arg5) = _ at b5
      rw [b0, b2] at h0
      rw [b0, b2, b3] at h1
      rw [b0, b1, b2, b3, b4, b5] at h2 h3 h4 h5 h6 h7
      exact ⟨h0.trans (Cert.ReferenceIdeal.Val.h _), h1.trans (Cert.ReferenceIdeal.Val.f _), h2.trans (Cert.ReferenceIdeal.Val.dgu _),
        h3.trans (Cert.ReferenceIdeal.Val.dy _), h4.trans (Cert.ReferenceIdeal.Val.dx₁ _), h5.trans (Cert.ReferenceIdeal.Val.loss _),
        h6.trans (Cert.ReferenceIdeal.Val.dg₁ _), h7.trans (Cert.ReferenceIdeal.Val.dg₂ _), args⟩)
      (Cert.ReferenceIdeal.Value.run (F := Ideal) m' g')⟩

end Cert.Proof

end
-- ==== Proof.DwSquareValue.lean ====
/- What the weight gradient of the square products computes: the result is the sum, over the four
   blocks of tokens, of the products of the blocks, and the reference's contraction runs over all tokens at once. -/
module

public import proofs.«01_k».proof.Proof.Gen.DwSquareIdeal.Value
public import proofs.«01_k».proof.Proof.Gen.DwSquareReferenceIdeal.Read
public import Idealize.ShloMosaic.Lib.Pipeline.ValueKit
public import Idealize.ShloMosaic.Lib.Pointwise

@[expose] public section

set_option maxRecDepth 16384

noncomputable section

namespace Cert.DwSquareIdeal.Val

open Cert.DwSquareIdeal Cert.DwSquareIdeal.Gen Idealize.ShloMosaic Idealize.ShloMosaic.TcCoe Idealize.SL.Sem
open Idealize.ShloMosaic.Pipeline (Dat)

variable (m : (ℓ : Loc nD τ sig) → Buf (Elt Ideal) ℓ)

/-- The blocks the windows stage at point `t`: token block `t % 4`. -/
theorem idx : ∀ t : Fin cfg0.N, win0_0.index t = ![t.val % 4, 0] ∧ win0_1.index t = ![t.val % 4, 0]
    ∧ win0_2.index t = ![0, 0] := by decide +kernel

/-- The product of one token block. -/
def part (x : S1024x1024.Idx → EReal) (z : S1024x1024.Idx → EReal) (y : S1024x1024.Idx) : EReal :=
  ∑ k : Fin 1024, x (ix2 k (y 0)) * z (ix2 k (y 1))

theorem pay1 (x : S1024x1024.Idx → EReal) (z : S1024x1024.Idx → EReal) (y : S1024x1024.Idx) :
    k0_pay1 (F := Ideal) x z y = 0 + part x z y := by
  pointwise [k0_pay1, part]

theorem pay2 (w : S1024x1024.Idx → EReal) (x : S1024x1024.Idx → EReal) (z : S1024x1024.Idx → EReal) (y : S1024x1024.Idx) :
    k0_pay2 (F := Ideal) w x z y = w y + part x z y := by
  pointwise [k0_pay2, part]

theorem array (c : Dev nD) :
    (dats m 0 c).arrAt 2 cfg0.N = Cert.DwSquareReferenceIdeal.Read.val_main_v5 (F := Ideal)
      (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  rw [Pipeline.eq_sum_fin_of_reset_step_apply_of_flush (fun n h => outsAt0 m c n h) 4 (fun _ => 0) _
    (fun t h y => by rw [outsAt0_A m c t h (by have := t.isLt; have : cfg0.N = 4 := rfl; omega)]; frame_out; rw [pay1])
    (fun t h y => by rw [outsAt0_B m c t h (by omega)]; frame_out; rw [pay2]) t h3 y]
  rw [Cert.DwSquareReferenceIdeal.Read.val_main_v5_apply, Cert.DwSquareReferenceIdeal.Read.val_main_v4_apply]
  unfold part
  refine (zero_add (M := EReal) _).trans (Fin.sum_mul_add_congr fun s k hl => ?_)
  rw [mul_comm]
  have e := idx ⟨4 * (t.val / 4) + s.val, Pipeline.run_point_lt_of_flush t h3 s⟩
  congr 1 <;> blk_ext [iblk, V, e, idx t]

end Cert.DwSquareIdeal.Val

end
-- ==== Proof.DwMergeValue.lean ====
/- What the weight gradient of the input product over the merge gates' columns (and the spatial gate's) computes: the result is the sum, over the four
   blocks of tokens, of the products of the blocks, and the reference's contraction runs over all tokens at once. -/
module

public import proofs.«01_k».proof.Proof.Gen.DwMergeIdeal.Value
public import proofs.«01_k».proof.Proof.Gen.DwMergeReferenceIdeal.Read
public import Idealize.ShloMosaic.Lib.Pipeline.ValueKit
public import Idealize.ShloMosaic.Lib.Pointwise

@[expose] public section

set_option maxRecDepth 16384

noncomputable section

namespace Cert.DwMergeIdeal.Val

open Cert.DwMergeIdeal Cert.DwMergeIdeal.Gen Idealize.ShloMosaic Idealize.ShloMosaic.TcCoe Idealize.SL.Sem
open Idealize.ShloMosaic.Pipeline (Dat)

variable (m : (ℓ : Loc nD τ sig) → Buf (Elt Ideal) ℓ)

/-- The blocks the windows stage at point `t`: token block `t % 4`. -/
theorem idx : ∀ t : Fin cfg0.N, win0_0.index t = ![t.val % 4, 0] ∧ win0_1.index t = ![t.val % 4, 0]
    ∧ win0_2.index t = ![0, 0] := by decide +kernel

/-- The product of one token block. -/
def part (x : S1024x1024.Idx → EReal) (z : S1024x2048.Idx → EReal) (y : S1024x2048.Idx) : EReal :=
  ∑ k : Fin 1024, x (ix2 k (y 0)) * z (ix2 k (y 1))

theorem pay1 (x : S1024x1024.Idx → EReal) (z : S1024x2048.Idx → EReal) (y : S1024x2048.Idx) :
    k0_pay1 (F := Ideal) x z y = 0 + part x z y := by
  pointwise [k0_pay1, part]

theorem pay2 (w : S1024x2048.Idx → EReal) (x : S1024x1024.Idx → EReal) (z : S1024x2048.Idx → EReal) (y : S1024x2048.Idx) :
    k0_pay2 (F := Ideal) w x z y = w y + part x z y := by
  pointwise [k0_pay2, part]

theorem array (c : Dev nD) :
    (dats m 0 c).arrAt 2 cfg0.N = Cert.DwMergeReferenceIdeal.Read.val_main_v5 (F := Ideal)
      (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  rw [Pipeline.eq_sum_fin_of_reset_step_apply_of_flush (fun n h => outsAt0 m c n h) 4 (fun _ => 0) _
    (fun t h y => by rw [outsAt0_A m c t h (by have := t.isLt; have : cfg0.N = 4 := rfl; omega)]; frame_out; rw [pay1])
    (fun t h y => by rw [outsAt0_B m c t h (by omega)]; frame_out; rw [pay2]) t h3 y]
  rw [Cert.DwMergeReferenceIdeal.Read.val_main_v5_apply, Cert.DwMergeReferenceIdeal.Read.val_main_v4_apply]
  unfold part
  refine (zero_add (M := EReal) _).trans (Fin.sum_mul_add_congr fun s k hl => ?_)
  rw [mul_comm]
  have e := idx ⟨4 * (t.val / 4) + s.val, Pipeline.run_point_lt_of_flush t h3 s⟩
  congr 1 <;> blk_ext [iblk, V, e, idx t]

end Cert.DwMergeIdeal.Val

end
-- ==== Proof.DwGlaValue.lean ====
/- What the weight gradient of the input product over the linear attention's columns computes: each column block of the result is the sum, over the four
   blocks of tokens, of the products of the blocks, and the reference's contraction runs over all tokens at once. -/
module

public import proofs.«01_k».proof.Proof.Gen.DwGlaIdeal.Value
public import proofs.«01_k».proof.Proof.Gen.DwGlaReferenceIdeal.Read
public import Idealize.ShloMosaic.Lib.Pipeline.ValueKit
public import Idealize.ShloMosaic.Lib.Pointwise

@[expose] public section

set_option maxRecDepth 16384

noncomputable section

namespace Cert.DwGlaIdeal.Val

open Cert.DwGlaIdeal Cert.DwGlaIdeal.Gen Idealize.ShloMosaic Idealize.ShloMosaic.TcCoe Idealize.SL.Sem
open Idealize.ShloMosaic.Pipeline (Dat)

variable (m : (ℓ : Loc nD τ sig) → Buf (Elt Ideal) ℓ)

/-- The blocks the windows stage at point `t`: token block `t % 4`, column block `t / 4` of the result. -/
theorem idx : ∀ t : Fin cfg0.N, win0_0.index t = ![t.val % 4, 0] ∧ win0_1.index t = ![t.val % 4, t.val / 4]
    ∧ win0_2.index t = ![0, t.val / 4] := by decide +kernel

/-- The product of one token block. -/
def part (x : S1024x1024.Idx → EReal) (z : S1024x1536.Idx → EReal) (y : S1024x1536.Idx) : EReal :=
  ∑ k : Fin 1024, x (ix2 k (y 0)) * z (ix2 k (y 1))

theorem pay1 (x : S1024x1024.Idx → EReal) (z : S1024x1536.Idx → EReal) (y : S1024x1536.Idx) :
    k0_pay1 (F := Ideal) x z y = 0 + part x z y := by
  pointwise [k0_pay1, part]

theorem pay2 (w : S1024x1536.Idx → EReal) (x : S1024x1024.Idx → EReal) (z : S1024x1536.Idx → EReal) (y : S1024x1536.Idx) :
    k0_pay2 (F := Ideal) w x z y = w y + part x z y := by
  pointwise [k0_pay2, part]

theorem array (c : Dev nD) :
    (dats m 0 c).arrAt 2 cfg0.N = Cert.DwGlaReferenceIdeal.Read.val_main_v5 (F := Ideal)
      (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  rw [Pipeline.eq_sum_fin_of_reset_step_apply_of_flush (fun n h => outsAt0 m c n h) 4 (fun _ => 0) _
    (fun t h y => by rw [outsAt0_A m c t h (by omega)]; frame_out; rw [pay1])
    (fun t h y => by rw [outsAt0_B m c t h (by omega)]; frame_out; rw [pay2]) t h3 y]
  rw [Cert.DwGlaReferenceIdeal.Read.val_main_v5_apply, Cert.DwGlaReferenceIdeal.Read.val_main_v4_apply]
  unfold part
  refine (zero_add (M := EReal) _).trans (Fin.sum_mul_add_congr fun s k hl => ?_)
  rw [mul_comm]
  have e := idx ⟨4 * (t.val / 4) + s.val, Pipeline.run_point_lt_of_flush t h3 s⟩
  congr 1 <;> blk_ext [iblk, V, e, idx t]

end Cert.DwGlaIdeal.Val

end
-- ==== Proof.DwGateValue.lean ====
/- What the weight gradient of the input product over the forget gate's columns computes: the result is the sum, over the four
   blocks of tokens, of the products of the blocks, and the reference's contraction runs over all tokens at once. -/
module

public import proofs.«01_k».proof.Proof.Gen.DwGateIdeal.Value
public import proofs.«01_k».proof.Proof.Gen.DwGateReferenceIdeal.Read
public import Idealize.ShloMosaic.Lib.Pipeline.ValueKit
public import Idealize.ShloMosaic.Lib.Pointwise

@[expose] public section

set_option maxRecDepth 16384

noncomputable section

namespace Cert.DwGateIdeal.Val

open Cert.DwGateIdeal Cert.DwGateIdeal.Gen Idealize.ShloMosaic Idealize.ShloMosaic.TcCoe Idealize.SL.Sem
open Idealize.ShloMosaic.Pipeline (Dat)

variable (m : (ℓ : Loc nD τ sig) → Buf (Elt Ideal) ℓ)

/-- The blocks the windows stage at point `t`: token block `t % 4`. -/
theorem idx : ∀ t : Fin cfg0.N, win0_0.index t = ![t.val % 4, 0] ∧ win0_1.index t = ![t.val % 4, 0]
    ∧ win0_2.index t = ![0, 0] := by decide +kernel

/-- The product of one token block. -/
def part (x : S1024x1024.Idx → EReal) (z : S1024x128.Idx → EReal) (y : S1024x128.Idx) : EReal :=
  ∑ k : Fin 1024, x (ix2 k (y 0)) * z (ix2 k (y 1))

theorem pay1 (x : S1024x1024.Idx → EReal) (z : S1024x128.Idx → EReal) (y : S1024x128.Idx) :
    k0_pay1 (F := Ideal) x z y = 0 + part x z y := by
  pointwise [k0_pay1, part]

theorem pay2 (w : S1024x128.Idx → EReal) (x : S1024x1024.Idx → EReal) (z : S1024x128.Idx → EReal) (y : S1024x128.Idx) :
    k0_pay2 (F := Ideal) w x z y = w y + part x z y := by
  pointwise [k0_pay2, part]

theorem array (c : Dev nD) :
    (dats m 0 c).arrAt 2 cfg0.N = Cert.DwGateReferenceIdeal.Read.val_main_v5 (F := Ideal)
      (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  rw [Pipeline.eq_sum_fin_of_reset_step_apply_of_flush (fun n h => outsAt0 m c n h) 4 (fun _ => 0) _
    (fun t h y => by rw [outsAt0_A m c t h (by have := t.isLt; have : cfg0.N = 4 := rfl; omega)]; frame_out; rw [pay1])
    (fun t h y => by rw [outsAt0_B m c t h (by omega)]; frame_out; rw [pay2]) t h3 y]
  rw [Cert.DwGateReferenceIdeal.Read.val_main_v5_apply, Cert.DwGateReferenceIdeal.Read.val_main_v4_apply]
  unfold part
  refine (zero_add (M := EReal) _).trans (Fin.sum_mul_add_congr fun s k hl => ?_)
  rw [mul_comm]
  have e := idx ⟨4 * (t.val / 4) + s.val, Pipeline.run_point_lt_of_flush t h3 s⟩
  congr 1 <;> blk_ext [iblk, V, e, idx t]

end Cert.DwGateIdeal.Val

end
-- ==== Proof.InFwdValue.lean ====
/- What the input product's forward call computes: the rows normalised and scaled, and their products with the input weight,
   whose columns the host has permuted and padded. -/
module

public import proofs.«01_k».proof.Proof.Gen.InFwdIdeal.Value
public import proofs.«01_k».proof.Proof.Gen.InFwdReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InFwdIdeal.Val

open Cert.InFwdIdeal Cert.InFwdIdeal.Gen Idealize.ShloMosaic Idealize.ShloMosaic.TcCoe Idealize.SL.Sem
open Idealize.ShloMosaic.Pipeline (Dat)

variable (m : (ℓ : Loc nD τ sig) → Buf (Elt Ideal) ℓ)

/-- The blocks the windows stage at point `t`: the rows of block `t`, the gain and the weight whole. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] := by decide +kernel

/-- A row normalised by its root mean square and scaled. -/
def norm (x g : Fin 1024 → EReal) (j : Fin 1024) : EReal :=
  x j * Ideal.rsqrt (Ideal.div (∑ k : Fin 1024, x k * x k) (Ideal.ofBits .f32 0x44800000#32) + Ideal.ofBits .f32 0x358637BD#32) * g j

theorem pay6 (x : S512x1024.Idx → EReal) (g : S1x1024.Idx → EReal) (y : S512x1024.Idx) :
    k0_pay6 (F := Ideal) x g y = norm (fun k => x (ix2 (y 0) k)) (fun k => g (ix2 0 k)) (y 1) := by
  pointwise [k0_pay6, norm]

theorem pay7 (x : S512x1024.Idx → EReal) (g : S1x1024.Idx → EReal) (w : S1024x1024.Idx → EReal) (y : S512x1024.Idx) :
    k0_pay7 (F := Ideal) x g w y = ∑ k : Fin 1024, k0_pay6 (F := Ideal) x g (ix2 (y 0) k) * w (ix2 k (y 1)) := by
  pointwise [k0_pay7]

theorem pay5 (x : S512x1024.Idx → EReal) (w : S1024x128.Idx → EReal) (y : S512x128.Idx) :
    k0_pay5 (F := Ideal) x w y = ∑ k : Fin 1024, x (ix2 (y 0) k) * w (ix2 k (y 1)) := by
  pointwise [k0_pay5]

/-- Column `j` of the weight as the host hands it over: the gated-attention columns, the other two groups', the gate's, zeros. -/
def col (w : S1024x7184.Idx → EReal) (k : Fin 1024) (j : ℕ) : EReal :=
  if h : j < 3072 then w (ix2 k ⟨j, by omega⟩) else if h : j < 7168 then w (ix2 k ⟨j + 16, by omega⟩)
  else if h : j < 7184 then w (ix2 k ⟨j - 4096, by omega⟩) else 0

theorem block0 (c : Dev nD) (t : Fin cfg0.N) : iblk m c 0 t = fun y : S512x1024.Idx =>
    m ((c : Thread nD τ).loc main_arg0) (ix2 ⟨512 * t.val + (y 0).val, by have := t.isLt; have : cfg0.N = 8 := rfl; have h : (y 0).val < 512 := (y 0).isLt; omega⟩ (y 1)) := by
  blk_ext! [iblk, V, idx t]

theorem block1 (c : Dev nD) (t : Fin cfg0.N) : iblk m c 1 t = m ((c : Thread nD τ).loc main_arg1) := by
  blk_ext! [iblk, V, idx t]

theorem ix2_congr {a b : ℕ} {i i' : Fin a} {j j' : Fin b} (hi : i = i') (hj : j.val = j'.val) : ix2 i j = ix2 i' j' := by
  rw [hi, Fin.ext hj]

/-- The weight's columns in the order in which the host hands them over. -/
theorem permuted (w : S1024x7184.Idx → EReal) : truncf (F := Ideal) .bf16 (concatenate S1024x7296 1
      [⟨S1024x3072, extractStridedSlice S1024x3072 ![0, 0] w slices_S1024x7184_S1024x3072_0_0⟩,
       ⟨S1024x4096, extractStridedSlice S1024x4096 ![0, 3088] w slices_S1024x7184_S1024x4096_0_3088⟩,
       ⟨S1024x16, extractStridedSlice S1024x16 ![0, 3072] w slices_S1024x7184_S1024x16_0_3072⟩,
       ⟨S1024x112, broadcastInDim S1024x112 ![] bcast_S_S1024x112 (constant S_ .f32 0x00000000#32)⟩] concatenates_S1024x3072_S1024x4096_S1024x16_S1024x112_S1024x7296_d1) bitsLt_bf16_f32
    = fun y : S1024x7296.Idx => col w (y 0) (y 1).val := by
  funext y
  pointwise [col]
  have hj : (y 1).val < 7296 := (y 1).isLt
  by_cases h1 : (y 1).val < 3072
  · rw [dif_pos h1, dif_pos h1]
  rw [dif_neg h1, dif_neg h1]
  by_cases h2 : (y 1).val < 7168
  · rw [dif_pos (show (y 1).val - 3072 < 4096 by omega), dif_pos h2]
    exact congrArg w (ix2_congr rfl (show 3088 + ((y 1).val - 3072) = (y 1).val + 16 by omega))
  rw [dif_neg (show ¬ (y 1).val - 3072 < 4096 by omega), dif_neg h2]
  by_cases h3 : (y 1).val < 7184
  · rw [dif_pos (show (y 1).val - 3072 - 4096 < 16 by omega), dif_pos h3]
    exact congrArg w (ix2_congr rfl (show 3072 + ((y 1).val - 3072 - 4096) = (y 1).val - 4096 by omega))
  rw [dif_neg (show ¬ (y 1).val - 3072 - 4096 < 16 by omega), dif_neg h3]

/-- The weight the host hands over. -/
theorem weight (c : Dev nD) : V m c main_v5 = fun y : S1024x7296.Idx => col (m ((c : Thread nD τ).loc main_arg2)) (y 0) (y 1).val :=
  permuted (m ((c : Thread nD τ).loc main_arg2))

theorem block2 (c : Dev nD) (t : Fin cfg0.N) : iblk m c 2 t = fun y : S1024x7296.Idx => col (m ((c : Thread nD τ).loc main_arg2)) (y 0) (y 1).val := by
  refine Eq.trans ?_ (weight m c)
  blk_ext! [iblk, idx t]

theorem ref (x : S4096x1024.Idx → EReal) (g : S1x1024.Idx → EReal) (i : S4096x1024.Idx) :
    Cert.InFwdReferenceIdeal.Read.val_main_v11 (F := Ideal) x g i = norm (fun k => x (ix2 (i 0) k)) (fun k => g (ix2 0 k)) (i 1) := by
  simp only [Cert.InFwdReferenceIdeal.Read.val_main_v11_apply, Cert.InFwdReferenceIdeal.Read.val_main_v10_apply, Cert.InFwdReferenceIdeal.Read.val_main_v9_apply,
    Cert.InFwdReferenceIdeal.Read.val_main_v8_apply, Cert.InFwdReferenceIdeal.Read.val_main_v7_apply, Cert.InFwdReferenceIdeal.Read.val_main_v6_apply,
    Cert.InFwdReferenceIdeal.Read.val_main_v5_apply, Cert.InFwdReferenceIdeal.Read.val_main_v4_apply, Cert.InFwdReferenceIdeal.Read.val_main_v3_apply,
    Cert.InFwdReferenceIdeal.Read.val_main_v2_apply, Cert.InFwdReferenceIdeal.Read.val_main_v1_apply, Cert.InFwdReferenceIdeal.Read.val_main_v0_apply]
  pointwise [norm, Cert.InFwdReferenceIdeal.Read.val_main_cst_apply, Cert.InFwdReferenceIdeal.Read.val_main_cst_0_apply,
    Cert.InFwdReferenceIdeal.Read.val_main_cst_1_apply]
  have e (k : Fin 1024) : Cert.InFwdReferenceIdeal.Read.idx_main_v1 (Cert.InFwdReferenceIdeal.Read.idx_main_v2
      (Cert.InFwdReferenceIdeal.Read.idx_main_v8 i)) k = ix2 (i 0) k := by
    funext a; match a with | ⟨0, _⟩ => rfl | ⟨1, _⟩ => rfl
  have e' : Cert.InFwdReferenceIdeal.Read.idx_main_v10 i = ix2 0 (i 1) := by
    funext a; match a with | ⟨0, _⟩ => rfl | ⟨1, _⟩ => rfl
  simp only [e, e']
  rfl

theorem prod (x : S4096x1024.Idx → EReal) (g : S1x1024.Idx → EReal) (w : S1024x7184.Idx → EReal) (r : Fin 4096) (j : Fin 7184) :
    Cert.InFwdReferenceIdeal.Read.val_main_v12 (F := Ideal) x g w (ix2 r j) = ∑ k : Fin 1024, norm (fun k => x (ix2 r k)) (fun k => g (ix2 0 k)) k * w (ix2 k j) := by
  rw [Cert.InFwdReferenceIdeal.Read.val_main_v12_apply]
  refine Finset.sum_congr rfl fun k _ => ?_
  rw [ref]
  refine congrArg₂ (· * ·) rfl (congrArg w ?_)
  funext a
  match a with
  | ⟨0, _⟩ => rfl
  | ⟨1, _⟩ => rfl

theorem refp (x : S4096x1024.Idx → EReal) (g : S1x1024.Idx → EReal) (w : S1024x7184.Idx → EReal) (i : S4096x7168.Idx) :
    Cert.InFwdReferenceIdeal.Read.val_main_v18 (F := Ideal) x g w i = ∑ k : Fin 1024, norm (fun k => x (ix2 (i 0) k)) (fun k => g (ix2 0 k)) k * col w k (i 1).val := by
  rw [Cert.InFwdReferenceIdeal.Read.val_main_v18_apply]
  unfold Cert.InFwdReferenceIdeal.Read.val_main_v17
  pointwise []
  have hj : (i 1).val < 7168 := (i 1).isLt
  split
  · rename_i h
    rw [Cert.InFwdReferenceIdeal.Read.val_main_v13_apply]
    refine (congrArg _ ?_).trans ((prod x g w (i 0) ⟨(i 1).val, by omega⟩).trans (Finset.sum_congr rfl fun k _ => ?_))
    · funext a; match a with | ⟨0, _⟩ => rfl | ⟨1, _⟩ => rfl
    · simp only [col, dif_pos h]
  · rename_i h
    rw [Cert.InFwdReferenceIdeal.Read.val_main_v15_apply]
    refine (congrArg _ ?_).trans ((prod x g w (i 0) ⟨(i 1).val + 16, by omega⟩).trans (Finset.sum_congr rfl fun k _ => ?_))
    · funext a; match a with | ⟨0, _⟩ => rfl | ⟨1, _⟩ => exact Fin.ext (by show 3088 + ((i 1).val - 3072) = (i 1).val + 16; omega)
    · simp only [col, dif_neg h, dif_pos hj]

theorem refg (x : S4096x1024.Idx → EReal) (g : S1x1024.Idx → EReal) (w : S1024x7184.Idx → EReal) (i : S4096x128.Idx) :
    Cert.InFwdReferenceIdeal.Read.val_main_v19 (F := Ideal) x g w i = ∑ k : Fin 1024, norm (fun k => x (ix2 (i 0) k)) (fun k => g (ix2 0 k)) k * col w k (7168 + (i 1).val) := by
  unfold Cert.InFwdReferenceIdeal.Read.val_main_v19
  pointwise []
  have hj : (i 1).val < 128 := (i 1).isLt
  have h3 : ¬ 7168 + (i 1).val < 3072 := by omega
  have h7 : ¬ 7168 + (i 1).val < 7168 := by omega
  split
  · rename_i h
    rw [Cert.InFwdReferenceIdeal.Read.val_main_v14_apply]
    refine (congrArg _ ?_).trans ((prod x g w (i 0) ⟨7168 + (i 1).val - 4096, by omega⟩).trans (Finset.sum_congr rfl fun k _ => ?_))
    · funext a; match a with | ⟨0, _⟩ => rfl | ⟨1, _⟩ => exact Fin.ext (by show 3072 + (i 1).val = 7168 + (i 1).val - 4096; omega)
    · simp only [col, dif_neg h3, dif_neg h7, dif_pos (show 7168 + (i 1).val < 7184 by omega)]
  · rename_i h
    simp only [col, dif_neg h3, dif_neg h7, dif_neg (show ¬ 7168 + (i 1).val < 7184 by omega), mul_zero, Finset.sum_const_zero]
    pointwise [Cert.InFwdReferenceIdeal.Read.val_main_call0_v0, Cert.InFwdReferenceIdeal.Read.val_main_c]
    exact (congrArg (fun r : ℝ => (r : EReal)) (show ((0#32 : BitVec 32).toInt : ℝ) = 0 by norm_num)).trans EReal.coe_zero

theorem array_a (c : Dev nD) : (dats m 0 c).arrAt 3 cfg0.N = Cert.InFwdReferenceIdeal.Read.val_main_v16 (F := Ideal)
    (m ((c : Thread nD τ).loc main_arg0)) (m ((c : Thread nD τ).loc main_arg1)) := by
  refine (dats m 0 c).arrAt_eq_of_covers 3 _ (by decide +kernel) fun t hf y => ?_
  blk_simp
  rw [after0_3]
  frame_out
  rw [pay6, block0, block1, Cert.InFwdReferenceIdeal.Read.val_main_v16_apply, ref]
  refine congrArg₂ (fun (r : Fin 4096) (j : Fin 1024) => norm (fun k => m ((c : Thread nD τ).loc main_arg0) (ix2 r k))
    (fun k => m ((c : Thread nD τ).loc main_arg1) (ix2 0 k)) j) (Fin.ext ?_) (Fin.ext ?_)
  · blk_simp
    rw [(idx t).2.2.2.1]
    exact congrArg (· + (y 0).val) (mul_comm 512 t.val)
  · blk_simp
    rw [(idx t).2.2.2.1]
    exact (Nat.zero_add _).symm

theorem ld_gate (W : S1024x7296.Idx → EReal) (k : Fin 1024) (j : Fin 128) :
    View.ld (Val := Elt Ideal) (e' := .bf16) W r0_16 (ix2 k j) = W (ix2 k ⟨7168 + j.val, by omega⟩) := by
  refine congrArg W ?_
  funext a
  match a with
  | ⟨0, _⟩ => exact Fin.ext (by show 0 + 1 * k.val = k.val; omega)
  | ⟨1, _⟩ => exact Fin.ext (by show 7168 + 1 * j.val = 7168 + j.val; omega)

/-- The stored columns of the gate. -/
theorem out5 (x : S512x1024.Idx → EReal) (g : S1x1024.Idx → EReal) (w : S1024x7296.Idx → EReal) (y : S512x128.Idx) :
    out0_5 (F := Ideal) x g w y = ∑ k : Fin 1024, norm (fun k => x (ix2 (y 0) k)) (fun k => g (ix2 0 k)) k
      * w (ix2 k ⟨7168 + (y 1).val, by have h : (y 1).val < 128 := (y 1).isLt; omega⟩) := by
  frame_out
  unfold k0_pay10
  rw [pay5]
  refine Finset.sum_congr (M := EReal) rfl fun k _ => ?_
  rw [View.ld_unit_lit _ _ (by decide), View.ld_unit_lit _ _ (by decide), pay6]
  exact congrArg (norm (fun k => x (ix2 (y 0) k)) (fun k => g (ix2 0 k)) k * ·) (ld_gate w k (y 1))

theorem array_g (c : Dev nD) : (dats m 0 c).arrAt 5 cfg0.N = Cert.InFwdReferenceIdeal.Read.val_main_v19 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, refg, out5, block0, block1, block2]
  refine Finset.sum_congr (M := EReal) rfl fun k _ => ?_
  refine congrArg₂ (fun (r : Fin 4096) (j : ℕ) => norm (fun k => m ((c : Thread nD τ).loc main_arg0) (ix2 r k))
    (fun k => m ((c : Thread nD τ).loc main_arg1) (ix2 0 k)) k * col (m ((c : Thread nD τ).loc main_arg2)) k j) (Fin.ext ?_) ?_
  · blk_simp
    rw [(idx t).2.2.2.2.2]
    exact congrArg (· + (y 0).val) (mul_comm 512 t.val)
  · blk_simp
    rw [(idx t).2.2.2.2.2]
    exact congrArg (7168 + ·) (Nat.zero_add _).symm

/-- The product's block, all its columns. -/
def tile (x : S512x1024.Idx → EReal) (g : S1x1024.Idx → EReal) (w : S1024x7296.Idx → EReal) (y : S512x7168.Idx) : EReal :=
  ∑ k : Fin 1024, norm (fun k => x (ix2 (y 0) k)) (fun k => g (ix2 0 k)) k
    * w (ix2 k ⟨(y 1).val, by have h : (y 1).val < 7168 := (y 1).isLt; omega⟩)

/-- The columns stored from column `q` on. -/
theorem piece (x : S512x1024.Idx → EReal) (g : S1x1024.Idx → EReal) (w : S1024x7296.Idx → EReal) (q : ℕ) (inb inb')
    (z : (Rect.unit (s := S512x7168) ![0, q] ![512, 1024] inb).shape.Idx) :
    k0_pay7 (F := Ideal) (View.ld (Val := Elt Ideal) (e' := .f32) x r0_0) (View.ld (Val := Elt Ideal) (e' := .f32) g r0_1)
        (View.ld (Val := Elt Ideal) (e' := .bf16) w (Rect.unit (s := S1024x7296) ![0, q] ![1024, 1024] inb')) z
      = tile x g w ((Rect.unit (s := S512x7168) ![0, q] ![512, 1024] inb).emb z) := by
  rw [View.ld_unit_lit _ _ (by decide), View.ld_unit_lit _ _ (by decide), pay7]
  refine Finset.sum_congr (M := EReal) rfl fun k _ => ?_
  rw [pay6]
  refine congrArg₂ (fun (r : Fin 512) (j : EReal) => norm (fun k => x (ix2 r k)) (fun k => g (ix2 0 k)) k * j) (Fin.ext ?_) (congrArg w ?_)
  · show (z 0).val = 0 + 1 * (z 0).val
    omega
  · funext a
    match a with
    | ⟨0, _⟩ => exact Fin.ext (by show 0 + 1 * k.val = k.val; omega)
    | ⟨1, _⟩ => rfl

/-- The seven stores of the product's columns, as one array. -/
theorem out4 (x : S512x1024.Idx → EReal) (g : S1x1024.Idx → EReal) (w : S1024x7296.Idx → EReal) :
    out0_4 (F := Ideal) x g w = tile x g w := by
  unfold_out out0_4
  funext y
  have h : View.PiecesOf (Val := Elt Ideal) (s := S512x7168) (e := .bf16) (tile x g w)
      [⟨r0_15, k0_pay4 (F := Ideal) (k0_pay6 (View.ld x r0_0) (View.ld g r0_1)) (View.ld w r0_14)⟩,
        ⟨r0_13, k0_pay3 (F := Ideal) (k0_pay6 (View.ld x r0_0) (View.ld g r0_1)) (View.ld w r0_12)⟩,
        ⟨r0_11, k0_pay2 (F := Ideal) (k0_pay6 (View.ld x r0_0) (View.ld g r0_1)) (View.ld w r0_10)⟩,
        ⟨r0_9, k0_pay1 (F := Ideal) (k0_pay6 (View.ld x r0_0) (View.ld g r0_1)) (View.ld w r0_8)⟩,
        ⟨r0_7, k0_pay9 (F := Ideal) (View.ld x r0_0) (View.ld g r0_1) (View.ld w r0_6)⟩,
        ⟨r0_5, k0_pay8 (F := Ideal) (View.ld x r0_0) (View.ld g r0_1) (View.ld w r0_4)⟩,
        ⟨r0_3, k0_pay7 (F := Ideal) (View.ld x r0_0) (View.ld g r0_1) (View.ld w r0_2)⟩] :=
    ⟨piece x g w 6144 inb_S512x7168_S512x1024_0_6144 inb_S1024x7296_S1024x1024_0_6144,
      piece x g w 5120 inb_S512x7168_S512x1024_0_5120 inb_S1024x7296_S1024x1024_0_5120,
      piece x g w 4096 inb_S512x7168_S512x1024_0_4096 inb_S1024x7296_S1024x1024_0_4096,
      piece x g w 3072 inb_S512x7168_S512x1024_0_3072 inb_S1024x7296_S1024x1024_0_3072,
      piece x g w 2048 inb_S512x7168_S512x1024_0_2048 inb_S1024x7296_S1024x1024_0_2048,
      piece x g w 1024 inb_S512x7168_S512x1024_0_1024 inb_S1024x7296_S1024x1024_0_1024,
      piece x g w 0 inb_S512x7168_S512x1024_0_0 inb_S1024x7296_S1024x1024_0_0, trivial⟩
  have := View.canon_append_of_piecesOf (Val := Elt Ideal) (s := S512x7168) (e := .bf16) (tile x g w) [] _ h y
    (cover0_4 (F := Ideal) _ _ _ _ _ _ _ y)
  rwa [List.append_nil] at this

theorem array_p (c : Dev nD) : (dats m 0 c).arrAt 4 cfg0.N = Cert.InFwdReferenceIdeal.Read.val_main_v18 (F := Ideal)
    (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, refp, out4, block0, block1, block2]
  refine Finset.sum_congr (M := EReal) rfl fun k _ => ?_
  refine congrArg₂ (fun (r : Fin 4096) (j : ℕ) => norm (fun k => m ((c : Thread nD τ).loc main_arg0) (ix2 r k))
    (fun k => m ((c : Thread nD τ).loc main_arg1) (ix2 0 k)) k * col (m ((c : Thread nD τ).loc main_arg2)) k j) (Fin.ext ?_) ?_
  · blk_simp
    rw [(idx t).2.2.2.2.1]
    exact congrArg (· + (y 0).val) (mul_comm 512 t.val)
  · blk_simp
    rw [(idx t).2.2.2.2.1]
    exact (Nat.zero_add _).symm

end Cert.InFwdIdeal.Val

end
-- ==== Proof.InBwdSpec.lean ====
/- The gradient through a normalised row and through the input product, over the extended reals: the arithmetic that
   joins the call's formulas with those of the derivative. -/
module

public import Idealize.ShloMosaic.PureOps.Ideal.Laws

@[expose] public section

set_option maxRecDepth 16384

noncomputable section

namespace Cert.InBwd

open Idealize.ShloMosaic

/-- The mean square of a row, the small number added. -/
def msq (x : Fin 1024 → EReal) : EReal :=
  Ideal.div (∑ k : Fin 1024, x k * x k) (Ideal.ofBits .f32 0x44800000#32) + Ideal.ofBits .f32 0x358637BD#32

/-- The reciprocal root mean square of a row. -/
def rms (x : Fin 1024 → EReal) : EReal := Ideal.rsqrt (msq x)

/-- The gradient of a row through its normalisation, `d` the gradient of the normalised row, as the call computes it. -/
def back (x d : Fin 1024 → EReal) (j : Fin 1024) : EReal :=
  rms x * (d j - x j * rms x * Ideal.div (∑ k : Fin 1024, d k * (x k * rms x)) (Ideal.ofBits .f32 0x44800000#32))

theorem lit_1024 : Ideal.ofBits .f32 0x44800000#32 = ((1024 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_zero : Ideal.ofBits .f32 0x00000000#32 = 0 := by simp [Ideal.ofBits, Ideal.ieee]
theorem lit_eps : Ideal.ofBits .f32 0x358637BD#32 = ((8796093 / 8796093022208 : ℝ) : EReal) := by
  simp [Ideal.ofBits, Ideal.ieee, -EReal.coe_mul]; norm_num

theorem square_nonneg (a : EReal) : 0 ≤ a * a := by
  induction a with
  | bot => rw [EReal.bot_mul_bot]; exact le_top
  | top => rw [EReal.top_mul_top]; exact le_top
  | coe r => rw [← EReal.coe_mul]; exact_mod_cast mul_self_nonneg r

/-- The reciprocal root mean square is a number that is not negative, and over the mean square it is its cube: the mean
    square is a positive number or infinite. -/
theorem rms_real (x : Fin 1024 → EReal) :
    ∃ s : ℝ, 0 ≤ s ∧ rms x = (s : EReal) ∧ Ideal.div (rms x) (msq x) = ((s * s * s : ℝ) : EReal) := by
  have h : (0 : EReal) ≤ ∑ k : Fin 1024, x k * x k := Finset.sum_nonneg fun k _ => square_nonneg (x k)
  unfold rms msq
  rw [lit_1024, lit_eps]
  generalize ∑ k : Fin 1024, x k * x k = S at h
  rw [Ideal.div_coe (by norm_num)]
  induction S with
  | bot => exact absurd h (by simp)
  | top =>
    rw [EReal.top_mul_coe_of_pos (by norm_num), EReal.top_add_coe]
    refine ⟨0, le_rfl, by simp, ?_⟩
    rw [Ideal.rsqrt_top, Ideal.div, if_neg (by simp)]
    simp
  | coe r =>
    have hr : 0 ≤ r := by exact_mod_cast h
    rw [← EReal.coe_mul, ← EReal.coe_add]
    have hq : 0 < r * (1 / 1024) + 8796093 / 8796093022208 := by positivity
    generalize r * (1 / 1024) + 8796093 / 8796093022208 = q at hq
    rw [Ideal.rsqrt_coe, if_neg hq.le.not_gt, if_neg hq.ne', Ideal.div_coe hq.ne']
    refine ⟨(Real.sqrt q)⁻¹, by positivity, rfl, ?_⟩
    rw [← EReal.coe_mul, mul_assoc (Real.sqrt q)⁻¹, ← mul_inv, Real.mul_self_sqrt hq.le, one_div]

/-- A sum of multiples by a number that is not negative. -/
theorem sum_mul_real {n : ℕ} (f : Fin n → EReal) {s : ℝ} (h : 0 ≤ s) : ∑ k : Fin n, f k * (s : EReal) = (∑ k : Fin n, f k) * (s : EReal) := by
  have hs : (0 : EReal) ≤ (s : EReal) := by exact_mod_cast h
  suffices ∀ t : Finset (Fin n), ∑ k ∈ t, f k * (s : EReal) = (∑ k ∈ t, f k) * (s : EReal) from this _
  intro t
  induction t using Finset.induction_on with
  | empty => simp
  | insert a t ha ih =>
    rw [Finset.sum_insert ha, Finset.sum_insert ha, ih, mul_comm _ (s : EReal), mul_comm _ (s : EReal), mul_comm _ (s : EReal),
      EReal.left_distrib_of_nonneg_of_ne_top hs (EReal.coe_ne_top s)]

/-- The call's formula and the derivative's: the latter has the row's share of the mean square twice, once from each
    factor of the square. -/
theorem back_eq (x d : Fin 1024 → EReal) (j : Fin 1024) {a : EReal}
    (ha : a = Ideal.div ((∑ k : Fin 1024, x k * d k) * (Ideal.ofBits .f32 0xBF000000#32 * Ideal.div (rms x) (msq x))) (Ideal.ofBits .f32 0x44800000#32)) :
    d j * rms x + x j * a + a * x j = back x d j := by
  obtain ⟨s, hs, e, e3⟩ := rms_real x
  have h0 : (0 : EReal) ≤ (s : EReal) := by exact_mod_cast hs
  have q : ∑ k : Fin 1024, d k * (x k * (s : EReal)) = (∑ k : Fin 1024, x k * d k) * (s : EReal) := by
    rw [← sum_mul_real _ hs]
    exact Finset.sum_congr rfl fun k _ => by rw [mul_comm (x k) (d k), mul_assoc]
  unfold back
  rw [ha, e3, e, q, lit_1024, lit_neg_half, Ideal.div_coe (by norm_num), Ideal.div_coe (by norm_num), ← EReal.coe_mul]
  generalize ∑ k : Fin 1024, x k * d k = P
  have hr : (0 : EReal) ≤ ((s * s * s * (1 / 2048) : ℝ) : EReal) := by exact_mod_cast (by positivity : 0 ≤ s * s * s * (1 / 2048))
  have l : x j * (P * ((-(1 / 2) * (s * s * s) : ℝ) : EReal) * ((1 / 1024 : ℝ) : EReal)) = -(x j * P) * ((s * s * s * (1 / 2048) : ℝ) : EReal) := by
    rw [mul_assoc P, ← EReal.coe_mul, ← mul_assoc, show -(1 / 2) * (s * s * s) * (1 / 1024) = -(s * s * s * (1 / 2048)) by ring, EReal.coe_neg,
      mul_neg, neg_mul]
  have r : (s : EReal) * (x j * s * (P * s * ((1 / 1024 : ℝ) : EReal)))
      = x j * P * (((s * s * s * (1 / 2048) : ℝ) : EReal) + ((s * s * s * (1 / 2048) : ℝ) : EReal)) := by
    rw [← EReal.coe_add, show s * s * s * (1 / 2048) + s * s * s * (1 / 2048) = s * s * s * (1 / 1024) by ring]
    simp only [EReal.coe_mul]
    ac_rfl
  rw [mul_comm _ (x j), l, sub_eq_add_neg, EReal.left_distrib_of_nonneg_of_ne_top h0 (EReal.coe_ne_top s), mul_neg, r, add_assoc,
    ← EReal.left_distrib_of_nonneg hr hr, neg_mul, mul_comm (d j)]

/-- The gradient of a row of the product's left factor, from the four groups of columns and a row of the weight. -/
def da (p₀ : Fin 3072 → EReal) (p₁ p₂ : Fin 2048 → EReal) (p₃ : Fin 128 → EReal) (w : ℕ → EReal) : EReal :=
  (∑ k : Fin 3072, p₀ k * w k.val) + (∑ k : Fin 2048, p₁ k * w (3072 + k.val)) + (∑ k : Fin 2048, p₂ k * w (5120 + k.val))
    + ∑ k : Fin 128, p₃ k * w (7168 + k.val)

theorem sum_add (a b : ℕ) (f : ℕ → EReal) : ∑ k : Fin (a + b), f k.val = (∑ k : Fin a, f k.val) + ∑ k : Fin b, f (a + k.val) := by
  rw [Fin.sum_univ_eq_sum_range, Fin.sum_univ_eq_sum_range, Fin.sum_univ_eq_sum_range (fun k => f (a + k)), Finset.sum_range_add]

/-- The columns in the product's own order, where the gate's come after the first group's, and in the call's order, where
    they come last and are padded by zeros. -/
theorem da_eq (p₀ : Fin 3072 → EReal) (p₁ p₂ : Fin 2048 → EReal) (p₃ : Fin 128 → EReal) (w f v : ℕ → EReal)
    (h₀ : ∀ k : Fin 3072, f k.val = p₀ k * v k.val) (h₃ : ∀ k : Fin 16, f (3072 + k.val) = p₃ ⟨k.val, by omega⟩ * v (3072 + k.val))
    (h₁ : ∀ k : Fin 2048, f (3088 + k.val) = p₁ k * v (3088 + k.val)) (h₂ : ∀ k : Fin 2048, f (5136 + k.val) = p₂ k * v (5136 + k.val))
    (w₀ : ∀ k < 3072, w k = v k) (w₁ : ∀ k < 4096, w (3072 + k) = v (3088 + k)) (w₃ : ∀ k < 16, w (7168 + k) = v (3072 + k))
    (w₄ : ∀ k < 112, w (7184 + k) = 0) : ∑ k : Fin 7184, f k.val = da p₀ p₁ p₂ p₃ w := by
  have e : ∑ k : Fin 128, p₃ k * w (7168 + k.val) = ∑ k : Fin 16, f (3072 + k.val) := by
    let g : ℕ → EReal := fun k => if h : k < 128 then p₃ ⟨k, h⟩ * w (7168 + k) else 0
    have l : ∑ k : Fin 128, p₃ k * w (7168 + k.val) = ∑ k : Fin (16 + 112), g k.val :=
      Finset.sum_congr rfl fun k _ => Eq.symm (dif_pos (show k.val < 128 from k.isLt))
    rw [l, sum_add 16 112]
    have z : ∑ k : Fin 112, g (16 + k.val) = 0 := Finset.sum_eq_zero fun k _ => by
      refine (dif_pos (show 16 + k.val < 128 by omega)).trans ?_
      rw [show 7168 + (16 + k.val) = 7184 + k.val by omega, w₄ _ k.isLt, mul_zero]
    rw [z, add_zero]
    refine Finset.sum_congr rfl fun k _ => ?_
    refine (dif_pos (show k.val < 128 by omega)).trans ?_
    rw [h₃, w₃ _ k.isLt]
  have s : ∑ k : Fin 7184, f k.val = (∑ k : Fin 3072, f k.val) + (∑ k : Fin 16, f (3072 + k.val)) + (∑ k : Fin 2048, f (3088 + k.val))
      + ∑ k : Fin 2048, f (5136 + k.val) := by
    rw [← sum_add 3072 16, ← sum_add 3088 2048, ← sum_add 5136 2048]
  unfold da
  rw [s, e, add_assoc _ (∑ k : Fin 16, f (3072 + k.val)), add_comm (∑ k : Fin 16, f (3072 + k.val)), ← add_assoc, add_assoc _ (∑ k : Fin 16, f (3072 + k.val)),
    add_comm (∑ k : Fin 16, f (3072 + k.val)), ← add_assoc]
  refine congrArg₂ (· + ·) (congrArg₂ (· + ·) (congrArg₂ (· + ·) ?_ ?_) ?_) rfl
  · exact Finset.sum_congr rfl fun k _ => by rw [h₀, w₀ _ k.isLt]
  · exact Finset.sum_congr rfl fun k _ => by rw [h₁, w₁ _ (by omega)]
  · refine Finset.sum_congr rfl fun k _ => ?_
    rw [h₂, show 5120 + k.val = 3072 + (2048 + k.val) by omega, w₁ _ (by omega), show 3088 + (2048 + k.val) = 5136 + k.val by omega]

end Cert.InBwd

end
-- ==== Proof.InBwdValue.lean ====
/- What the input product's backward call computes: the gradient of the normalised rows from the four groups of columns, the
   gradient through the normalisation added to the other, and the gain's gradient summed over the blocks of tokens. -/
module

public import proofs.«01_k».proof.Proof.Gen.InBwdIdeal.Value
public import proofs.«01_k».proof.Proof.Gen.InBwdReferenceIdeal.Read
public import proofs.«01_k».proof.Proof.InBwdSpec
public import proofs.«01_k».proof.Proof.InFwdValue
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InBwdIdeal.Val

open Cert.InBwdIdeal Cert.InBwdIdeal.Gen Idealize.ShloMosaic Idealize.ShloMosaic.TcCoe Idealize.SL.Sem
open Cert.InBwd hiding da
open Cert.InFwdIdeal.Val (col permuted)
open Idealize.ShloMosaic.Pipeline (Dat)

variable (m : (ℓ : Loc nD τ sig) → Buf (Elt Ideal) ℓ)

/-- The blocks the windows stage at point `t`: the rows of block `t`, the gain and its gradient whole. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] := by decide +kernel

/-- The rows of block `n` of an array of all the tokens. -/
def rows {k : ℕ} (x : (Shape.mk 2 ![4096, k]).Idx → EReal) (n : ℕ) (hn : n < 8) : (Shape.mk 2 ![512, k]).Idx → EReal :=
  fun y => x (ix2 ⟨512 * n + (y 0).val, by have h : (y 0).val < 512 := (y 0).isLt; omega⟩ (y 1))

theorem lt (t : Fin cfg0.N) : t.val < 8 := lt_of_lt_of_eq t.isLt (show cfg0.N = 8 from rfl)

theorem block0 (c : Dev nD) (t : Fin cfg0.N) : iblk m c 0 t = rows (m ((c : Thread nD τ).loc main_arg0)) t.val (lt t) := by
  blk_ext! [iblk, V, idx t, rows]

theorem block1 (c : Dev nD) (t : Fin cfg0.N) : iblk m c 1 t = rows (m ((c : Thread nD τ).loc main_arg1)) t.val (lt t) := by
  blk_ext! [iblk, V, idx t, rows]

theorem block2 (c : Dev nD) (t : Fin cfg0.N) : iblk m c 2 t = m ((c : Thread nD τ).loc main_arg2) := by
  blk_ext! [iblk, V, idx t]

theorem block3 (c : Dev nD) (t : Fin cfg0.N) : iblk m c 3 t = rows (m ((c : Thread nD τ).loc main_arg4)) t.val (lt t) := by
  blk_ext! [iblk, V, idx t, rows]

theorem block4 (c : Dev nD) (t : Fin cfg0.N) : iblk m c 4 t = rows (m ((c : Thread nD τ).loc main_arg5)) t.val (lt t) := by
  blk_ext! [iblk, V, idx t, rows]

theorem block5 (c : Dev nD) (t : Fin cfg0.N) : iblk m c 5 t = rows (m ((c : Thread nD τ).loc main_arg6)) t.val (lt t) := by
  blk_ext! [iblk, V, idx t, rows]

theorem block6 (c : Dev nD) (t : Fin cfg0.N) : iblk m c 6 t = rows (m ((c : Thread nD τ).loc main_arg7)) t.val (lt t) := by
  blk_ext! [iblk, V, idx t, rows]

/-- The gradient of the normalised rows, from the four groups of columns and the weight. -/
def grad (p₀ : S512x3072.Idx → EReal) (p₁ p₂ : S512x2048.Idx → EReal) (p₃ : S512x128.Idx → EReal) (w : S1024x7296.Idx → EReal) (y : S512x1024.Idx) : EReal :=
  (∑ k : Fin 3072, p₀ (ix2 (y 0) k) * w (ix2 (y 1) ⟨k.val, by omega⟩)) + (∑ k : Fin 2048, p₁ (ix2 (y 0) k) * w (ix2 (y 1) ⟨3072 + k.val, by omega⟩))
    + (∑ k : Fin 2048, p₂ (ix2 (y 0) k) * w (ix2 (y 1) ⟨5120 + k.val, by omega⟩)) + ∑ k : Fin 128, p₃ (ix2 (y 0) k) * w (ix2 (y 1) ⟨7168 + k.val, by omega⟩)

theorem ld (w : S1024x7296.Idx → EReal) (o n : ℕ) (h : o + n ≤ 7296) (inb) (k : Fin 1024) (j : Fin n) :
    View.ld (Val := Elt Ideal) (e' := .bf16) w (Rect.unit (s := S1024x7296) ![0, o] ![1024, n] inb) (ix2 k j) = w (ix2 k ⟨o + j.val, by omega⟩) := by
  refine congrArg w ?_
  funext a
  match a with
  | ⟨0, _⟩ => exact Fin.ext (by show 0 + 1 * k.val = k.val; omega)
  | ⟨1, _⟩ => exact Fin.ext (by show o + 1 * j.val = o + j.val; omega)

theorem pay9 (p₀ : S512x3072.Idx → EReal) (p₁ p₂ : S512x2048.Idx → EReal) (p₃ : S512x128.Idx → EReal) (w₀ : S1024x3072.Idx → EReal)
    (w₁ w₂ : S1024x2048.Idx → EReal) (w₃ : S1024x128.Idx → EReal) (y : S512x1024.Idx) :
    k0_pay9 (F := Ideal) k0_pay7 (k0_pay8 p₀ w₀) p₁ w₁ p₂ w₂ p₃ w₃ y = (∑ k : Fin 3072, p₀ (ix2 (y 0) k) * w₀ (ix2 (y 1) k))
      + (∑ k : Fin 2048, p₁ (ix2 (y 0) k) * w₁ (ix2 (y 1) k)) + (∑ k : Fin 2048, p₂ (ix2 (y 0) k) * w₂ (ix2 (y 1) k))
      + ∑ k : Fin 128, p₃ (ix2 (y 0) k) * w₃ (ix2 (y 1) k) := by
  pointwise [k0_pay9, k0_pay8, k0_pay7]

/-- The weight fetched in its four groups of columns. -/
theorem products (p₀ : S512x3072.Idx → EReal) (p₁ p₂ : S512x2048.Idx → EReal) (p₃ : S512x128.Idx → EReal) (w : S1024x7296.Idx → EReal) :
    k0_pay9 (F := Ideal) k0_pay7
      (k0_pay8 p₀ (View.ld (Val := Elt Ideal) (e' := .bf16) w (Rect.unit (s := S1024x7296) ![0, 0] ![1024, 3072] inb_S1024x7296_S1024x3072_0_0)))
      p₁ (View.ld (Val := Elt Ideal) (e' := .bf16) w (Rect.unit (s := S1024x7296) ![0, 3072] ![1024, 2048] inb_S1024x7296_S1024x2048_0_3072))
      p₂ (View.ld (Val := Elt Ideal) (e' := .bf16) w (Rect.unit (s := S1024x7296) ![0, 5120] ![1024, 2048] inb_S1024x7296_S1024x2048_0_5120))
      p₃ (View.ld (Val := Elt Ideal) (e' := .bf16) w (Rect.unit (s := S1024x7296) ![0, 7168] ![1024, 128] inb_S1024x7296_S1024x128_0_7168))
      = grad p₀ p₁ p₂ p₃ w := by
  funext y
  rw [pay9]
  refine congrArg₂ (· + ·) (congrArg₂ (· + ·) (congrArg₂ (· + ·) ?_ ?_) ?_) ?_
  · refine Finset.sum_congr rfl fun k _ => congrArg (p₀ (ix2 (y 0) k) * ·) ((ld w 0 3072 (by omega) _ _ _).trans (congrArg w ?_))
    exact congrArg (ix2 (y 1)) (Fin.ext (Nat.zero_add _))
  · exact Finset.sum_congr rfl fun k _ => congrArg (p₁ (ix2 (y 0) k) * ·) (ld w 3072 2048 (by omega) _ _ _)
  · exact Finset.sum_congr rfl fun k _ => congrArg (p₂ (ix2 (y 0) k) * ·) (ld w 5120 2048 (by omega) _ _ _)
  · exact Finset.sum_congr rfl fun k _ => congrArg (p₃ (ix2 (y 0) k) * ·) (ld w 7168 128 (by omega) _ _ _)

/-- The gain's gradient of one block of tokens. -/
def gain (d x : S512x1024.Idx → EReal) (y : S1x1024.Idx) : EReal :=
  ∑ r : Fin 512, d (ix2 r (y 1)) * (x (ix2 r (y 1)) * rms fun k => x (ix2 r k))

theorem pay3 (d x : S512x1024.Idx → EReal) (y : S1x1024.Idx) : k0_pay3 (F := Ideal) d x y = gain d x y := by
  pointwise [k0_pay3, k0_pay2, k0_pay1, gain, rms, msq]

/-- The rows' gradient, the gradient through the normalisation added to the other. -/
def total (d x : S512x1024.Idx → EReal) (g : S1x1024.Idx → EReal) (e : S512x1024.Idx → EReal) (y : S512x1024.Idx) : EReal :=
  e y + back (fun k => x (ix2 (y 0) k)) (fun k => d (ix2 (y 0) k) * g (ix2 0 k)) (y 1)

theorem pay4 (d x : S512x1024.Idx → EReal) (g : S1x1024.Idx → EReal) (e : S512x1024.Idx → EReal) (y : S512x1024.Idx) :
    k0_pay4 (F := Ideal) d x g e y = total d x g e y := by
  pointwise [k0_pay4, k0_pay2, k0_pay1, total, back, rms, msq]

theorem pay5 (d x : S512x1024.Idx → EReal) (v : S1x1024.Idx → EReal) (y : S1x1024.Idx) :
    k0_pay5 (F := Ideal) d (k0_pay12 x) v y = v y + gain d x y := by
  pointwise [k0_pay5, k0_pay12, k0_pay11, gain, rms, msq]

theorem pay6 (p₀ : S512x3072.Idx → EReal) (p₁ p₂ : S512x2048.Idx → EReal) (p₃ : S512x128.Idx → EReal) (w₀ : S1024x3072.Idx → EReal)
    (w₁ w₂ : S1024x2048.Idx → EReal) (w₃ : S1024x128.Idx → EReal) (x : S512x1024.Idx → EReal) (g : S1x1024.Idx → EReal) (e : S512x1024.Idx → EReal) :
    k0_pay6 (F := Ideal) (k0_pay11 x) (k0_pay12 x) (k0_pay13 p₀ w₀ p₁ w₁ p₂ w₂ p₃ w₃ g) (k0_pay14 p₀ w₀ p₁ w₁ p₂ w₂ p₃ w₃ x g) e
      = k0_pay4 (F := Ideal) (k0_pay9 k0_pay7 (k0_pay8 p₀ w₀) p₁ w₁ p₂ w₂ p₃ w₃) x g e := rfl

/-- The gradient of the normalised rows of block `t`. -/
def da (c : Dev nD) (t : Fin cfg0.N) : S512x1024.Idx → EReal :=
  grad (iblk m c 3 t) (iblk m c 4 t) (iblk m c 5 t) (iblk m c 6 t) (V m c main_v5)

/-- The first point: it fetches the weight, and what the gain's gradient held is overwritten. -/
theorem outs_A (c : Dev nD) (t : Fin cfg0.N) (h : t.val % 8 = 0) (h1 : ¬1 ≤ t.val) :
    outsAt0 m c t.val t.isLt = (total (da m c t) (iblk m c 0 t) (iblk m c 2 t) (iblk m c 1 t), gain (da m c t) (iblk m c 0 t), V m c main_v5) := by
  rw [outsAt0_A m c t h h1]
  frame_open
  simp (disch := decide) only [↓ View.readCov_skip, ↓ View.readCov_cons_toLoadRect, ↓ View.readCov_fill]
  simp (disch := decide) only [View.read_writes_junk_eq_canon, View.canon_cons_unit_lit', View.ld_unit_lit', View.readAt_eq_ld, Memref.IsWhole.read_unread]
  have e := products (iblk m c 3 t) (iblk m c 4 t) (iblk m c 5 t) (iblk m c 6 t) (V m c main_v5)
  refine Prod.ext ?_ (Prod.ext ?_ ?_)
  · exact (congrArg (fun d => k0_pay4 (F := Ideal) d (iblk m c 0 t) (iblk m c 2 t) (iblk m c 1 t)) e).trans (funext fun y => pay4 _ _ _ _ y)
  · exact (congrArg (fun d => k0_pay3 (F := Ideal) d (iblk m c 0 t)) e).trans (funext fun y => pay3 _ _ y)
  · funext y
    have h : View.PiecesOf (Val := Elt Ideal) (s := S1024x7296) (e := .bf16) (V m c main_v5)
      [⟨Rect.unit (s := S1024x7296) ![0, 7168] ![1024, 128] inb_S1024x7296_S1024x128_0_7168, View.ld (Val := Elt Ideal) (e' := .bf16) (V m c main_v5) (Rect.unit (s := S1024x7296) ![0, 7168] ![1024, 128] inb_S1024x7296_S1024x128_0_7168)⟩,
        ⟨Rect.unit (s := S1024x7296) ![0, 5120] ![1024, 2048] inb_S1024x7296_S1024x2048_0_5120, View.ld (Val := Elt Ideal) (e' := .bf16) (V m c main_v5) (Rect.unit (s := S1024x7296) ![0, 5120] ![1024, 2048] inb_S1024x7296_S1024x2048_0_5120)⟩,
        ⟨Rect.unit (s := S1024x7296) ![0, 3072] ![1024, 2048] inb_S1024x7296_S1024x2048_0_3072, View.ld (Val := Elt Ideal) (e' := .bf16) (V m c main_v5) (Rect.unit (s := S1024x7296) ![0, 3072] ![1024, 2048] inb_S1024x7296_S1024x2048_0_3072)⟩,
        ⟨Rect.unit (s := S1024x7296) ![0, 0] ![1024, 3072] inb_S1024x7296_S1024x3072_0_0, View.ld (Val := Elt Ideal) (e' := .bf16) (V m c main_v5) (Rect.unit (s := S1024x7296) ![0, 0] ![1024, 3072] inb_S1024x7296_S1024x3072_0_0)⟩] :=
      ⟨fun _ => rfl, fun _ => rfl, fun _ => rfl, fun _ => rfl, trivial⟩
    dsimp only
    have := View.canon_append_of_piecesOf (Val := Elt Ideal) (s := S1024x7296) (e := .bf16) (V m c main_v5) [] _ h y (View.cover_of_tiledBy _ ![1024, 128] (by sl_kernel_rfl) y)
    rw [List.append_nil] at this
    exact this

/-- A later point: the weight stays, and the block's share is added to the gain's gradient. -/
theorem outs_B (c : Dev nD) (t : Fin cfg0.N) (h : ¬t.val % 8 = 0) (h1 : 1 ≤ t.val) (s : (outsAt0 m c (t.val - 1) (by omega)).2.2 = V m c main_v5) :
    outsAt0 m c t.val t.isLt = (total (da m c t) (iblk m c 0 t) (iblk m c 2 t) (iblk m c 1 t),
      (fun y => (outsAt0 m c (t.val - 1) (by omega)).2.1 y + gain (da m c t) (iblk m c 0 t) y), V m c main_v5) := by
  rw [outsAt0_B m c t h h1]
  frame_open
  simp (disch := decide) only [↓ View.readCov_skip, ↓ View.readCov_cons_toLoadRect, ↓ View.readCov_fill]
  simp (disch := decide) only [View.read_writes_junk_eq_canon, View.canon_cons_unit_lit', View.ld_unit_lit', View.readAt_eq_ld, Memref.IsWhole.read_unread]
  have e := products (iblk m c 3 t) (iblk m c 4 t) (iblk m c 5 t) (iblk m c 6 t) (V m c main_v5)
  have r : View.read (Elt Ideal) (View.whole cc0_scratch0) ((Memref.isWhole_whole cc0_scratch0).unread (outsAt0 m c (t.val - 1) (by omega)).2.2) = V m c main_v5 :=
    ((Memref.isWhole_whole cc0_scratch0).read_unread _).trans s
  refine Prod.ext ?_ (Prod.ext ?_ ?_)
  · refine Eq.trans ?_ (funext fun y => pay4 _ _ _ _ y)
    refine Eq.trans ?_ (congrArg (fun d => k0_pay4 (F := Ideal) d (iblk m c 0 t) (iblk m c 2 t) (iblk m c 1 t)) e)
    rw [← r]
    rfl
  · funext y
    refine Eq.trans ?_ (pay5 _ _ _ y)
    refine congrFun ?_ y
    refine Eq.trans ?_ (congrArg (fun d => k0_pay5 (F := Ideal) d (k0_pay12 (iblk m c 0 t)) (outsAt0 m c (t.val - 1) (by omega)).2.1) e)
    rw [← r]
    rfl
  · exact s

/-- The weight stays in the scratch from the first point on. -/
theorem scratch (c : Dev nD) (n : ℕ) (hn : n < cfg0.N) : (outsAt0 m c n hn).2.2 = V m c main_v5 := by
  have hN : cfg0.N = 8 := rfl
  induction n with
  | zero => exact congrArg (fun p => p.2.2) (outs_A m c ⟨0, hn⟩ rfl (Nat.not_succ_le_zero 0))
  | succ n ih =>
    exact congrArg (fun p => p.2.2) (outs_B m c ⟨n + 1, hn⟩ (by show ¬(n + 1) % 8 = 0; omega) (by show 1 ≤ n + 1; omega) (ih (by omega)))

theorem out_rows (c : Dev nD) (t : Fin cfg0.N) : (outsAt0 m c t.val t.isLt).1 = total (da m c t) (iblk m c 0 t) (iblk m c 2 t) (iblk m c 1 t) := by
  have := lt t
  by_cases h : t.val % 8 = 0
  · exact congrArg (fun p => p.1) (outs_A m c t h (by omega))
  · exact congrArg (fun p => p.1) (outs_B m c t h (by omega) (scratch m c _ _))

theorem out_gain_first (c : Dev nD) (t : Fin cfg0.N) (h : t.val % 8 = 0) (y : S1x1024.Idx) :
    (outsAt0 m c t.val t.isLt).2.1 y = (0 : EReal) + gain (da m c t) (iblk m c 0 t) y :=
  (congrArg (fun p => p.2.1 y) (outs_A m c t h (by have := lt t; omega))).trans (zero_add (M := EReal) _).symm

theorem out_gain_next (c : Dev nD) (t : Fin cfg0.N) (h : ¬t.val % 8 = 0) (y : S1x1024.Idx) :
    (outsAt0 m c t.val t.isLt).2.1 y = ((outsAt0 m c (t.val - 1) (by omega)).2.1 y : EReal) + gain (da m c t) (iblk m c 0 t) y :=
  congrArg (fun p => p.2.1 y) (outs_B m c t h (by omega) (scratch m c _ _))

theorem ref_msq (x : S4096x1024.Idx → EReal) (r : Fin 4096) (z : Fin 1) :
    Cert.InBwdReferenceIdeal.Read.val_main_v9 (F := Ideal) x (ix2 r z) = msq fun k => x (ix2 r k) := by
  pointwise [Cert.InBwdReferenceIdeal.Read.val_main_v9, Cert.InBwdReferenceIdeal.Read.val_main_v8,
    Cert.InBwdReferenceIdeal.Read.val_main_v7, Cert.InBwdReferenceIdeal.Read.val_main_v6, Cert.InBwdReferenceIdeal.Read.val_main_v5,
    Cert.InBwdReferenceIdeal.Read.val_main_v4, Cert.InBwdReferenceIdeal.Read.val_main_v3, Cert.InBwdReferenceIdeal.Read.val_main_cst,
    Cert.InBwdReferenceIdeal.Read.val_main_cst_0, Cert.InBwdReferenceIdeal.Read.val_main_cst_1, msq]

theorem ref_rms (x : S4096x1024.Idx → EReal) (r : Fin 4096) (z : Fin 1) :
    Cert.InBwdReferenceIdeal.Read.val_main_v10 (F := Ideal) x (ix2 r z) = rms fun k => x (ix2 r k) :=
  congrArg Ideal.rsqrt (ref_msq x r z)

theorem ref_cat (x₄ : S4096x3072.Idx → EReal) (x₅ x₆ : S4096x2048.Idx → EReal) (x₇ : S4096x128.Idx → EReal) (r : Fin 4096) (j : Fin 7184) :
    Cert.InBwdReferenceIdeal.Read.val_main_v2 (F := Ideal) x₄ x₅ x₆ x₇ (ix2 r j) = if h : j.val < 3072 then x₄ (ix2 r ⟨j.val, h⟩)
      else if h' : j.val - 3072 < 16 then x₇ (ix2 r ⟨j.val - 3072, by omega⟩) else if h'' : j.val - 3072 - 16 < 2048 then x₅ (ix2 r ⟨j.val - 3072 - 16, h''⟩)
      else x₆ (ix2 r ⟨j.val - 3072 - 16 - 2048, by omega⟩) := by
  pointwise [Cert.InBwdReferenceIdeal.Read.val_main_v2, Cert.InBwdReferenceIdeal.Read.val_main_v1, Cert.InBwdReferenceIdeal.Read.val_main_v0]

theorem ref_back (x e : S4096x1024.Idx → EReal) (g : S1x1024.Idx → EReal) (w : S1024x7184.Idx → EReal) (x₄ : S4096x3072.Idx → EReal) (x₅ x₆ : S4096x2048.Idx → EReal) (x₇ : S4096x128.Idx → EReal) (r : Fin 4096) (j : Fin 1024) :
    Cert.InBwdReferenceIdeal.Read.val_main_v39 (F := Ideal) x e g w x₄ x₅ x₆ x₇ (ix2 r j) = e (ix2 r j) + back (fun k => x (ix2 r k))
      (fun k => Cert.InBwdReferenceIdeal.Read.val_main_v19 (F := Ideal) w x₄ x₅ x₆ x₇ (ix2 r k) * g (ix2 0 k)) j := by
  pointwise [Cert.InBwdReferenceIdeal.Read.val_main_v39, Cert.InBwdReferenceIdeal.Read.val_main_v38, Cert.InBwdReferenceIdeal.Read.val_main_v37,
    Cert.InBwdReferenceIdeal.Read.val_main_v36, Cert.InBwdReferenceIdeal.Read.val_main_v35, Cert.InBwdReferenceIdeal.Read.val_main_v34,
    Cert.InBwdReferenceIdeal.Read.val_main_v33, Cert.InBwdReferenceIdeal.Read.val_main_v32, Cert.InBwdReferenceIdeal.Read.val_main_v31,
    Cert.InBwdReferenceIdeal.Read.val_main_v30, Cert.InBwdReferenceIdeal.Read.val_main_v29, Cert.InBwdReferenceIdeal.Read.val_main_v28,
    Cert.InBwdReferenceIdeal.Read.val_main_v27, Cert.InBwdReferenceIdeal.Read.val_main_v26, Cert.InBwdReferenceIdeal.Read.val_main_v25,
    Cert.InBwdReferenceIdeal.Read.val_main_v24, Cert.InBwdReferenceIdeal.Read.val_main_v23, Cert.InBwdReferenceIdeal.Read.val_main_v13,
    Cert.InBwdReferenceIdeal.Read.val_main_v12, Cert.InBwdReferenceIdeal.Read.val_main_v11, Cert.InBwdReferenceIdeal.Read.val_main_cst_2, Cert.InBwdReferenceIdeal.Read.val_main_cst_4,
    Cert.InBwdReferenceIdeal.Read.val_main_cst_5, Cert.InBwdReferenceIdeal.Read.val_main_cst_6]
  simp only [ref_rms, ref_msq, Fin.sum_univ_one]
  exact congrArg (e (ix2 r j) + ·) (back_eq (fun k => x (ix2 r k)) (fun k => Cert.InBwdReferenceIdeal.Read.val_main_v19 (F := Ideal) w x₄ x₅ x₆ x₇ (ix2 r k) * g (ix2 0 k)) j rfl)

theorem ref_gain (x : S4096x1024.Idx → EReal) (w : S1024x7184.Idx → EReal) (x₄ : S4096x3072.Idx → EReal) (x₅ x₆ : S4096x2048.Idx → EReal) (x₇ : S4096x128.Idx → EReal) (i : S1x1024.Idx) :
    Cert.InBwdReferenceIdeal.Read.val_main_v22 (F := Ideal) x w x₄ x₅ x₆ x₇ i = ∑ r : Fin 4096, (x (ix2 r (i 1)) * rms fun k => x (ix2 r k))
      * Cert.InBwdReferenceIdeal.Read.val_main_v19 (F := Ideal) w x₄ x₅ x₆ x₇ (ix2 r (i 1)) := by
  pointwise [Cert.InBwdReferenceIdeal.Read.val_main_v22, Cert.InBwdReferenceIdeal.Read.val_main_v21, Cert.InBwdReferenceIdeal.Read.val_main_v20,
    Cert.InBwdReferenceIdeal.Read.val_main_v15, Cert.InBwdReferenceIdeal.Read.val_main_v14, Cert.InBwdReferenceIdeal.Read.val_main_cst_3]
  simp only [ref_rms]

/-- The reference's product over the columns in their own order. -/
theorem ref_da (w : S1024x7184.Idx → EReal) (x₄ : S4096x3072.Idx → EReal) (x₅ x₆ : S4096x2048.Idx → EReal) (x₇ : S4096x128.Idx → EReal) (r : Fin 4096) (j : Fin 1024) :
    Cert.InBwdReferenceIdeal.Read.val_main_v19 (F := Ideal) w x₄ x₅ x₆ x₇ (ix2 r j) = Cert.InBwd.da (fun k => x₄ (ix2 r k)) (fun k => x₅ (ix2 r k))
      (fun k => x₆ (ix2 r k)) (fun k => x₇ (ix2 r k)) (col w j) := by
  rw [Cert.InBwdReferenceIdeal.Read.val_main_v19_apply]
  have row (k : Fin 7184) : Cert.InBwdReferenceIdeal.Read.lidx_main_v19 (ix2 r j) k = ix2 r k := by
    funext a; match a with | ⟨0, _⟩ => rfl | ⟨1, _⟩ => rfl
  have column (k : Fin 7184) : Cert.InBwdReferenceIdeal.Read.ridx_main_v19 (ix2 r j) k = ix2 j k := by
    funext a; match a with | ⟨0, _⟩ => rfl | ⟨1, _⟩ => rfl
  obtain ⟨v, hv⟩ : ∃ v : ℕ → EReal, ∀ (k : ℕ) (h : k < 7184), v k = w (ix2 j ⟨k, h⟩) :=
    ⟨fun k => if h : k < 7184 then w (ix2 j ⟨k, h⟩) else 0, fun k h => dif_pos h⟩
  obtain ⟨f, hf⟩ : ∃ f : ℕ → EReal, ∀ (k : ℕ) (h : k < 7184), f k = Cert.InBwdReferenceIdeal.Read.val_main_v2 (F := Ideal) x₄ x₅ x₆ x₇ (ix2 r ⟨k, h⟩) * v k :=
    ⟨fun k => if h : k < 7184 then Cert.InBwdReferenceIdeal.Read.val_main_v2 (F := Ideal) x₄ x₅ x₆ x₇ (ix2 r ⟨k, h⟩) * v k else 0, fun k h => dif_pos h⟩
  refine Eq.trans (Finset.sum_congr rfl fun k _ => ?_) (da_eq _ _ _ _ _ f v (fun k => ?_) (fun k => ?_) (fun k => ?_) (fun k => ?_)
    (fun k hk => ?_) (fun k hk => ?_) (fun k hk => ?_) fun k hk => ?_)
  · rw [row, column, hf k.val k.isLt, hv k.val k.isLt]
  · rw [hf k.val (by omega), ref_cat, dif_pos k.isLt]
  · rw [hf (3072 + k.val) (by omega), ref_cat, dif_neg (by show ¬3072 + k.val < 3072; omega), dif_pos (by show 3072 + k.val - 3072 < 16; omega)]
    exact congrArg (fun i => x₇ (ix2 r i) * _) (Fin.ext (by show 3072 + k.val - 3072 = k.val; omega))
  · rw [hf (3088 + k.val) (by omega), ref_cat, dif_neg (by show ¬3088 + k.val < 3072; omega), dif_neg (by show ¬3088 + k.val - 3072 < 16; omega),
      dif_pos (by show 3088 + k.val - 3072 - 16 < 2048; omega)]
    exact congrArg (fun i => x₅ (ix2 r i) * _) (Fin.ext (by show 3088 + k.val - 3072 - 16 = k.val; omega))
  · rw [hf (5136 + k.val) (by omega), ref_cat, dif_neg (by show ¬5136 + k.val < 3072; omega), dif_neg (by show ¬5136 + k.val - 3072 < 16; omega),
      dif_neg (by show ¬5136 + k.val - 3072 - 16 < 2048; omega)]
    exact congrArg (fun i => x₆ (ix2 r i) * _) (Fin.ext (by show 5136 + k.val - 3072 - 16 - 2048 = k.val; omega))
  · simp only [col, dif_pos hk, hv k (by omega)]
  · simp only [col, dif_neg (show ¬3072 + k < 3072 by omega), dif_pos (show 3072 + k < 7168 by omega), hv (3088 + k) (by omega)]
    exact congrArg (fun i => w (ix2 j i)) (Fin.ext (by show 3072 + k + 16 = 3088 + k; omega))
  · simp only [col, dif_neg (show ¬7168 + k < 3072 by omega), dif_neg (show ¬7168 + k < 7168 by omega), dif_pos (show 7168 + k < 7184 by omega),
      hv (3072 + k) (by omega)]
    exact congrArg (fun i => w (ix2 j i)) (Fin.ext (by show 7168 + k - 4096 = 3072 + k; omega))
  · simp only [col, dif_neg (show ¬7184 + k < 3072 by omega), dif_neg (show ¬7184 + k < 7168 by omega), dif_neg (show ¬7184 + k < 7184 by omega)]

/-- The weight the host hands over. -/
theorem weight (c : Dev nD) : V m c main_v5 = fun y : S1024x7296.Idx => col (m ((c : Thread nD τ).loc main_arg3)) (y 0) (y 1).val := by
  refine Eq.trans ?_ (permuted (m ((c : Thread nD τ).loc main_arg3)))
  rfl

/-- The gradient of the normalised rows is the reference's. -/
theorem da_ref (c : Dev nD) (t : Fin cfg0.N) (i : Fin 512) (j : Fin 1024) : da m c t (ix2 i j) = Cert.InBwdReferenceIdeal.Read.val_main_v19 (F := Ideal)
    (m ((c : Thread nD τ).loc main_arg3)) (m ((c : Thread nD τ).loc main_arg4)) (m ((c : Thread nD τ).loc main_arg5)) (m ((c : Thread nD τ).loc main_arg6))
    (m ((c : Thread nD τ).loc main_arg7)) (ix2 ⟨512 * t.val + i.val, by have := lt t; omega⟩ j) := by
  rw [ref_da]
  unfold da
  rw [block3, block4, block5, block6, weight]
  rfl

theorem array_dx (c : Dev nD) : (dats m 0 c).arrAt 7 cfg0.N = Cert.InBwdReferenceIdeal.Read.val_main_v39 (F := Ideal)
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 7 _ (by decide +kernel) fun t hf y => ?_
  blk_simp
  rw [after0_7, out_rows, block0, block1, block2]
  unfold total
  have hy : (y 0).val < 512 := (y 0).isLt
  have ht := lt t
  have e : (win0_7.blk t).view.emb y = (ix2 ⟨512 * t.val + (y 0).val, by omega⟩ (y 1) : S4096x1024.Idx) := by
    funext a
    match a with
    | ⟨0, _⟩ => exact Fin.ext (by blk_simp; rw [(idx t).2.2.2.2.2.2.2.1]; exact congrArg (· + (y 0).val) (mul_comm t.val 512))
    | ⟨1, _⟩ => exact Fin.ext (by blk_simp; rw [(idx t).2.2.2.2.2.2.2.1]; exact Nat.zero_add _)
  rw [e]
  refine Eq.trans ?_ (ref_back _ _ _ _ _ _ _ _ ⟨512 * t.val + (y 0).val, by omega⟩ (y 1)).symm
  refine congrArg₂ (· + ·) rfl (congrArg (fun d => back _ d _) (funext fun k => ?_))
  exact congrArg (· * _) (da_ref m c t (y 0) k)

theorem gain_ref (c : Dev nD) (t : Fin cfg0.N) (k : Fin 512) (j : Fin 1024) (n : ℕ) (hl : n < 4096) (hn : n = 512 * t.val + k.val) :
    (fun x : S512x1024.Idx → EReal => da m c t (ix2 k j) * (x (ix2 k j) * rms fun l => x (ix2 k l))) (iblk m c 0 t)
      = (fun x : S4096x1024.Idx → EReal => x (ix2 ⟨n, hl⟩ j) * rms fun l => x (ix2 ⟨n, hl⟩ l)) (m ((c : Thread nD τ).loc main_arg0))
        * Cert.InBwdReferenceIdeal.Read.val_main_v19 (F := Ideal) (m ((c : Thread nD τ).loc main_arg3)) (m ((c : Thread nD τ).loc main_arg4))
          (m ((c : Thread nD τ).loc main_arg5)) (m ((c : Thread nD τ).loc main_arg6)) (m ((c : Thread nD τ).loc main_arg7)) (ix2 ⟨n, hl⟩ j) := by
  subst hn
  rw [block0]
  dsimp only
  rw [da_ref, mul_comm]
  rfl

theorem array_dg (c : Dev nD) : (dats m 0 c).arrAt 8 cfg0.N = Cert.InBwdReferenceIdeal.Read.val_main_v22 (F := Ideal)
    (m ((c : Thread nD τ).loc main_arg0)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  have h3 := (flush0_8 t).mp hf
  blk_simp
  rw [after0_8]
  rw [Pipeline.eq_sum_fin_of_reset_step_apply_of_flush (fun n h => (outsAt0 m c n h).2.1) 8 (fun _ => 0) (fun t => gain (da m c t) (iblk m c 0 t))
    (fun t h y => out_gain_first m c t h y) (fun t h y => out_gain_next m c t h y) t h3 y]
  have e : (win0_8.blk t).view.emb y = (ix2 0 (y 1) : S1x1024.Idx) := by
    funext a
    match a with
    | ⟨0, _⟩ => exact Subsingleton.elim (α := Fin 1) _ _
    | ⟨1, _⟩ => exact Fin.ext (by blk_simp; rw [(idx t).2.2.2.2.2.2.2.2]; exact Nat.zero_add _)
  rw [e]
  refine Eq.trans ?_ (ref_gain _ _ _ _ _ _ (ix2 0 (y 1))).symm
  unfold gain
  refine (zero_add (M := EReal) _).trans (Fin.sum_mul_add_congr fun s k hl => ?_)
  have ht := lt t
  exact gain_ref m c ⟨8 * (t.val / 8) + s.val, Pipeline.run_point_lt_of_flush t h3 s⟩ k (y 1) _ hl
    (by show s.val * 512 + k.val = 512 * (8 * (t.val / 8) + s.val) + k.val; omega)

end Cert.InBwdIdeal.Val

end
-- ==== Proof.SguSpec.lean ====
/- The spatial gating branch and the merge of the two branches, row by row, as both programs compute them: the activation, the
   layer norm of a group of channels, the mixing of positions, the gates. -/
module

public import proofs.«01_k».proof.Proof.InBwdSpec

@[expose] public section

set_option maxRecDepth 16384

noncomputable section

namespace Cert.Sgu

open Idealize.ShloMosaic

/-- The activation, through the hyperbolic tangent. -/
def gelu (a : EReal) : EReal :=
  Ideal.ofBits .f32 0x3F000000#32 * a * (Ideal.ofBits .f32 0x3F800000#32 + Ideal.tanh (Ideal.ofBits .f32 0x3F4C422A#32
    * (a + Ideal.ofBits .f32 0x3D372713#32 * a * a * a)))

/-- The mean of a group's channels. -/
def mean (x : Fin 256 → EReal) : EReal := Ideal.div (∑ k : Fin 256, x k) (Ideal.ofBits .f32 0x43800000#32)

/-- A group's channels centred, divided by their deviation, scaled and shifted. -/
def layer (x g b : Fin 256 → EReal) (k : Fin 256) : EReal :=
  (x k - mean x) * Ideal.rsqrt (mean (fun l => (x l - mean x) * (x l - mean x)) + Ideal.ofBits .f32 0x358637BD#32) * g k + b k

/-- The positions of a block mixed: position `i` sees those of its own chunk and of the earlier one. -/
def mixed (w : Fin 128 → Fin 128 → EReal) (bias : Fin 128 → EReal) (v : Fin 128 → Fin 256 → EReal) (g b : Fin 256 → EReal)
    (i : Fin 128) (k : Fin 256) : EReal :=
  (∑ j : Fin 128, (if j.val / 64 ≤ i.val / 64 then w i j else 0) * layer (fun l => gelu (v j l)) g b k) + bias i

/-- The group of channel `j`, and the channel within it. -/
def group (j : Fin 1024) : Fin 4 := ⟨j.val / 256, by omega⟩

def chan (j : Fin 1024) : Fin 256 := ⟨j.val % 256, by omega⟩

/-- Channel `k` of group `g`. -/
def at256 (g : Fin 4) (k : Fin 256) : Fin 1024 := ⟨256 * g.val + k.val, by omega⟩

/-- Position `j` of the block of positions of row `r`. -/
def pos {n : ℕ} (hn : 128 ∣ n) (r : Fin n) (j : Fin 128) : Fin n :=
  ⟨128 * (r.val / 128) + j.val, by obtain ⟨q, rfl⟩ := hn; have := Nat.div_lt_of_lt_mul r.isLt; omega⟩

/-- The branch: the activation of one half of its columns times the positions of the other half mixed. -/
def branch {n : ℕ} (hn : 128 ∣ n) (u v : Fin n → Fin 1024 → EReal) (g b : Fin 4 → Fin 256 → EReal)
    (w : Fin 4 → Fin 128 → Fin 128 → EReal) (bias : Fin 4 → Fin 128 → EReal) (r : Fin n) (j : Fin 1024) : EReal :=
  gelu (u r j) * mixed (w (group j)) (bias (group j)) (fun i k => v (pos hn r i) (at256 (group j) k)) (g (group j)) (b (group j))
    ⟨r.val % 128, Nat.mod_lt _ (by decide)⟩ (chan j)

/-- A row times a matrix. -/
def times (x : Fin 1024 → EReal) (w : Fin 1024 → Fin 1024 → EReal) (j : Fin 1024) : EReal := ∑ k : Fin 1024, x k * w k j

/-- The two branches, each through its gate. -/
def merge (p q zg zs : EReal) : EReal := Ideal.logistic p * zg + Ideal.logistic q * zs

/-- A row normalised by its root mean square and scaled. -/
def norm (x g : Fin 1024 → EReal) (j : Fin 1024) : EReal :=
  x j * Ideal.rsqrt (Ideal.div (∑ k : Fin 1024, x k * x k) (Ideal.ofBits .f32 0x44800000#32) + Ideal.ofBits .f32 0x358637BD#32) * g j

/-- The logistic function through the hyperbolic tangent. -/
theorem logistic_eq (x : EReal) : Ideal.ofBits .f32 0x3F000000#32 * Ideal.tanh (Ideal.ofBits .f32 0x3F000000#32 * x)
    + Ideal.ofBits .f32 0x3F000000#32 = Ideal.logistic x := by
  have h : Ideal.ofBits .f32 0x3F000000#32 = ((1 / 2 : ℝ) : EReal) := by
    simp [Ideal.ofBits, Ideal.ieee, -EReal.coe_mul]; norm_num
  rw [h]
  induction x with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top]
    norm_cast
    norm_num
  | coe r =>
    rw [← EReal.coe_mul, Ideal.tanh_coe, Ideal.logistic_coe, ← EReal.coe_mul, ← EReal.coe_add]
    refine congrArg _ ?_
    rw [Real.tanh_eq_sinh_div_cosh, Real.sinh_eq, Real.cosh_eq]
    have e : Real.exp (-r) = Real.exp (-(1 / 2 * r)) * Real.exp (-(1 / 2 * r)) := by rw [← Real.exp_add]; ring_nf
    have p : Real.exp (1 / 2 * r) * Real.exp (-(1 / 2 * r)) = 1 := by rw [← Real.exp_add, add_neg_cancel, Real.exp_zero]
    have a := Real.exp_pos (1 / 2 * r)
    have b := Real.exp_pos (-(1 / 2 * r))
    rw [e]
    generalize Real.exp (1 / 2 * r) = u at *
    generalize Real.exp (-(1 / 2 * r)) = v at *
    field_simp
    linear_combination (2 * v) * p

end Cert.Sgu

end
-- ==== Proof.SguFwdPay.lean ====
/- What the call of the gating branch and the merge computes from the blocks it reads: its stored values, each as a formula of
   the blocks' entries. -/
module

public import proofs.«01_k».proof.Proof.Gen.SguFwdIdeal.Skeleton
public import proofs.«01_k».proof.Proof.SguSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SguFwdIdeal.Val

open Cert.SguFwdIdeal Cert.SguFwdIdeal.Gen Idealize.ShloMosaic Cert.Sgu

/-- The pairs of positions the branch sees: those whose chunk of 64 is not later. -/
theorem mask (i j : Fin 128) : k0_pay5 (ix2 i j) = if j.val / 64 ≤ i.val / 64 then 1#1 else 0#1 := by
  pointwise [k0_pay5]
  have e : ∀ i : Fin 128, IntOp.shrui ArithUnit.vector (BitVec.ofNat 32 i.val) 6#32 = BitVec.ofNat 32 (i.val / 64) := by decide +kernel
  have c : ∀ a b : Fin 2, IntOp.cmpi .sle (BitVec.ofNat 32 b.val) (BitVec.ofNat 32 a.val) = if b.val ≤ a.val then 1#1 else 0#1 := by decide +kernel
  rw [e, e]
  exact c ⟨i.val / 64, by omega⟩ ⟨j.val / 64, by omega⟩

theorem weight (w : S1x128x128.Idx → EReal) (i j : Fin 128) :
    k0_pay6 (F := Ideal) w (ix2 i j) = if j.val / 64 ≤ i.val / 64 then w (ix3 0 i j) else 0 := by
  unfold k0_pay6
  pointwise [mask]
  by_cases h : j.val / 64 ≤ i.val / 64
  · rw [if_pos h, if_pos h]; rfl
  · rw [if_neg h, if_neg h]; rfl

theorem act (v : S512x256.Idx → EReal) (y : S512x256.Idx) : k0_pay10 (F := Ideal) v y = gelu (v y) := by
  pointwise [k0_pay10, gelu]

theorem centred (v : S512x256.Idx → EReal) (y : S512x256.Idx) :
    k0_pay7 (F := Ideal) v y = gelu (v y) - mean fun k => gelu (v (ix2 (y 0) k)) := by
  pointwise [k0_pay7, gelu, mean]

theorem spread (v : S512x256.Idx → EReal) (y : S512x256.Idx) :
    k0_pay8 (F := Ideal) v y = Ideal.rsqrt (mean (fun k => k0_pay7 (F := Ideal) v (ix2 (y 0) k) * k0_pay7 (F := Ideal) v (ix2 (y 0) k)) + Ideal.ofBits .f32 0x358637BD#32) := by
  pointwise [k0_pay8, mean]

theorem normed (v : S512x256.Idx → EReal) (g b : S1x256.Idx → EReal) (r : Fin 512) (k : Fin 256) :
    k0_pay9 (F := Ideal) (k0_pay7 v) (k0_pay8 v) g b (ix2 r k)
      = layer (fun l => gelu (v (ix2 r l))) (fun l => g (ix2 0 l)) (fun l => b (ix2 0 l)) k := by
  pointwise [k0_pay9, layer]
  rw [spread]
  simp only [centred]
  rfl

/-- The branch's rows from row `o` on, a block of positions, of one group's channels. -/
def quarter (o : ℕ) (h : S512x256.Slices ![o, 0] S128x256) (w : S1x128x128.Idx → EReal) (u v : S512x256.Idx → EReal)
    (g b : S1x256.Idx → EReal) (s : S128x1.Idx → EReal) : S128x256.Idx → EReal :=
  truncf (F := Ideal) .bf16 (mulf (extractStridedSlice S128x256 ![o, 0] (k0_pay10 u) h)
    (addf (matmul dot_S128x128_S128x256_S128x256_1_0_0_1_n_n none (k0_pay6 w)
        (extractStridedSlice S128x256 ![o, 0] (k0_pay9 (k0_pay7 v) (k0_pay8 v) g b) h) (constant S128x256 .f32 0x00000000#32))
      (broadcastTo S128x256 (shapeCast S128x1 s shapeCasts_S128x1_S128x1) broadcasts_S128x1_S128x256))) bitsLt_bf16_f32

theorem quarter_apply (o : ℕ) (h : S512x256.Slices ![o, 0] S128x256) (ho : o + 128 ≤ 512) (w : S1x128x128.Idx → EReal) (u v : S512x256.Idx → EReal)
    (g b : S1x256.Idx → EReal) (s : S128x1.Idx → EReal) (i : Fin 128) (k : Fin 256) :
    quarter o h w u v g b s (ix2 i k) = gelu (u (ix2 ⟨o + i.val, by omega⟩ k)) * mixed (fun i j => w (ix3 0 i j)) (fun i => s (ix2 i 0))
      (fun j l => v (ix2 ⟨o + j.val, by omega⟩ l)) (fun l => g (ix2 0 l)) (fun l => b (ix2 0 l)) i k := by
  unfold quarter
  pointwise [mixed]
  simp only [weight, normed, act]

theorem prod_g (x : S512x1024.Idx → EReal) (w : S1024x1024.Idx → EReal) (y : S512x1024.Idx) :
    k0_pay57 (F := Ideal) x w y = times (fun k => x (ix2 (y 0) k)) (fun k j => w (ix2 k j)) (y 1) := by
  pointwise [k0_pay57, k0_pay55, times]

theorem prod_s (x : S512x1024.Idx → EReal) (w : S1024x1024.Idx → EReal) (y : S512x1024.Idx) :
    k0_pay58 (F := Ideal) x w y = times (fun k => x (ix2 (y 0) k)) (fun k j => w (ix2 k j)) (y 1) := by
  pointwise [k0_pay58, k0_pay56, times]

theorem merged (xg xs p q : S512x1024.Idx → EReal) (wg ws : S1024x1024.Idx → EReal) (y : S512x1024.Idx) :
    k0_pay1 (F := Ideal) (k0_pay56 xs ws) (k0_pay59 xg wg p) (k0_pay60 q) k0_pay61 y
      = merge (p y) (q y) (k0_pay57 (F := Ideal) xg wg y) (k0_pay58 (F := Ideal) xs ws y) := by
  pointwise [k0_pay1, k0_pay57, k0_pay58, k0_pay59, k0_pay60, k0_pay61, merge]
  simp only [logistic_eq]

theorem mix (a b d e : S512x1024.Idx → EReal) (w : S1024x1024.Idx → EReal) (y : S512x1024.Idx) :
    k0_pay2 (F := Ideal) a b d e w y = times (fun k => k0_pay1 (F := Ideal) a b d e (ix2 (y 0) k)) (fun k j => w (ix2 k j)) (y 1) := by
  pointwise [k0_pay2, times]

theorem out (a b d e x : S512x1024.Idx → EReal) (w : S1024x1024.Idx → EReal) (g : S1x1024.Idx → EReal) (y : S512x1024.Idx) :
    k0_pay4 (F := Ideal) a b d e w x g y = x y + Sgu.norm (fun k => k0_pay2 (F := Ideal) a b d e w (ix2 (y 0) k)) (fun k => g (ix2 0 k)) (y 1) := by
  pointwise [k0_pay4, Sgu.norm]

end Cert.SguFwdIdeal.Val

end
-- ==== Proof.SguFwdOuts.lean ====
/- The stored values of the gating branch and the merge, as one tuple: the branch's sixteen stores are one block. -/
module

public import proofs.«01_k».proof.Proof.Gen.SguFwdIdeal.Value
public import proofs.«01_k».proof.Proof.SguFwdPay

@[expose] public section

set_option maxRecDepth 16384

noncomputable section

namespace Cert.SguFwdIdeal.Val

open Cert.SguFwdIdeal Cert.SguFwdIdeal.Gen Idealize.ShloMosaic Cert.Sgu Idealize.ShloMosaic.TcCoe Idealize.SL.Sem
open Idealize.ShloMosaic.Pipeline (Dat)

variable (m : (ℓ : Loc nD τ sig) → Buf (Elt Ideal) ℓ)

/-- The branch over a block of rows. -/
def rows (u v : S512x1024.Idx → EReal) (g b : S1x1024.Idx → EReal) (w : S4x128x128.Idx → EReal) (s : S128x128.Idx → EReal)
    (y : S512x1024.Idx) : EReal :=
  branch (n := 512) (by decide) (fun r j => u (ix2 r j)) (fun r j => v (ix2 r j)) (fun q k => g (ix2 0 (at256 q k))) (fun q k => b (ix2 0 (at256 q k)))
    (fun q i j => w (ix3 q i j)) (fun q i => s (ix2 i ⟨q.val, by omega⟩)) (y 0) (y 1)

theorem mixed_congr {w w' : Fin 128 → Fin 128 → EReal} {s s' : Fin 128 → EReal} {v v' : Fin 128 → Fin 256 → EReal} {g g' b b' : Fin 256 → EReal}
    (hw : w = w') (hs : s = s') (hv : v = v') (hg : g = g') (hb : b = b') (i : Fin 128) (k : Fin 256) : mixed w s v g b i k = mixed w' s' v' g' b' i k := by
  rw [hw, hs, hv, hg, hb]

/-- The block of positions from row `o` on and the group of channels from column `e` on, as the call stores it. -/
theorem piece (u v : S512x1024.Idx → EReal) (g b : S1x1024.Idx → EReal) (w : S4x128x128.Idx → EReal) (s : S128x128.Idx → EReal)
    (o e q p : ℕ) (ho : o = 128 * p) (he : e = 256 * q) (hp : p < 4) (hq : q < 4) (h : S512x256.Slices ![o, 0] S128x256) (i₁ i₂ i₃ i₄ i₅) (z : S128x256.Idx) :
    quarter o h (View.ld (Val := Elt Ideal) (e' := .f32) w (Rect.unit (s := S4x128x128) ![q, 0, 0] ![1, 128, 128] i₂))
      (View.ld (Val := Elt Ideal) (e' := .bf16) u (Rect.unit (s := S512x1024) ![0, e] ![512, 256] i₃))
      (View.ld (Val := Elt Ideal) (e' := .bf16) v (Rect.unit (s := S512x1024) ![0, e] ![512, 256] i₃))
      (View.ld (Val := Elt Ideal) (e' := .f32) g (Rect.unit (s := S1x1024) ![0, e] ![1, 256] i₄))
      (View.ld (Val := Elt Ideal) (e' := .f32) b (Rect.unit (s := S1x1024) ![0, e] ![1, 256] i₄))
      (View.ld (Val := Elt Ideal) (e' := .f32) s (Rect.unit (s := S128x128) ![0, q] ![128, 1] i₅)) z
    = rows u v g b w s ((Rect.unit (s := S512x1024) ![o, e] ![128, 256] i₁).emb z) := by
  subst ho he
  obtain ⟨i, k, rfl⟩ : ∃ (i : Fin 128) (k : Fin 256), z = ix2 i k :=
    ⟨z 0, z 1, by funext a; match a with | ⟨0, _⟩ => rfl | ⟨1, _⟩ => rfl⟩
  have eg : group ⟨256 * q + k.val, by omega⟩ = ⟨q, hq⟩ := Fin.ext (by show (256 * q + k.val) / 256 = q; omega)
  have ec : chan ⟨256 * q + k.val, by omega⟩ = k := Fin.ext (by show (256 * q + k.val) % 256 = k.val; omega)
  have ek : at256 ⟨q, hq⟩ k = ⟨256 * q + k.val, by omega⟩ := rfl
  have ep (j : Fin 128) : pos (n := 512) (by decide) ⟨128 * p + i.val, by omega⟩ j = ⟨128 * p + j.val, by omega⟩ :=
    Fin.ext (by show 128 * ((128 * p + i.val) / 128) + j.val = 128 * p + j.val; omega)
  have ei : (⟨(128 * p + i.val) % 128, Nat.mod_lt _ (by decide)⟩ : Fin 128) = i := Fin.ext (by show (128 * p + i.val) % 128 = i.val; omega)
  have lu (x : S512x1024.Idx → EReal) (r : Fin 512) (k : Fin 256) :
      View.ld (Val := Elt Ideal) (e' := .bf16) x (Rect.unit (s := S512x1024) ![0, 256 * q] ![512, 256] i₃) (ix2 r k) = x (ix2 r (at256 ⟨q, hq⟩ k)) := by
    refine congrArg x ?_
    funext a
    match a with
    | ⟨0, _⟩ => exact Fin.ext (by show 0 + 1 * r.val = r.val; omega)
    | ⟨1, _⟩ => exact Fin.ext (by show 256 * q + 1 * k.val = 256 * q + k.val; omega)
  have lg (x : S1x1024.Idx → EReal) (k : Fin 256) :
      View.ld (Val := Elt Ideal) (e' := .f32) x (Rect.unit (s := S1x1024) ![0, 256 * q] ![1, 256] i₄) (ix2 0 k) = x (ix2 0 (at256 ⟨q, hq⟩ k)) := by
    refine congrArg x ?_
    funext a
    match a with
    | ⟨0, _⟩ => rfl
    | ⟨1, _⟩ => exact Fin.ext (by show 256 * q + 1 * k.val = 256 * q + k.val; omega)
  have lw (i j : Fin 128) :
      View.ld (Val := Elt Ideal) (e' := .f32) w (Rect.unit (s := S4x128x128) ![q, 0, 0] ![1, 128, 128] i₂) (ix3 0 i j) = w (ix3 ⟨q, hq⟩ i j) := by
    refine congrArg w ?_
    funext a
    match a with
    | ⟨0, _⟩ => rfl
    | ⟨1, _⟩ => exact Fin.ext (by show 0 + 1 * i.val = i.val; omega)
    | ⟨2, _⟩ => exact Fin.ext (by show 0 + 1 * j.val = j.val; omega)
  have ls (i : Fin 128) :
      View.ld (Val := Elt Ideal) (e' := .f32) s (Rect.unit (s := S128x128) ![0, q] ![128, 1] i₅) (ix2 i 0) = s (ix2 i ⟨q, by omega⟩) := by
    refine congrArg s ?_
    funext a
    match a with
    | ⟨0, _⟩ => exact Fin.ext (by show 0 + 1 * i.val = i.val; omega)
    | ⟨1, _⟩ => rfl
  refine (quarter_apply (128 * p) h (by omega) _ _ _ _ _ _ i k).trans ?_
  refine Eq.trans ?_ (congrArg₂ (branch (n := 512) (by decide) (fun r j => u (ix2 r j)) (fun r j => v (ix2 r j)) (fun q k => g (ix2 0 (at256 q k)))
    (fun q k => b (ix2 0 (at256 q k))) (fun q i j => w (ix3 q i j)) (fun q i => s (ix2 i ⟨q.val, by omega⟩)))
    (show (⟨128 * p + i.val, by omega⟩ : Fin 512) = _ from Fin.ext (by show 128 * p + i.val = 128 * p + 1 * i.val; omega))
    (show (⟨256 * q + k.val, by omega⟩ : Fin 1024) = _ from Fin.ext (by show 256 * q + k.val = 256 * q + 1 * k.val; omega)))
  unfold branch
  simp only [eg, ec, ep, ei]
  have hw := funext₂ lw
  have hs := funext ls
  have hv := funext₂ fun (j : Fin 128) (l : Fin 256) => lu v ⟨128 * p + j.val, by omega⟩ l
  refine congrArg₂ (fun a b : EReal => a * b) (congrArg gelu (lu u _ k)) ?_
  exact mixed_congr hw hs hv (funext (lg g)) (funext (lg b)) i k

theorem canon_eq (G : S512x1024.Idx → EReal) (L : List (View.Piece (Elt Ideal) S512x1024 .bf16)) (h : View.PiecesOf (Val := Elt Ideal) (s := S512x1024) (e := .bf16) G L)
    (hc : View.Piece.tiledBy L ![128, 256] = true) : View.canon (Val := Elt Ideal) (s := S512x1024) (e := .bf16) L = G := by
  funext y
  have := View.canon_append_of_piecesOf (Val := Elt Ideal) (s := S512x1024) (e := .bf16) G [] L h y (View.cover_of_tiledBy _ ![128, 256] hc y)
  rwa [List.append_nil] at this

theorem readCov_whole {sg : RefSig} {κ : _} {sp : _} (v : View sg κ sp S512x1024 .bf16) (L : List (View.Piece (Elt Ideal) S512x1024 .bf16)) (inb) :
    v.readCov L (Rect.unit (s := S512x1024) ![0, 0] S512x1024.size inb).toLoadRect = View.canon L := by
  rw [View.readCov_eq_canon']
  funext j
  refine congrArg (View.canon L) (funext fun a => Fin.ext ?_)
  match a with
  | ⟨0, _⟩ => show 0 + 1 * (j 0).val = (j 0).val; omega
  | ⟨1, _⟩ => show 0 + 1 * (j 1).val = (j 1).val; omega

/-- What the call stores, the branch's block `s` in hand. -/
def stores (s : S512x1024.Idx → EReal) (x : S512x1024.Idx → EReal) (p q y : S512x1024.Idx → EReal) (wg ws wo : S1024x1024.Idx → EReal) (g : S1x1024.Idx → EReal) :
    Vec Ideal S512x1024 .bf16 × Vec Ideal S512x1024 .bf16 × Vec Ideal S512x1024 .bf16 × Vec Ideal S512x1024 .bf16 × Vec Ideal S512x1024 .bf16 × Vec Ideal S512x1024 .f32 :=
  (s, k0_pay57 (F := Ideal) y wg, k0_pay58 (F := Ideal) s ws, k0_pay1 (F := Ideal) (k0_pay56 s ws) (k0_pay59 y wg p) (k0_pay60 q) k0_pay61,
    k0_pay3 (F := Ideal) (k0_pay56 s ws) (k0_pay59 y wg p) (k0_pay60 q) k0_pay61 wo, k0_pay4 (F := Ideal) (k0_pay56 s ws) (k0_pay59 y wg p) (k0_pay60 q) k0_pay61 wo x g)

theorem assemble {sg : RefSig} {κ : _} {sp : _} (v : View sg κ sp S512x1024 .bf16) (L : List (View.Piece (Elt Ideal) S512x1024 .bf16)) (inb)
    (G x : S512x1024.Idx → EReal) (p q y : S512x1024.Idx → EReal) (wg ws wo : S1024x1024.Idx → EReal) (g : S1x1024.Idx → EReal) (h : View.canon L = G) :
    ((View.canon L, k0_pay57 (F := Ideal) y wg, k0_pay58 (F := Ideal) (v.readCov L (Rect.unit (s := S512x1024) ![0, 0] S512x1024.size inb).toLoadRect) ws,
      k0_pay1 (F := Ideal) (k0_pay56 (v.readCov L (Rect.unit (s := S512x1024) ![0, 0] S512x1024.size inb).toLoadRect) ws) (k0_pay59 y wg p) (k0_pay60 q) k0_pay61,
      k0_pay3 (F := Ideal) (k0_pay56 (v.readCov L (Rect.unit (s := S512x1024) ![0, 0] S512x1024.size inb).toLoadRect) ws) (k0_pay59 y wg p) (k0_pay60 q) k0_pay61 wo,
      k0_pay4 (F := Ideal) (k0_pay56 (v.readCov L (Rect.unit (s := S512x1024) ![0, 0] S512x1024.size inb).toLoadRect) ws) (k0_pay59 y wg p) (k0_pay60 q) k0_pay61 wo x g) :
      Vec Ideal S512x1024 .bf16 × Vec Ideal S512x1024 .bf16 × Vec Ideal S512x1024 .bf16 × Vec Ideal S512x1024 .bf16 × Vec Ideal S512x1024 .bf16 × Vec Ideal S512x1024 .f32)
      = stores G x p q y wg ws wo g := by
  rw [readCov_whole, h]
  rfl

/-- The sixteen stores of the branch, as one block. -/
theorem outs (c : Dev nD) (t : Fin cfg0.N) : outsAt0 m c t = stores (rows (iblk m c 1 t) (iblk m c 2 t) (iblk m c 6 t) (iblk m c 7 t) (iblk m c 8 t) (iblk m c 9 t))
    (iblk m c 0 t) (iblk m c 3 t) (iblk m c 4 t) (iblk m c 5 t) (iblk m c 10 t) (iblk m c 11 t) (iblk m c 12 t) (iblk m c 13 t) := by
  unfold outsAt0
  frame_open
  simp (disch := decide) only [↓ View.readCov_skip, ↓ View.readCov_cons_toLoadRect, ↓ View.readCov_fill]
  simp (disch := decide) only [View.read_writes_junk_eq_canon, View.canon_cons_unit_lit', View.ld_unit_lit', View.readAt_eq_ld, Memref.IsWhole.read_unread]
  refine assemble _ _ _ _ _ _ _ _ _ _ _ _ ?_
  refine canon_eq _ _ ?_ (by sl_kernel_rfl)
  have P := piece (iblk m c 1 t) (iblk m c 2 t) (iblk m c 6 t) (iblk m c 7 t) (iblk m c 8 t) (iblk m c 9 t)
  refine ⟨?_, ?_, ?_, ?_, ?_, ?_, ?_, ?_, ?_, ?_, ?_, ?_, ?_, ?_, ?_, ?_, trivial⟩
  · exact P 384 768 3 3 rfl rfl (by decide) (by decide) slices_S512x256_o384_0_S128x256 (by decide) (by decide) (by decide) (by decide) (by decide)
  · exact P 256 768 3 2 rfl rfl (by decide) (by decide) slices_S512x256_o256_0_S128x256 (by decide) (by decide) (by decide) (by decide) (by decide)
  · exact P 128 768 3 1 rfl rfl (by decide) (by decide) slices_S512x256_o128_0_S128x256 (by decide) (by decide) (by decide) (by decide) (by decide)
  · exact P 0 768 3 0 rfl rfl (by decide) (by decide) slices_S512x256_o0_0_S128x256 (by decide) (by decide) (by decide) (by decide) (by decide)
  · exact P 384 512 2 3 rfl rfl (by decide) (by decide) slices_S512x256_o384_0_S128x256 (by decide) (by decide) (by decide) (by decide) (by decide)
  · exact P 256 512 2 2 rfl rfl (by decide) (by decide) slices_S512x256_o256_0_S128x256 (by decide) (by decide) (by decide) (by decide) (by decide)
  · exact P 128 512 2 1 rfl rfl (by decide) (by decide) slices_S512x256_o128_0_S128x256 (by decide) (by decide) (by decide) (by decide) (by decide)
  · exact P 0 512 2 0 rfl rfl (by decide) (by decide) slices_S512x256_o0_0_S128x256 (by decide) (by decide) (by decide) (by decide) (by decide)
  · exact P 384 256 1 3 rfl rfl (by decide) (by decide) slices_S512x256_o384_0_S128x256 (by decide) (by decide) (by decide) (by decide) (by decide)
  · exact P 256 256 1 2 rfl rfl (by decide) (by decide) slices_S512x256_o256_0_S128x256 (by decide) (by decide) (by decide) (by decide) (by decide)
  · exact P 128 256 1 1 rfl rfl (by decide) (by decide) slices_S512x256_o128_0_S128x256 (by decide) (by decide) (by decide) (by decide) (by decide)
  · exact P 0 256 1 0 rfl rfl (by decide) (by decide) slices_S512x256_o0_0_S128x256 (by decide) (by decide) (by decide) (by decide) (by decide)
  · exact P 384 0 0 3 rfl rfl (by decide) (by decide) slices_S512x256_o384_0_S128x256 (by decide) (by decide) (by decide) (by decide) (by decide)
  · exact P 256 0 0 2 rfl rfl (by decide) (by decide) slices_S512x256_o256_0_S128x256 (by decide) (by decide) (by decide) (by decide) (by decide)
  · exact P 128 0 0 1 rfl rfl (by decide) (by decide) slices_S512x256_o128_0_S128x256 (by decide) (by decide) (by decide) (by decide) (by decide)
  · exact P 0 0 0 0 rfl rfl (by decide) (by decide) slices_S512x256_o0_0_S128x256 (by decide) (by decide) (by decide) (by decide) (by decide)

end Cert.SguFwdIdeal.Val

end
-- ==== Proof.SguFwdRef.lean ====
/- What the reference of the gating branch and the merge computes: each of its results as a formula of its arguments' entries. -/
module

public import proofs.«01_k».proof.Proof.Gen.SguFwdReferenceIdeal.Read
public import proofs.«01_k».proof.Proof.SguSpec
public import Idealize.ShloMosaic.Lib.Pointwise

@[expose] public section

set_option maxRecDepth 16384

noncomputable section

namespace Cert.SguFwdReferenceIdeal.Val

open Cert.SguFwdReferenceIdeal Cert.SguFwdReferenceIdeal.Gen Cert.SguFwdReferenceIdeal.Read Idealize.ShloMosaic Cert.Sgu

/-- The columns of the projection from column `o` on. -/
def part (p : S4096x7168.Idx → EReal) (o : ℕ) (ho : o + 1024 ≤ 7168) (r : Fin 4096) (j : Fin 1024) : EReal := p (ix2 r ⟨o + j.val, by omega⟩)

/-- The activation in the reference's order. -/
theorem gelu_eq (a : EReal) : a * (Ideal.ofBits .f32 0x3F000000#32 * (Ideal.ofBits .f32 0x3F800000#32 + Ideal.tanh (Ideal.ofBits .f32 0x3F4C422A#32
    * (a + Ideal.ofBits .f32 0x3D372713#32 * (a * a * a))))) = gelu a := by
  unfold gelu
  rw [← mul_assoc a, mul_comm a (Ideal.ofBits .f32 0x3F000000#32), mul_assoc (Ideal.ofBits .f32 0x3D372713#32 * a), mul_assoc a a a, mul_assoc (Ideal.ofBits .f32 0x3D372713#32)]

variable (x : S4096x1024.Idx → EReal) (p : S4096x7168.Idx → EReal) (z : S4096x1024.Idx → EReal) (g b : S4x256.Idx → EReal)
  (w : S4x128x128.Idx → EReal) (s : S4x128.Idx → EReal) (wg ws wo : S1024x1024.Idx → EReal) (n : S1x1024.Idx → EReal)

theorem part_u (r : Fin 4096) (j : Fin 1024) : val_main_v2 (F := Ideal) p (ix2 r j) = part p 3072 (by decide) r j := by
  pointwise [val_main_v2, val_main_v1, val_main_v0, part]

theorem part_v (r : Fin 4096) (j : Fin 1024) : val_main_v3 (F := Ideal) p (ix2 r j) = part p 4096 (by decide) r j := by
  pointwise [val_main_v3, val_main_v1, val_main_v0, part]
  exact congrArg (fun k : Fin 7168 => p (ix2 r k)) (Fin.ext (by show 3072 + (1024 + j.val) = 4096 + j.val; omega))

theorem part_p (r : Fin 4096) (j : Fin 1024) : val_main_v4 (F := Ideal) p (ix2 r j) = part p 5120 (by decide) r j := by
  pointwise [val_main_v4, val_main_v1, val_main_v0, part]
  exact congrArg (fun k : Fin 7168 => p (ix2 r k)) (Fin.ext (by show 3072 + (2048 + j.val) = 5120 + j.val; omega))

theorem part_q (r : Fin 4096) (j : Fin 1024) : val_main_v5 (F := Ideal) p (ix2 r j) = part p 6144 (by decide) r j := by
  pointwise [val_main_v5, val_main_v1, val_main_v0, part]
  exact congrArg (fun k : Fin 7168 => p (ix2 r k)) (Fin.ext (by show 3072 + (3072 + j.val) = 6144 + j.val; omega))

theorem act_u (r : Fin 4096) (j : Fin 1024) : val_main_v18 (F := Ideal) p (ix2 r j) = gelu (part p 3072 (by decide) r j) := by
  refine Eq.trans ?_ (gelu_eq _)
  pointwise [val_main_v6, val_main_v7, val_main_v8, val_main_v9, val_main_v10, val_main_v11, val_main_v12, val_main_v13, val_main_v14, val_main_v15, val_main_v16, val_main_v17, val_main_v18, val_main_cst, val_main_cst_0, val_main_cst_1, val_main_cst_2, part_u]

theorem act_v (r : Fin 4096) (j : Fin 1024) : val_main_v31 (F := Ideal) p (ix2 r j) = gelu (part p 4096 (by decide) r j) := by
  refine Eq.trans ?_ (gelu_eq _)
  pointwise [val_main_v19, val_main_v20, val_main_v21, val_main_v22, val_main_v23, val_main_v24, val_main_v25, val_main_v26, val_main_v27, val_main_v28, val_main_v29, val_main_v30, val_main_v31, val_main_cst_3, val_main_cst_4, val_main_cst_5, val_main_cst_6, part_v]

theorem grouped (r : Fin 4096) (q : Fin 4) (k : Fin 256) : val_main_v32 (F := Ideal) p (ix3 r q k) = gelu (part p 4096 (by decide) r (at256 q k)) := by
  rw [val_main_v32_apply, ← act_v]
  refine congrArg (val_main_v31 (F := Ideal) p) (funext fun a => ?_)
  match a with
  | ⟨0, _⟩ => exact Fin.ext (by show ((r.val * 4 + q.val) * 256 + k.val) / 1024 = r.val; omega)
  | ⟨1, _⟩ => exact Fin.ext (by show ((r.val * 4 + q.val) * 256 + k.val) % 1024 = 256 * q.val + k.val; omega)

theorem centred (r : Fin 4096) (q : Fin 4) (k : Fin 256) : val_main_v38 (F := Ideal) p (ix3 r q k)
    = gelu (part p 4096 (by decide) r (at256 q k)) - mean fun l => gelu (part p 4096 (by decide) r (at256 q l)) := by
  pointwise [val_main_v33, val_main_v34, val_main_v35, val_main_v36, val_main_v37, val_main_v38, val_main_cst_7, val_main_cst_8, grouped, mean]

theorem normed (r : Fin 4096) (q : Fin 4) (k : Fin 256) : val_main_v56 (F := Ideal) p g b (ix3 r q k)
    = layer (fun l => gelu (part p 4096 (by decide) r (at256 q l))) (fun l => g (ix2 q l)) (fun l => b (ix2 q l)) k := by
  pointwise [val_main_v33, val_main_v34, val_main_v35, val_main_v36, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_cst_7, val_main_cst_8, val_main_cst_9, val_main_cst_10, val_main_cst_11, grouped, centred, layer, mean]

theorem chunk_j : ∀ j : Fin 128, (val_main_v60 (F := Ideal) (ix2 0 j) : BitVec 32) = BitVec.ofNat 32 (j.val / 64) := by decide +kernel

theorem chunk_i : ∀ i : Fin 128, (val_main_v62 (F := Ideal) (ix2 i 0) : BitVec 32) = BitVec.ofNat 32 (i.val / 64) := by decide +kernel

theorem mask (i j : Fin 128) : val_main_v65 (F := Ideal) (ix2 i j) = if j.val / 64 ≤ i.val / 64 then 1#1 else 0#1 := by
  pointwise [val_main_v65, val_main_v64, val_main_v63, chunk_i, chunk_j]
  have c : ∀ a b : Fin 2, IntOp.cmpi .sle (BitVec.ofNat 32 b.val) (BitVec.ofNat 32 a.val) = if b.val ≤ a.val then 1#1 else 0#1 := by decide +kernel
  exact c ⟨i.val / 64, by omega⟩ ⟨j.val / 64, by omega⟩

theorem weight (q : Fin 4) (i j : Fin 128) : val_main_v67 (F := Ideal) w (ix3 q i j) = if j.val / 64 ≤ i.val / 64 then w (ix3 q i j) else 0 := by
  pointwise [val_main_v67, val_main_call2_v0, val_main_call2_v1, val_main_call2_v2, val_main_v66, val_main_cst_13, mask]
  by_cases h : j.val / 64 ≤ i.val / 64
  · rw [if_pos h, if_pos h]; rfl
  · rw [if_neg h, if_neg h]; exact Ideal.ofBits_zero_f32

/-- The rows cut in blocks of positions. -/
theorem cut (i : S32x128x4x256.Idx) : val_main_v57 (F := Ideal) p g b i
    = val_main_v56 (F := Ideal) p g b (ix3 ⟨128 * (i 0).val + (i 1).val, by have h0 : (i 0).val < 32 := (i 0).isLt; have h1 : (i 1).val < 128 := (i 1).isLt; omega⟩ (i 2) (i 3)) := by
  have h0 : (i 0).val < 32 := (i 0).isLt
  have h1 : (i 1).val < 128 := (i 1).isLt
  have h2 : (i 2).val < 4 := (i 2).isLt
  have h3 : (i 3).val < 256 := (i 3).isLt
  rw [val_main_v57_apply]
  refine congrArg (val_main_v56 (F := Ideal) p g b) (funext fun a => ?_)
  match a with
  | ⟨0, _⟩ => exact Fin.ext (by show ((((i 0).val * 128 + (i 1).val) * 4 + (i 2).val) * 256 + (i 3).val) / 1024 = 128 * (i 0).val + (i 1).val; omega)
  | ⟨1, _⟩ => exact Fin.ext (by show ((((i 0).val * 128 + (i 1).val) * 4 + (i 2).val) * 256 + (i 3).val) / 256 % 4 = (i 2).val; omega)
  | ⟨2, _⟩ => exact Fin.ext (by show ((((i 0).val * 128 + (i 1).val) * 4 + (i 2).val) * 256 + (i 3).val) % 256 = (i 3).val; omega)

/-- The mixed positions before their blocks are joined again. -/
theorem mixes (t : Fin 32) (i : Fin 128) (q : Fin 4) (k : Fin 256) (e : S32x128x4x256.Idx) (h0 : e 0 = t) (h1 : e 1 = i) (h2 : e 2 = q) (h3 : e 3 = k) :
    val_main_v74 (F := Ideal) p g b w s e = mixed (fun a c => w (ix3 q a c)) (fun a => s (ix2 q a))
      (fun c l => part p 4096 (by decide) ⟨128 * t.val + c.val, by omega⟩ (at256 q l)) (fun l => g (ix2 q l)) (fun l => b (ix2 q l)) i k := by
  subst h0 h1 h2 h3
  rw [val_main_v74_apply, val_main_v69_apply, val_main_v68_apply, val_main_v73_apply, val_main_v72_apply, val_main_v71_apply, val_main_v70_apply]
  unfold mixed
  refine congrArg₂ (fun a b : EReal => a + b) (Finset.sum_congr (M := EReal) rfl fun c _ => ?_) (congrArg s ?_)
  · rw [cut]
    refine Eq.trans (mul_comm _ _) (congrArg₂ (fun a b : EReal => a * b) (Eq.trans (congrArg _ ?_) (weight w (e 2) (e 1) c)) (normed p g b _ (e 2) (e 3)))
    funext a
    match a with
    | ⟨0, _⟩ => rfl
    | ⟨1, _⟩ => rfl
    | ⟨2, _⟩ => rfl
  · funext a
    match a with
    | ⟨0, _⟩ => rfl
    | ⟨1, _⟩ => rfl

/-- The reference's branch. -/
def y_sgu (r : Fin 4096) (j : Fin 1024) : EReal :=
  branch (n := 4096) (by decide) (part p 3072 (by decide)) (part p 4096 (by decide)) (fun q k => g (ix2 q k)) (fun q k => b (ix2 q k))
    (fun q i j => w (ix3 q i j)) (fun q i => s (ix2 q i)) r j

theorem gated (r : Fin 4096) (j : Fin 1024) : val_main_v76 (F := Ideal) p g b w s (ix2 r j) = y_sgu p g b w s r j := by
  rw [val_main_v76_apply, val_main_v75_apply]
  unfold y_sgu branch
  refine congrArg₂ (fun a b : EReal => a * b) (act_u p r j) (mixes p g b w s ⟨r.val / 128, by omega⟩ ⟨r.val % 128, Nat.mod_lt _ (by decide)⟩ (group j) (chan j) _ ?_ ?_ ?_ ?_)
  · exact Fin.ext (by show (r.val * 1024 + j.val) / 131072 = r.val / 128; omega)
  · exact Fin.ext (by show (r.val * 1024 + j.val) / 1024 % 128 = r.val % 128; omega)
  · exact Fin.ext (by show (r.val * 1024 + j.val) / 256 % 4 = j.val / 256; omega)
  · exact Fin.ext (by show (r.val * 1024 + j.val) % 256 = j.val % 256; omega)

/-- The gated attention's rows through their matrix. -/
def z_g (r : Fin 4096) (j : Fin 1024) : EReal := times (fun k => z (ix2 r k)) (fun k j => wg (ix2 k j)) j

/-- The branch's rows through theirs. -/
def z_s (r : Fin 4096) (j : Fin 1024) : EReal := times (y_sgu p g b w s r) (fun k j => ws (ix2 k j)) j

/-- The two merged. -/
def joined (r : Fin 4096) (j : Fin 1024) : EReal :=
  merge (part p 5120 (by decide) r j) (part p 6144 (by decide) r j) (z_g z wg r j) (z_s p g b w s ws r j)

/-- The merged rows through the output matrix. -/
def mix (r : Fin 4096) (j : Fin 1024) : EReal := times (joined p z g b w s wg ws r) (fun k j => wo (ix2 k j)) j

theorem r_g (r : Fin 4096) (j : Fin 1024) : val_main_v78 (F := Ideal) z wg (ix2 r j) = z_g z wg r j := by
  pointwise [val_main_v78, val_main_v77, z_g, times]

theorem r_s (r : Fin 4096) (j : Fin 1024) : val_main_v79 (F := Ideal) p g b w s ws (ix2 r j) = z_s p g b w s ws r j := by
  pointwise [val_main_v79, gated, z_s, times]

theorem r_joined (r : Fin 4096) (j : Fin 1024) : val_main_v94 (F := Ideal) p z g b w s wg ws (ix2 r j) = joined p z g b w s wg ws r j := by
  pointwise [val_main_v80, val_main_v81, val_main_v82, val_main_v83, val_main_v84, val_main_v85, val_main_v86, val_main_v87, val_main_v88, val_main_v89, val_main_v90, val_main_v91, val_main_v92, val_main_v93, val_main_v94, val_main_cst_14, val_main_cst_15, val_main_cst_16, val_main_cst_17, part_p, part_q, r_g, r_s, joined, merge, Ideal.logistic]

theorem r_mix (r : Fin 4096) (j : Fin 1024) : val_main_v95 (F := Ideal) p z g b w s wg ws wo (ix2 r j) = mix p z g b w s wg ws wo r j := by
  pointwise [val_main_v95, r_joined, mix, times]

theorem r_out (r : Fin 4096) (j : Fin 1024) : val_main_v113 (F := Ideal) x p z g b w s wg ws wo n (ix2 r j)
    = x (ix2 r j) + Sgu.norm (mix p z g b w s wg ws wo r) (fun k => n (ix2 0 k)) j := by
  pointwise [val_main_v101, val_main_v102, val_main_v103, val_main_v104, val_main_v105, val_main_v106, val_main_v107, val_main_v108, val_main_v109, val_main_v110, val_main_v111, val_main_v112, val_main_v113, val_main_cst_18, val_main_cst_19, val_main_cst_20, r_mix, Sgu.norm]

end Cert.SguFwdReferenceIdeal.Val

end
-- ==== Proof.SguFwdValue.lean ====
/- What the call of the gating branch and the merge leaves in its six results: the reference's, row by row. -/
module

public import proofs.«01_k».proof.Proof.SguFwdOuts
public import proofs.«01_k».proof.Proof.SguFwdRef

@[expose] public section

set_option maxRecDepth 16384

noncomputable section

namespace Cert.SguFwdIdeal.Val

open Cert.SguFwdIdeal Cert.SguFwdIdeal.Gen Idealize.ShloMosaic Cert.Sgu Idealize.ShloMosaic.TcCoe Idealize.SL.Sem
open Idealize.ShloMosaic.Pipeline (Dat)
open Cert.SguFwdReferenceIdeal.Val (part y_sgu z_g z_s joined)

variable (m : (ℓ : Loc nD τ sig) → Buf (Elt Ideal) ℓ)

/-- The blocks the windows stage at point `t`: the rows of block `t`, of the projection four groups of columns; the rest whole. -/
theorem idx : ∀ t : Fin cfg0.N, win0_0.index t = ![t.val, 0] ∧ win0_1.index t = ![t.val, 3] ∧ win0_2.index t = ![t.val, 4]
    ∧ win0_3.index t = ![t.val, 5] ∧ win0_4.index t = ![t.val, 6] ∧ win0_5.index t = ![t.val, 0] ∧ win0_6.index t = ![0, 0]
    ∧ win0_7.index t = ![0, 0] ∧ win0_8.index t = ![0, 0, 0] ∧ win0_9.index t = ![0, 0] ∧ win0_10.index t = ![0, 0]
    ∧ win0_11.index t = ![0, 0] ∧ win0_12.index t = ![0, 0] ∧ win0_13.index t = ![0, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] := by decide +kernel

/-- Row `r` of block `t`. -/
def row (t : Fin cfg0.N) (r : Fin 512) : Fin 4096 := ⟨512 * t.val + r.val, by have := t.isLt; have : cfg0.N = 8 := rfl; omega⟩

abbrev a0 (c : Dev nD) : S4096x1024.Idx → EReal := m ((c : Thread nD τ).loc main_arg0)

abbrev a1 (c : Dev nD) : S4096x7168.Idx → EReal := m ((c : Thread nD τ).loc main_arg1)

abbrev a2 (c : Dev nD) : S4096x1024.Idx → EReal := m ((c : Thread nD τ).loc main_arg2)

abbrev a3 (c : Dev nD) : S4x256.Idx → EReal := m ((c : Thread nD τ).loc main_arg3)

abbrev a4 (c : Dev nD) : S4x256.Idx → EReal := m ((c : Thread nD τ).loc main_arg4)

abbrev a5 (c : Dev nD) : S4x128x128.Idx → EReal := m ((c : Thread nD τ).loc main_arg5)

abbrev a6 (c : Dev nD) : S4x128.Idx → EReal := m ((c : Thread nD τ).loc main_arg6)

abbrev a7 (c : Dev nD) : S1024x1024.Idx → EReal := m ((c : Thread nD τ).loc main_arg7)

abbrev a8 (c : Dev nD) : S1024x1024.Idx → EReal := m ((c : Thread nD τ).loc main_arg8)

abbrev a9 (c : Dev nD) : S1024x1024.Idx → EReal := m ((c : Thread nD τ).loc main_arg9)

abbrev a10 (c : Dev nD) : S1x1024.Idx → EReal := m ((c : Thread nD τ).loc main_arg10)

theorem block0 (c : Dev nD) (t : Fin cfg0.N) : iblk m c 0 t = fun y : S512x1024.Idx => a0 m c (ix2 (row t (y 0)) (y 1)) := by
  blk_ext! [iblk, V, idx t, row]

theorem block5 (c : Dev nD) (t : Fin cfg0.N) : iblk m c 5 t = fun y : S512x1024.Idx => a2 m c (ix2 (row t (y 0)) (y 1)) := by
  blk_ext! [iblk, V, idx t, row]

theorem block1 (c : Dev nD) (t : Fin cfg0.N) : iblk m c 1 t = fun y : S512x1024.Idx => part (a1 m c) 3072 (by decide) (row t (y 0)) (y 1) := by
  blk_ext! [iblk, V, idx t, row, part]

theorem block2 (c : Dev nD) (t : Fin cfg0.N) : iblk m c 2 t = fun y : S512x1024.Idx => part (a1 m c) 4096 (by decide) (row t (y 0)) (y 1) := by
  blk_ext! [iblk, V, idx t, row, part]

theorem block3 (c : Dev nD) (t : Fin cfg0.N) : iblk m c 3 t = fun y : S512x1024.Idx => part (a1 m c) 5120 (by decide) (row t (y 0)) (y 1) := by
  blk_ext! [iblk, V, idx t, row, part]

theorem block4 (c : Dev nD) (t : Fin cfg0.N) : iblk m c 4 t = fun y : S512x1024.Idx => part (a1 m c) 6144 (by decide) (row t (y 0)) (y 1) := by
  blk_ext! [iblk, V, idx t, row, part]

/-- A gain of the groups, laid out in one row. -/
theorem flat (x : S4x256.Idx → EReal) (y : S1x1024.Idx) : shapeCast S1x1024 x shapeCasts_S4x256_S1x1024 y = x (ix2 (group (y 1)) (chan (y 1))) :=
  shapeCast_apply x shapeCasts_S4x256_S1x1024 y _ (by
    rewrite [Shape.rowMajor_val_two, Shape.rowMajor_val_two]
    have h0 : (y 0).val < 1 := (y 0).isLt
    show (y 1).val / 256 * 256 + (y 1).val % 256 = (y 0).val * 1024 + (y 1).val
    omega)

theorem group_at (q : Fin 4) (k : Fin 256) : group (at256 q k) = q := Fin.ext (by show (256 * q.val + k.val) / 256 = q.val; omega)

theorem chan_at (q : Fin 4) (k : Fin 256) : chan (at256 q k) = k := Fin.ext (by show (256 * q.val + k.val) % 256 = k.val; omega)

theorem gain (c : Dev nD) : V m c main_v0 = fun y : S1x1024.Idx => a3 m c (ix2 (group (y 1)) (chan (y 1))) := funext fun y => flat (a3 m c) y

theorem shift (c : Dev nD) : V m c main_v1 = fun y : S1x1024.Idx => a4 m c (ix2 (group (y 1)) (chan (y 1))) := funext fun y => flat (a4 m c) y

theorem block6 (c : Dev nD) (t : Fin cfg0.N) (q : Fin 4) (k : Fin 256) : iblk m c 6 t (ix2 0 (at256 q k) : S1x1024.Idx) = a3 m c (ix2 q k) := by
  have h : iblk m c 6 t = fun y : S1x1024.Idx => a3 m c (ix2 (group (y 1)) (chan (y 1))) := by
    refine Eq.trans ?_ (gain m c)
    blk_ext! [iblk, idx t]
  rw [h]
  show a3 m c (ix2 (group (at256 q k)) (chan (at256 q k))) = _
  rw [group_at, chan_at]

theorem block7 (c : Dev nD) (t : Fin cfg0.N) (q : Fin 4) (k : Fin 256) : iblk m c 7 t (ix2 0 (at256 q k) : S1x1024.Idx) = a4 m c (ix2 q k) := by
  have h : iblk m c 7 t = fun y : S1x1024.Idx => a4 m c (ix2 (group (y 1)) (chan (y 1))) := by
    refine Eq.trans ?_ (shift m c)
    blk_ext! [iblk, idx t]
  rw [h]
  show a4 m c (ix2 (group (at256 q k)) (chan (at256 q k))) = _
  rw [group_at, chan_at]

theorem block8 (c : Dev nD) (t : Fin cfg0.N) : iblk m c 8 t = a5 m c := by
  blk_ext! [iblk, V, idx t]

/-- The bias as the host hands it over: transposed, its columns padded. -/
theorem padded (x : S4x128.Idx → EReal) (v : S_.Idx → EReal) (i : Fin 128) (q : Fin 4) :
    pad S128x128 ![0, 0] ![0, 124] ![0, 0] (transpose S128x4 [1, 0] x transposes_S4x128_S128x4_1_0) v pads_S128x4_S128x128_000_01240 h_S_
      (ix2 i ⟨q.val, by omega⟩ : S128x128.Idx) = x (ix2 q i) := by
  pointwise []

theorem bias (c : Dev nD) (i : Fin 128) (q : Fin 4) : V m c main_v3 (ix2 i ⟨q.val, by omega⟩ : S128x128.Idx) = a6 m c (ix2 q i) :=
  padded (a6 m c) _ i q

theorem block9 (c : Dev nD) (t : Fin cfg0.N) (i : Fin 128) (q : Fin 4) : iblk m c 9 t (ix2 i ⟨q.val, by omega⟩ : S128x128.Idx) = a6 m c (ix2 q i) := by
  have h : iblk m c 9 t = V m c main_v3 := by
    blk_ext! [iblk, idx t]
  rw [h]
  exact bias m c i q

theorem block10 (c : Dev nD) (t : Fin cfg0.N) : iblk m c 10 t = a7 m c := by
  blk_ext! [iblk, V, idx t]

theorem block11 (c : Dev nD) (t : Fin cfg0.N) : iblk m c 11 t = a8 m c := by
  blk_ext! [iblk, V, idx t]

theorem block12 (c : Dev nD) (t : Fin cfg0.N) : iblk m c 12 t = a9 m c := by
  blk_ext! [iblk, V, idx t]

theorem block13 (c : Dev nD) (t : Fin cfg0.N) : iblk m c 13 t = a10 m c := by
  blk_ext! [iblk, V, idx t]

/-- Position `j` of a row's block of positions is the same row of the whole, for the blocks of positions do not straddle blocks of rows. -/
theorem pos_row (t : Fin cfg0.N) (r : Fin 512) (j : Fin 128) : row t (pos (n := 512) (by decide) r j) = pos (n := 4096) (by decide) (row t r) j :=
  Fin.ext (by show 512 * t.val + (128 * (r.val / 128) + j.val) = 128 * ((512 * t.val + r.val) / 128) + j.val; omega)

theorem rows_eq (c : Dev nD) (t : Fin cfg0.N) (y : S512x1024.Idx) :
    (rows (iblk m c 1 t) (iblk m c 2 t) (iblk m c 6 t) (iblk m c 7 t) (iblk m c 8 t) (iblk m c 9 t)) y = y_sgu (a1 m c) (a3 m c) (a4 m c) (a5 m c) (a6 m c) (row t (y 0)) (y 1) := by
  have ei : (⟨(y 0).val % 128, Nat.mod_lt _ (by decide)⟩ : Fin 128) = ⟨(row t (y 0)).val % 128, Nat.mod_lt _ (by decide)⟩ :=
    Fin.ext (by show (y 0).val % 128 = (512 * t.val + (y 0).val) % 128; omega)
  unfold rows y_sgu branch
  rw [ei]
  refine congrArg₂ (fun a b : EReal => a * b) (congrArg gelu ?_) (mixed_congr ?_ ?_ ?_ ?_ ?_ _ _)
  · rw [block1]
    rfl
  · rw [block8]
  · exact funext fun i => block9 m c t i (group (y 1))
  · refine funext₂ fun i k => ?_
    rw [block2]
    exact congrArg (fun r => part (a1 m c) 4096 (by decide) r (at256 (group (y 1)) k)) (pos_row t (y 0) i)
  · exact funext fun k => block6 m c t (group (y 1)) k
  · exact funext fun k => block7 m c t (group (y 1)) k

theorem eq_g (c : Dev nD) (t : Fin cfg0.N) (y : S512x1024.Idx) :
    k0_pay57 (F := Ideal) (iblk m c 5 t) (iblk m c 10 t) y = z_g (a2 m c) (a7 m c) (row t (y 0)) (y 1) := by
  rw [prod_g, block5, block10]
  rfl

theorem eq_s (c : Dev nD) (t : Fin cfg0.N) (y : S512x1024.Idx) :
    k0_pay58 (F := Ideal) (rows (iblk m c 1 t) (iblk m c 2 t) (iblk m c 6 t) (iblk m c 7 t) (iblk m c 8 t) (iblk m c 9 t)) (iblk m c 11 t) y = z_s (a1 m c) (a3 m c) (a4 m c) (a5 m c) (a6 m c) (a8 m c) (row t (y 0)) (y 1) := by
  rw [prod_s, block11]
  exact congrArg (fun x => times x (fun k j => a8 m c (ix2 k j)) (y 1)) (funext fun k => rows_eq m c t (ix2 (y 0) k))

/-- The merged block. -/
def mb (c : Dev nD) (t : Fin cfg0.N) : S512x1024.Idx → EReal :=
  k0_pay1 (F := Ideal) (k0_pay56 (rows (iblk m c 1 t) (iblk m c 2 t) (iblk m c 6 t) (iblk m c 7 t) (iblk m c 8 t) (iblk m c 9 t)) (iblk m c 11 t)) (k0_pay59 (iblk m c 5 t) (iblk m c 10 t) (iblk m c 3 t)) (k0_pay60 (iblk m c 4 t)) k0_pay61

theorem eq_m (c : Dev nD) (t : Fin cfg0.N) (y : S512x1024.Idx) :
    mb m c t y = joined (a1 m c) (a2 m c) (a3 m c) (a4 m c) (a5 m c) (a6 m c) (a7 m c) (a8 m c) (row t (y 0)) (y 1) := by
  unfold mb
  rw [merged, eq_g, eq_s, block3, block4]
  rfl

theorem eq_mix (c : Dev nD) (t : Fin cfg0.N) (y : S512x1024.Idx) :
    k0_pay2 (F := Ideal) (k0_pay56 (rows (iblk m c 1 t) (iblk m c 2 t) (iblk m c 6 t) (iblk m c 7 t) (iblk m c 8 t) (iblk m c 9 t)) (iblk m c 11 t)) (k0_pay59 (iblk m c 5 t) (iblk m c 10 t) (iblk m c 3 t)) (k0_pay60 (iblk m c 4 t)) k0_pay61 (iblk m c 12 t) y
      = Cert.SguFwdReferenceIdeal.Val.mix (a1 m c) (a2 m c) (a3 m c) (a4 m c) (a5 m c) (a6 m c) (a7 m c) (a8 m c) (a9 m c) (row t (y 0)) (y 1) := by
  rw [mix, block12]
  exact congrArg (fun x => times x (fun k j => a9 m c (ix2 k j)) (y 1)) (funext fun k => eq_m m c t (ix2 (y 0) k))

theorem eq_out (c : Dev nD) (t : Fin cfg0.N) (y : S512x1024.Idx) :
    k0_pay4 (F := Ideal) (k0_pay56 (rows (iblk m c 1 t) (iblk m c 2 t) (iblk m c 6 t) (iblk m c 7 t) (iblk m c 8 t) (iblk m c 9 t)) (iblk m c 11 t)) (k0_pay59 (iblk m c 5 t) (iblk m c 10 t) (iblk m c 3 t)) (k0_pay60 (iblk m c 4 t)) k0_pay61 (iblk m c 12 t) (iblk m c 0 t) (iblk m c 13 t) y
      = a0 m c (ix2 (row t (y 0)) (y 1))
        + Sgu.norm (Cert.SguFwdReferenceIdeal.Val.mix (a1 m c) (a2 m c) (a3 m c) (a4 m c) (a5 m c) (a6 m c) (a7 m c) (a8 m c) (a9 m c) (row t (y 0))) (fun k => a10 m c (ix2 0 k)) (y 1) := by
  rw [out, block0, block13]
  exact congrArg (fun x => a0 m c (ix2 (row t (y 0)) (y 1)) + Sgu.norm x (fun k => a10 m c (ix2 0 k)) (y 1)) (funext fun k => eq_mix m c t (ix2 (y 0) k))

theorem array_14 (c : Dev nD) : (dats m 0 c).arrAt 14 cfg0.N = Cert.SguFwdReferenceIdeal.Read.val_main_v96 (F := Ideal)
    (a1 m c) (a3 m c) (a4 m c) (a5 m c) (a6 m c) := by
  refine (dats m 0 c).arrAt_eq_of_covers 14 _ (by decide +kernel) fun t hf y => ?_
  blk_simp
  rw [after0_14, outs]
  have e : (win0_14.blk t).view.emb y = (ix2 (row t (y 0)) (y 1) : S4096x1024.Idx) := by
    funext a
    match a with
    | ⟨0, _⟩ =>
      refine Fin.ext ?_
      blk_simp
      rw [(idx t).2.2.2.2.2.2.2.2.2.2.2.2.2.2.1]
      exact congrArg (· + (y 0).val) (mul_comm t.val 512)
    | ⟨1, _⟩ =>
      refine Fin.ext ?_
      blk_simp
      rw [(idx t).2.2.2.2.2.2.2.2.2.2.2.2.2.2.1]
      exact Nat.zero_add _
  rw [e]
  exact (rows_eq m c t y).trans (Cert.SguFwdReferenceIdeal.Val.gated _ _ _ _ _ _ _).symm

theorem array_15 (c : Dev nD) : (dats m 0 c).arrAt 15 cfg0.N = Cert.SguFwdReferenceIdeal.Read.val_main_v97 (F := Ideal)
    (a2 m c) (a7 m c) := by
  refine (dats m 0 c).arrAt_eq_of_covers 15 _ (by decide +kernel) fun t hf y => ?_
  blk_simp
  rw [after0_15, outs]
  have e : (win0_15.blk t).view.emb y = (ix2 (row t (y 0)) (y 1) : S4096x1024.Idx) := by
    funext a
    match a with
    | ⟨0, _⟩ =>
      refine Fin.ext ?_
      blk_simp
      rw [(idx t).2.2.2.2.2.2.2.2.2.2.2.2.2.2.2.1]
      exact congrArg (· + (y 0).val) (mul_comm t.val 512)
    | ⟨1, _⟩ =>
      refine Fin.ext ?_
      blk_simp
      rw [(idx t).2.2.2.2.2.2.2.2.2.2.2.2.2.2.2.1]
      exact Nat.zero_add _
  rw [e]
  exact (eq_g m c t y).trans (Cert.SguFwdReferenceIdeal.Val.r_g _ _ _ _).symm

theorem array_16 (c : Dev nD) : (dats m 0 c).arrAt 16 cfg0.N = Cert.SguFwdReferenceIdeal.Read.val_main_v98 (F := Ideal)
    (a1 m c) (a3 m c) (a4 m c) (a5 m c) (a6 m c) (a8 m c) := by
  refine (dats m 0 c).arrAt_eq_of_covers 16 _ (by decide +kernel) fun t hf y => ?_
  blk_simp
  rw [after0_16, outs]
  have e : (win0_16.blk t).view.emb y = (ix2 (row t (y 0)) (y 1) : S4096x1024.Idx) := by
    funext a
    match a with
    | ⟨0, _⟩ =>
      refine Fin.ext ?_
      blk_simp
      rw [(idx t).2.2.2.2.2.2.2.2.2.2.2.2.2.2.2.2.1]
      exact congrArg (· + (y 0).val) (mul_comm t.val 512)
    | ⟨1, _⟩ =>
      refine Fin.ext ?_
      blk_simp
      rw [(idx t).2.2.2.2.2.2.2.2.2.2.2.2.2.2.2.2.1]
      exact Nat.zero_add _
  rw [e]
  exact (eq_s m c t y).trans (Cert.SguFwdReferenceIdeal.Val.r_s _ _ _ _ _ _ _ _).symm

theorem array_17 (c : Dev nD) : (dats m 0 c).arrAt 17 cfg0.N = Cert.SguFwdReferenceIdeal.Read.val_main_v99 (F := Ideal)
    (a1 m c) (a2 m c) (a3 m c) (a4 m c) (a5 m c) (a6 m c) (a7 m c) (a8 m c) := by
  refine (dats m 0 c).arrAt_eq_of_covers 17 _ (by decide +kernel) fun t hf y => ?_
  blk_simp
  rw [after0_17, outs]
  have e : (win0_17.blk t).view.emb y = (ix2 (row t (y 0)) (y 1) : S4096x1024.Idx) := by
    funext a
    match a with
    | ⟨0, _⟩ =>
      refine Fin.ext ?_
      blk_simp
      rw [(idx t).2.2.2.2.2.2.2.2.2.2.2.2.2.2.2.2.2.1]
      exact congrArg (· + (y 0).val) (mul_comm t.val 512)
    | ⟨1, _⟩ =>
      refine Fin.ext ?_
      blk_simp
      rw [(idx t).2.2.2.2.2.2.2.2.2.2.2.2.2.2.2.2.2.1]
      exact Nat.zero_add _
  rw [e]
  exact (eq_m m c t y).trans (Cert.SguFwdReferenceIdeal.Val.r_joined _ _ _ _ _ _ _ _ _ _).symm

theorem array_18 (c : Dev nD) : (dats m 0 c).arrAt 18 cfg0.N = Cert.SguFwdReferenceIdeal.Read.val_main_v100 (F := Ideal)
    (a1 m c) (a2 m c) (a3 m c) (a4 m c) (a5 m c) (a6 m c) (a7 m c) (a8 m c) (a9 m c) := by
  refine (dats m 0 c).arrAt_eq_of_covers 18 _ (by decide +kernel) fun t hf y => ?_
  blk_simp
  rw [after0_18, outs]
  have e : (win0_18.blk t).view.emb y = (ix2 (row t (y 0)) (y 1) : S4096x1024.Idx) := by
    funext a
    match a with
    | ⟨0, _⟩ =>
      refine Fin.ext ?_
      blk_simp
      rw [(idx t).2.2.2.2.2.2.2.2.2.2.2.2.2.2.2.2.2.2.1]
      exact congrArg (· + (y 0).val) (mul_comm t.val 512)
    | ⟨1, _⟩ =>
      refine Fin.ext ?_
      blk_simp
      rw [(idx t).2.2.2.2.2.2.2.2.2.2.2.2.2.2.2.2.2.2.1]
      exact Nat.zero_add _
  rw [e]
  exact (eq_mix m c t y).trans (Cert.SguFwdReferenceIdeal.Val.r_mix _ _ _ _ _ _ _ _ _ _ _).symm

theorem array_19 (c : Dev nD) : (dats m 0 c).arrAt 19 cfg0.N = Cert.SguFwdReferenceIdeal.Read.val_main_v113 (F := Ideal)
    (a0 m c) (a1 m c) (a2 m c) (a3 m c) (a4 m c) (a5 m c) (a6 m c) (a7 m c) (a8 m c) (a9 m c) (a10 m c) := by
  refine (dats m 0 c).arrAt_eq_of_covers 19 _ (by decide +kernel) fun t hf y => ?_
  blk_simp
  rw [after0_19, outs]
  have e : (win0_19.blk t).view.emb y = (ix2 (row t (y 0)) (y 1) : S4096x1024.Idx) := by
    funext a
    match a with
    | ⟨0, _⟩ =>
      refine Fin.ext ?_
      blk_simp
      rw [(idx t).2.2.2.2.2.2.2.2.2.2.2.2.2.2.2.2.2.2.2]
      exact congrArg (· + (y 0).val) (mul_comm t.val 512)
    | ⟨1, _⟩ =>
      refine Fin.ext ?_
      blk_simp
      rw [(idx t).2.2.2.2.2.2.2.2.2.2.2.2.2.2.2.2.2.2.2]
      exact Nat.zero_add _
  rw [e]
  exact (eq_out m c t y).trans (Cert.SguFwdReferenceIdeal.Val.r_out _ _ _ _ _ _ _ _ _ _ _ _ _).symm

end Cert.SguFwdIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.KernelIdeal.Value
public import proofs.«01_k».proof.Proof.Gen.DwSquare
public import proofs.«01_k».proof.Proof.Gen.DwSquare.Skeleton
public import proofs.«01_k».proof.Proof.Gen.DwSquare.Launch
public import proofs.«01_k».proof.Proof.Gen.DwSquare.Points
public import proofs.«01_k».proof.Proof.Gen.DwSquare.Frame
public import proofs.«01_k».proof.Proof.Gen.DwSquareIdeal
public import proofs.«01_k».proof.Proof.Gen.DwSquareIdeal.Skeleton
public import proofs.«01_k».proof.Proof.Gen.DwSquareIdeal.Launch
public import proofs.«01_k».proof.Proof.Gen.DwSquareIdeal.Points
public import proofs.«01_k».proof.Proof.Gen.DwSquareIdeal.Frame
public import proofs.«01_k».proof.Proof.Gen.DwSquareIdeal.Value
public import proofs.«01_k».proof.Proof.Gen.DwSquareReferenceIdeal
public import proofs.«01_k».proof.Proof.Gen.DwSquareReferenceIdeal.Run
public import proofs.«01_k».proof.Proof.Gen.DwSquareReferenceIdeal.Read
public import proofs.«01_k».proof.Proof.Gen.DwMerge
public import proofs.«01_k».proof.Proof.Gen.DwMerge.Skeleton
public import proofs.«01_k».proof.Proof.Gen.DwMerge.Launch
public import proofs.«01_k».proof.Proof.Gen.DwMerge.Points
public import proofs.«01_k».proof.Proof.Gen.DwMerge.Frame
public import proofs.«01_k».proof.Proof.Gen.DwMergeIdeal
public import proofs.«01_k».proof.Proof.Gen.DwMergeIdeal.Skeleton
public import proofs.«01_k».proof.Proof.Gen.DwMergeIdeal.Launch
public import proofs.«01_k».proof.Proof.Gen.DwMergeIdeal.Points
public import proofs.«01_k».proof.Proof.Gen.DwMergeIdeal.Frame
public import proofs.«01_k».proof.Proof.Gen.DwMergeIdeal.Value
public import proofs.«01_k».proof.Proof.Gen.DwMergeReferenceIdeal
public import proofs.«01_k».proof.Proof.Gen.DwMergeReferenceIdeal.Run
public import proofs.«01_k».proof.Proof.Gen.DwMergeReferenceIdeal.Read
public import proofs.«01_k».proof.Proof.Gen.DwGla
public import proofs.«01_k».proof.Proof.Gen.DwGla.Skeleton
public import proofs.«01_k».proof.Proof.Gen.DwGla.Launch
public import proofs.«01_k».proof.Proof.Gen.DwGla.Points
public import proofs.«01_k».proof.Proof.Gen.DwGla.Frame
public import proofs.«01_k».proof.Proof.Gen.DwGlaIdeal
public import proofs.«01_k».proof.Proof.Gen.DwGlaIdeal.Skeleton
public import proofs.«01_k».proof.Proof.Gen.DwGlaIdeal.Launch
public import proofs.«01_k».proof.Proof.Gen.DwGlaIdeal.Points
public import proofs.«01_k».proof.Proof.Gen.DwGlaIdeal.Frame
public import proofs.«01_k».proof.Proof.Gen.DwGlaIdeal.Value
public import proofs.«01_k».proof.Proof.Gen.DwGlaReferenceIdeal
public import proofs.«01_k».proof.Proof.Gen.DwGlaReferenceIdeal.Run
public import proofs.«01_k».proof.Proof.Gen.DwGlaReferenceIdeal.Read
public import proofs.«01_k».proof.Proof.Gen.DwGate
public import proofs.«01_k».proof.Proof.Gen.DwGate.Skeleton
public import proofs.«01_k».proof.Proof.Gen.DwGate.Launch
public import proofs.«01_k».proof.Proof.Gen.DwGate.Points
public import proofs.«01_k».proof.Proof.Gen.DwGate.Frame
public import proofs.«01_k».proof.Proof.Gen.DwGateIdeal
public import proofs.«01_k».proof.Proof.Gen.DwGateIdeal.Skeleton
public import proofs.«01_k».proof.Proof.Gen.DwGateIdeal.Launch
public import proofs.«01_k».proof.Proof.Gen.DwGateIdeal.Points
public import proofs.«01_k».proof.Proof.Gen.DwGateIdeal.Frame
public import proofs.«01_k».proof.Proof.Gen.DwGateIdeal.Value
public import proofs.«01_k».proof.Proof.Gen.DwGateReferenceIdeal
public import proofs.«01_k».proof.Proof.Gen.DwGateReferenceIdeal.Run
public import proofs.«01_k».proof.Proof.Gen.DwGateReferenceIdeal.Read
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdReferenceIdeal
public import proofs.«01_k».proof.Proof.Gen.InFwdReferenceIdeal.Run
public import proofs.«01_k».proof.Proof.Gen.InFwdReferenceIdeal.Read
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdIdeal.Value
public import proofs.«01_k».proof.Proof.Gen.InBwdReferenceIdeal
public import proofs.«01_k».proof.Proof.Gen.InBwdReferenceIdeal.Run
public import proofs.«01_k».proof.Proof.Gen.InBwdReferenceIdeal.Read
public import proofs.«01_k».proof.Proof.Gen.SguFwd
public import proofs.«01_k».proof.Proof.Gen.SguFwd.Skeleton
public import proofs.«01_k».proof.Proof.Gen.SguFwd.Launch
public import proofs.«01_k».proof.Proof.Gen.SguFwd.Points
public import proofs.«01_k».proof.Proof.Gen.SguFwd.Frame
public import proofs.«01_k».proof.Proof.Gen.SguFwdIdeal
public import proofs.«01_k».proof.Proof.Gen.SguFwdIdeal.Skeleton
public import proofs.«01_k».proof.Proof.Gen.SguFwdIdeal.Launch
public import proofs.«01_k».proof.Proof.Gen.SguFwdIdeal.Points
public import proofs.«01_k».proof.Proof.Gen.SguFwdIdeal.Frame
public import proofs.«01_k».proof.Proof.Gen.SguFwdIdeal.Value
public import proofs.«01_k».proof.Proof.Gen.SguFwdReferenceIdeal
public import proofs.«01_k».proof.Proof.Gen.SguFwdReferenceIdeal.Run
public import proofs.«01_k».proof.Proof.Gen.SguFwdReferenceIdeal.Read
public import proofs.«01_k».proof.Proof.Gen.DwOutIdeal.Value
public import proofs.«01_k».proof.Proof.Gen.DwInIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.DwOutReferenceIdeal
public import proofs.«01_k».proof.Proof.Gen.DwOutReferenceIdeal.Run
public import proofs.«01_k».proof.Proof.Gen.DwOutReferenceIdeal.Read
public import proofs.«01_k».proof.Proof.Gen.DwInReferenceIdeal
public import proofs.«01_k».proof.Proof.Gen.DwInReferenceIdeal.Run
public import proofs.«01_k».proof.Proof.Gen.DwInReferenceIdeal.Read
public import proofs.«01_k».proof.Proof.DwOutValue
public import proofs.«01_k».proof.Proof.DwInValue
public import proofs.«01_k».proof.Proof.FfnClaim
public import proofs.«01_k».proof.Proof.DwSquareValue
public import proofs.«01_k».proof.Proof.DwMergeValue
public import proofs.«01_k».proof.Proof.DwGlaValue
public import proofs.«01_k».proof.Proof.DwGateValue
public import proofs.«01_k».proof.Proof.InFwdValue
public import proofs.«01_k».proof.Proof.InBwdValue
public import proofs.«01_k».proof.Proof.SguFwdValue
public import Idealize.ShloMosaic.Adequacy
public import Idealize.ShloMosaic.Init

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2.2.2.2.2.2.2.2,
      sem_eq_zero_of_no_sems (by decide) r.2⟩) (Cert.ReferenceIdeal.Value.run (F := Ideal) m ρ)

theorem frame_dwOut_reference : Cert.quiescent_DwOutReferenceIdeal := fun m ρ _ =>
  (θ_run Cert.DwOutReferenceIdeal.defs _ _).mono (fun r h => ⟨fun c => (h c).2, sem_eq_zero_of_no_sems (by decide) r.2⟩)
    (Cert.DwOutReferenceIdeal.Value.run (F := Ideal) m ρ)

theorem frame_dwIn_reference : Cert.quiescent_DwInReferenceIdeal := fun m ρ _ =>
  (θ_run Cert.DwInReferenceIdeal.defs _ _).mono (fun r h => ⟨fun c => (h c).2, sem_eq_zero_of_no_sems (by decide) r.2⟩)
    (Cert.DwInReferenceIdeal.Value.run (F := Ideal) m ρ)

theorem algebraic_dwOut : Cert.algebraic_DwOutIdeal_DwOutReferenceIdeal := fun m g m' g' _ hagree =>
  ⟨_, (θ_run Cert.DwOutIdeal.defs _ _).mono
      (fun _ h c => ⟨(h c).1.trans (Cert.DwOutIdeal.Val.array m c), (h c).2⟩) (Cert.DwOutIdeal.Value.run_blocks (F := Ideal) m g),
    (θ_run Cert.DwOutReferenceIdeal.defs _ _).mono (fun r h c => by
      rw [(h c).1, (h c).2.1, (h c).2.2, (hagree c).1, (hagree c).2]
      exact ⟨rfl, rfl, rfl⟩)
      (Cert.DwOutReferenceIdeal.Value.run (F := Ideal) m' g')⟩

theorem algebraic_dwIn : Cert.algebraic_DwInIdeal_DwInReferenceIdeal := fun m g m' g' _ hagree =>
  ⟨_, (θ_run Cert.DwInIdeal.defs _ _).mono
      (fun _ h c => ⟨(h c).1.trans (Cert.DwInIdeal.Val.array m c), (h c).2⟩) (Cert.DwInIdeal.Value.run_blocks (F := Ideal) m g),
    (θ_run Cert.DwInReferenceIdeal.defs _ _).mono (fun r h c => by
      rw [(h c).1, (h c).2.1, (h c).2.2, (hagree c).1, (hagree c).2]
      exact ⟨rfl, rfl, rfl⟩)
      (Cert.DwInReferenceIdeal.Value.run (F := Ideal) m' g')⟩

theorem frame_dwSquare_reference : Cert.quiescent_DwSquareReferenceIdeal := fun m ρ _ =>
  (θ_run Cert.DwSquareReferenceIdeal.defs _ _).mono (fun r h => ⟨fun c => (h c).2, sem_eq_zero_of_no_sems (by decide) r.2⟩)
    (Cert.DwSquareReferenceIdeal.Value.run (F := Ideal) m ρ)

theorem algebraic_dwSquare : Cert.algebraic_DwSquareIdeal_DwSquareReferenceIdeal := fun m g m' g' _ hagree =>
  ⟨_, (θ_run Cert.DwSquareIdeal.defs _ _).mono
      (fun _ h c => ⟨(h c).1.trans (Cert.DwSquareIdeal.Val.array m c), (h c).2⟩) (Cert.DwSquareIdeal.Value.run_blocks (F := Ideal) m g),
    (θ_run Cert.DwSquareReferenceIdeal.defs _ _).mono (fun r h c => by
      rw [(h c).1, (h c).2.1, (h c).2.2, (hagree c).1, (hagree c).2]
      exact ⟨rfl, rfl, rfl⟩)
      (Cert.DwSquareReferenceIdeal.Value.run (F := Ideal) m' g')⟩

theorem frame_dwMerge_reference : Cert.quiescent_DwMergeReferenceIdeal := fun m ρ _ =>
  (θ_run Cert.DwMergeReferenceIdeal.defs _ _).mono (fun r h => ⟨fun c => (h c).2, sem_eq_zero_of_no_sems (by decide) r.2⟩)
    (Cert.DwMergeReferenceIdeal.Value.run (F := Ideal) m ρ)

theorem algebraic_dwMerge : Cert.algebraic_DwMergeIdeal_DwMergeReferenceIdeal := fun m g m' g' _ hagree =>
  ⟨_, (θ_run Cert.DwMergeIdeal.defs _ _).mono
      (fun _ h c => ⟨(h c).1.trans (Cert.DwMergeIdeal.Val.array m c), (h c).2⟩) (Cert.DwMergeIdeal.Value.run_blocks (F := Ideal) m g),
    (θ_run Cert.DwMergeReferenceIdeal.defs _ _).mono (fun r h c => by
      rw [(h c).1, (h c).2.1, (h c).2.2, (hagree c).1, (hagree c).2]
      exact ⟨rfl, rfl, rfl⟩)
      (Cert.DwMergeReferenceIdeal.Value.run (F := Ideal) m' g')⟩

theorem frame_dwGla_reference : Cert.quiescent_DwGlaReferenceIdeal := fun m ρ _ =>
  (θ_run Cert.DwGlaReferenceIdeal.defs _ _).mono (fun r h => ⟨fun c => (h c).2, sem_eq_zero_of_no_sems (by decide) r.2⟩)
    (Cert.DwGlaReferenceIdeal.Value.run (F := Ideal) m ρ)

theorem algebraic_dwGla : Cert.algebraic_DwGlaIdeal_DwGlaReferenceIdeal := fun m g m' g' _ hagree =>
  ⟨_, (θ_run Cert.DwGlaIdeal.defs _ _).mono
      (fun _ h c => ⟨(h c).1.trans (Cert.DwGlaIdeal.Val.array m c), (h c).2⟩) (Cert.DwGlaIdeal.Value.run_blocks (F := Ideal) m g),
    (θ_run Cert.DwGlaReferenceIdeal.defs _ _).mono (fun r h c => by
      rw [(h c).1, (h c).2.1, (h c).2.2, (hagree c).1, (hagree c).2]
      exact ⟨rfl, rfl, rfl⟩)
      (Cert.DwGlaReferenceIdeal.Value.run (F := Ideal) m' g')⟩

theorem frame_dwGate_reference : Cert.quiescent_DwGateReferenceIdeal := fun m ρ _ =>
  (θ_run Cert.DwGateReferenceIdeal.defs _ _).mono (fun r h => ⟨fun c => (h c).2, sem_eq_zero_of_no_sems (by decide) r.2⟩)
    (Cert.DwGateReferenceIdeal.Value.run (F := Ideal) m ρ)

theorem algebraic_dwGate : Cert.algebraic_DwGateIdeal_DwGateReferenceIdeal := fun m g m' g' _ hagree =>
  ⟨_, (θ_run Cert.DwGateIdeal.defs _ _).mono
      (fun _ h c => ⟨(h c).1.trans (Cert.DwGateIdeal.Val.array m c), (h c).2⟩) (Cert.DwGateIdeal.Value.run_blocks (F := Ideal) m g),
    (θ_run Cert.DwGateReferenceIdeal.defs _ _).mono (fun r h c => by
      rw [(h c).1, (h c).2.1, (h c).2.2, (hagree c).1, (hagree c).2]
      exact ⟨rfl, rfl, rfl⟩)
      (Cert.DwGateReferenceIdeal.Value.run (F := Ideal) m' g')⟩

theorem frame_inFwd_reference : Cert.quiescent_InFwdReferenceIdeal := fun m ρ _ =>
  (θ_run Cert.InFwdReferenceIdeal.defs _ _).mono (fun r h => ⟨fun c => (h c).2.2.2, sem_eq_zero_of_no_sems (by decide) r.2⟩)
    (Cert.InFwdReferenceIdeal.Value.run (F := Ideal) m ρ)

theorem algebraic_inFwd : Cert.algebraic_InFwdIdeal_InFwdReferenceIdeal := fun m g m' g' _ hagree =>
  ⟨_, _, _, (θ_run Cert.InFwdIdeal.defs _ _).mono
      (fun _ h c => ⟨(h c).1.trans (Cert.InFwdIdeal.Val.array_a m c), (h c).2.1.trans (Cert.InFwdIdeal.Val.array_p m c),
        (h c).2.2.1.trans (Cert.InFwdIdeal.Val.array_g m c), (h c).2.2.2⟩) (Cert.InFwdIdeal.Value.run_blocks (F := Ideal) m g),
    (θ_run Cert.InFwdReferenceIdeal.defs _ _).mono (fun r h c => by
      rw [(h c).1, (h c).2.1, (h c).2.2.1, (h c).2.2.2.1, (h c).2.2.2.2.1, (h c).2.2.2.2.2, (hagree c).1, (hagree c).2.1, (hagree c).2.2]
      exact ⟨rfl, rfl, rfl, rfl, rfl, rfl⟩)
      (Cert.InFwdReferenceIdeal.Value.run (F := Ideal) m' g')⟩

theorem frame_inBwd_reference : Cert.quiescent_InBwdReferenceIdeal := fun m ρ _ =>
  (θ_run Cert.InBwdReferenceIdeal.defs _ _).mono (fun r h => ⟨fun c => (h c).2.2, sem_eq_zero_of_no_sems (by decide) r.2⟩)
    (Cert.InBwdReferenceIdeal.Value.run (F := Ideal) m ρ)

theorem algebraic_inBwd : Cert.algebraic_InBwdIdeal_InBwdReferenceIdeal := fun m g m' g' _ hagree =>
  ⟨_, _, (θ_run Cert.InBwdIdeal.defs _ _).mono
      (fun _ h c => ⟨(h c).1.trans (Cert.InBwdIdeal.Val.array_dx m c), (h c).2.1.trans (Cert.InBwdIdeal.Val.array_dg m c), (h c).2.2⟩)
      (Cert.InBwdIdeal.Value.run_blocks (F := Ideal) m g),
    (θ_run Cert.InBwdReferenceIdeal.defs _ _).mono (fun r h c => by
      obtain ⟨a0, a1, a2, a3, a4, a5, a6, a7⟩ := hagree c
      refine ⟨(h c).1.trans ((Cert.InBwdReferenceIdeal.Read.val_main_v39_eq m' c).trans ?_),
        (h c).2.1.trans ((Cert.InBwdReferenceIdeal.Read.val_main_v22_eq (F := Ideal) _ _ _ _ _ _).trans ?_), (h c).2.2⟩
      · rw [a0, a1, a2, a3, a4, a5, a6, a7]
      · rw [a0, a3, a4, a5, a6, a7])
      (Cert.InBwdReferenceIdeal.Value.run (F := Ideal) m' g')⟩

theorem frame_sguFwd_reference : Cert.quiescent_SguFwdReferenceIdeal := fun m ρ _ =>
  (θ_run Cert.SguFwdReferenceIdeal.defs _ _).mono (fun r h => ⟨fun c => (h c).2.2.2.2.2.2, sem_eq_zero_of_no_sems (by decide) r.2⟩)
    (Cert.SguFwdReferenceIdeal.Value.run (F := Ideal) m ρ)

theorem algebraic_sguFwd : Cert.algebraic_SguFwdIdeal_SguFwdReferenceIdeal := fun m g m' g' _ hagree =>
  ⟨_, _, _, _, _, _, (θ_run Cert.SguFwdIdeal.defs _ _).mono
      (fun _ h c => ⟨(h c).1.trans (Cert.SguFwdIdeal.Val.array_14 m c),
        (h c).2.1.trans (Cert.SguFwdIdeal.Val.array_15 m c),
        (h c).2.2.1.trans (Cert.SguFwdIdeal.Val.array_16 m c),
        (h c).2.2.2.1.trans (Cert.SguFwdIdeal.Val.array_17 m c),
        (h c).2.2.2.2.1.trans (Cert.SguFwdIdeal.Val.array_18 m c),
        (h c).2.2.2.2.2.1.trans (Cert.SguFwdIdeal.Val.array_19 m c), (h c).2.2.2.2.2.2⟩)
      (Cert.SguFwdIdeal.Value.run_blocks (F := Ideal) m g),
    (θ_run Cert.SguFwdReferenceIdeal.defs _ _).mono (fun r h c => by
      obtain ⟨a0, a1, a2, a3, a4, a5, a6, a7, a8, a9, a10⟩ := hagree c
      refine ⟨(h c).1.trans ((Cert.SguFwdReferenceIdeal.Read.val_main_v96_eq m' c).trans ?_),
        (h c).2.1.trans ((Cert.SguFwdReferenceIdeal.Read.val_main_v97_eq (F := Ideal) _ _).trans ?_),
        (h c).2.2.1.trans ((Cert.SguFwdReferenceIdeal.Read.val_main_v98_eq m' c).trans ?_),
        (h c).2.2.2.1.trans ((Cert.SguFwdReferenceIdeal.Read.val_main_v99_eq m' c).trans ?_),
        (h c).2.2.2.2.1.trans ((Cert.SguFwdReferenceIdeal.Read.val_main_v100_eq m' c).trans ?_),
        (h c).2.2.2.2.2.1.trans ((Cert.SguFwdReferenceIdeal.Read.val_main_v113_eq m' c).trans ?_), (h c).2.2.2.2.2.2⟩
      · rw [a1, a3, a4, a5, a6]
      · rw [a2, a7]
      · rw [a1, a3, a4, a5, a6, a8]
      · rw [a1, a2, a3, a4, a5, a6, a7, a8]
      · rw [a1, a2, a3, a4, a5, a6, a7, a8, a9]
      · rw [a0, a1, a2, a3, a4, a5, a6, a7, a8, a9, a10])
      (Cert.SguFwdReferenceIdeal.Value.run (F := Ideal) m' g')⟩

theorem claim : Cert.Claim := ⟨Cert.Kernel.Gen.facts, Cert.KernelIdeal.Gen.facts, Cert.ReferenceIdeal.Gen.facts,
  Cert.DwOut.Gen.facts, Cert.DwOutIdeal.Gen.facts, Cert.DwOutReferenceIdeal.Gen.facts,
  Cert.DwIn.Gen.facts, Cert.DwInIdeal.Gen.facts, Cert.DwInReferenceIdeal.Gen.facts,
  Cert.DwSquare.Gen.facts, Cert.DwSquareIdeal.Gen.facts, Cert.DwSquareReferenceIdeal.Gen.facts,
  Cert.DwMerge.Gen.facts, Cert.DwMergeIdeal.Gen.facts, Cert.DwMergeReferenceIdeal.Gen.facts,
  Cert.DwGla.Gen.facts, Cert.DwGlaIdeal.Gen.facts, Cert.DwGlaReferenceIdeal.Gen.facts,
  Cert.DwGate.Gen.facts, Cert.DwGateIdeal.Gen.facts, Cert.DwGateReferenceIdeal.Gen.facts,
  Cert.InFwd.Gen.facts, Cert.InFwdIdeal.Gen.facts, Cert.InFwdReferenceIdeal.Gen.facts,
  Cert.InBwd.Gen.facts, Cert.InBwdIdeal.Gen.facts, Cert.InBwdReferenceIdeal.Gen.facts,
  Cert.SguFwd.Gen.facts, Cert.SguFwdIdeal.Gen.facts, Cert.SguFwdReferenceIdeal.Gen.facts,
  Cert.Pre_finite.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.DwOut.Gen.frame m ρ, fun m ρ _ => Cert.DwOutIdeal.Gen.frame m ρ, frame_dwOut_reference,
  fun m ρ _ => Cert.DwIn.Gen.frame m ρ, fun m ρ _ => Cert.DwInIdeal.Gen.frame m ρ, frame_dwIn_reference,
  fun m ρ _ => Cert.DwSquare.Gen.frame m ρ, fun m ρ _ => Cert.DwSquareIdeal.Gen.frame m ρ, frame_dwSquare_reference,
  fun m ρ _ => Cert.DwMerge.Gen.frame m ρ, fun m ρ _ => Cert.DwMergeIdeal.Gen.frame m ρ, frame_dwMerge_reference,
  fun m ρ _ => Cert.DwGla.Gen.frame m ρ, fun m ρ _ => Cert.DwGlaIdeal.Gen.frame m ρ, frame_dwGla_reference,
  fun m ρ _ => Cert.DwGate.Gen.frame m ρ, fun m ρ _ => Cert.DwGateIdeal.Gen.frame m ρ, frame_dwGate_reference,
  fun m ρ _ => Cert.InFwd.Gen.frame m ρ, fun m ρ _ => Cert.InFwdIdeal.Gen.frame m ρ, frame_inFwd_reference,
  fun m ρ _ => Cert.InBwd.Gen.frame m ρ, fun m ρ _ => Cert.InBwdIdeal.Gen.frame m ρ, frame_inBwd_reference,
  fun m ρ _ => Cert.SguFwd.Gen.frame m ρ, fun m ρ _ => Cert.SguFwdIdeal.Gen.frame m ρ, frame_sguFwd_reference,
  trivial, algebraic_ffn, trivial, algebraic_dwOut, trivial, algebraic_dwIn,
  trivial, algebraic_dwSquare, trivial, algebraic_dwMerge, trivial, algebraic_dwGla, trivial, algebraic_dwGate, trivial, algebraic_inFwd, trivial, algebraic_inBwd,
  trivial, algebraic_sguFwd⟩

end Cert.Proof

end
